-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_finite [hPre_inputs_finite : Cert.Pre_inputs_finite.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_finite [hPre_inputs_finite : Cert.Pre_inputs_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_bounds_finite [hPre_bounds_finite : Cert.Pre_bounds_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_bounds_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_bounds_finite [hPre_bounds_finite : Cert.Pre_bounds_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_bounds_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_inputs_finite [hKernelIdeal : Cert.KernelIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_inputs_finite [hReferenceIdeal : Cert.ReferenceIdeal.Facts] [hPre_inputs_finite : Cert.Pre_inputs_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_bounds_finite [hKernel3Ideal : Cert.Kernel3Ideal.Facts] [hPre_bounds_finite : Cert.Pre_bounds_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_bounds_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_bounds_finite [hReference3Ideal : Cert.Reference3Ideal.Facts] [hPre_bounds_finite : Cert.Pre_bounds_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_bounds_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5)
      ∧ r.2.mem ((c.tc : Thread Cert.Kernel8.nD Cert.Kernel8.τ).loc Cert.Kernel8.main_arg6) = m ((c.tc : Thread Cert.Kernel8.nD Cert.Kernel8.τ).loc Cert.Kernel8.main_arg6)
      ∧ r.2.mem ((c.tc : Thread Cert.Kernel8.nD Cert.Kernel8.τ).loc Cert.Kernel8.main_arg7) = m ((c.tc : Thread Cert.Kernel8.nD Cert.Kernel8.τ).loc Cert.Kernel8.main_arg7)
      ∧ r.2.mem ((c.tc : Thread Cert.Kernel8.nD Cert.Kernel8.τ).loc Cert.Kernel8.main_arg8) = m ((c.tc : Thread Cert.Kernel8.nD Cert.Kernel8.τ).loc Cert.Kernel8.main_arg8))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
      ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
      ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
      ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5)
      ∧ r.2.mem ((c.tc : Thread Cert.Reference8Ideal.nD Cert.Reference8Ideal.τ).loc Cert.Reference8Ideal.main_arg6) = m ((c.tc : Thread Cert.Reference8Ideal.nD Cert.Reference8Ideal.τ).loc Cert.Reference8Ideal.main_arg6)
      ∧ r.2.mem ((c.tc : Thread Cert.Reference8Ideal.nD Cert.Reference8Ideal.τ).loc Cert.Reference8Ideal.main_arg7) = m ((c.tc : Thread Cert.Reference8Ideal.nD Cert.Reference8Ideal.τ).loc Cert.Reference8Ideal.main_arg7)
      ∧ r.2.mem ((c.tc : Thread Cert.Reference8Ideal.nD Cert.Reference8Ideal.τ).loc Cert.Reference8Ideal.main_arg8) = m ((c.tc : Thread Cert.Reference8Ideal.nD Cert.Reference8Ideal.τ).loc Cert.Reference8Ideal.main_arg8))
      ∧ r.2.sem = fun _ => 0)

def preserves_Kernel_KernelIdeal : Prop :=
  True

def algebraic_KernelIdeal_ReferenceIdeal_pre_inputs_finite [hKernelIdeal : Cert.KernelIdeal.Facts] [hReferenceIdeal : Cert.ReferenceIdeal.Facts] [hPre_inputs_finite : Cert.Pre_inputs_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v59_6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v1_2)) (v3 : (c : Dev Cert.Kernel2Ideal.nD) → Buf (Elt Ideal) ((c.tc : Thread Cert.Kernel2Ideal.nD Cert.Kernel2Ideal.τ).loc Cert.Kernel2Ideal.main_v1_3)) (v4 : (c : Dev Cert.Kernel2Ideal.nD) → Buf (Elt Ideal) ((c.tc : Thread Cert.Kernel2Ideal.nD Cert.Kernel2Ideal.τ).loc Cert.Kernel2Ideal.main_v1_4)) (v5 : (c : Dev Cert.Kernel2Ideal.nD) → Buf (Elt Ideal) ((c.tc : Thread Cert.Kernel2Ideal.nD Cert.Kernel2Ideal.τ).loc Cert.Kernel2Ideal.main_v1_5)) (v6 : (c : Dev Cert.Kernel2Ideal.nD) → Buf (Elt Ideal) ((c.tc : Thread Cert.Kernel2Ideal.nD Cert.Kernel2Ideal.τ).loc Cert.Kernel2Ideal.main_v1_6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v1_2) = v2 c
          ∧ r.2.mem ((c.tc : Thread Cert.Kernel2Ideal.nD Cert.Kernel2Ideal.τ).loc Cert.Kernel2Ideal.main_v1_3) = v3 c
          ∧ r.2.mem ((c.tc : Thread Cert.Kernel2Ideal.nD Cert.Kernel2Ideal.τ).loc Cert.Kernel2Ideal.main_v1_4) = v4 c
          ∧ r.2.mem ((c.tc : Thread Cert.Kernel2Ideal.nD Cert.Kernel2Ideal.τ).loc Cert.Kernel2Ideal.main_v1_5) = v5 c
          ∧ r.2.mem ((c.tc : Thread Cert.Kernel2Ideal.nD Cert.Kernel2Ideal.τ).loc Cert.Kernel2Ideal.main_v1_6) = v6 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v1) = v0 c
          ∧ r.2.mem ((c.tc : Thread Cert.Reference2Ideal.nD Cert.Reference2Ideal.τ).loc Cert.Reference2Ideal.main_v2) = v1 c
          ∧ r.2.mem ((c.tc : Thread Cert.Reference2Ideal.nD Cert.Reference2Ideal.τ).loc Cert.Reference2Ideal.main_v3) = v2 c
          ∧ r.2.mem ((c.tc : Thread Cert.Reference2Ideal.nD Cert.Reference2Ideal.τ).loc Cert.Reference2Ideal.main_v4) = v3 c
          ∧ r.2.mem ((c.tc : Thread Cert.Reference2Ideal.nD Cert.Reference2Ideal.τ).loc Cert.Reference2Ideal.main_v5) = v4 c
          ∧ r.2.mem ((c.tc : Thread Cert.Reference2Ideal.nD Cert.Reference2Ideal.τ).loc Cert.Reference2Ideal.main_v6) = v5 c
          ∧ r.2.mem ((c.tc : Thread Cert.Reference2Ideal.nD Cert.Reference2Ideal.τ).loc Cert.Reference2Ideal.main_v7) = v6 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal_pre_bounds_finite [hKernel3Ideal : Cert.Kernel3Ideal.Facts] [hReference3Ideal : Cert.Reference3Ideal.Facts] [hPre_bounds_finite : Cert.Pre_bounds_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_bounds_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1_0)) (v1 : (c : Dev Cert.Kernel3Ideal.nD) → Buf (Elt Ideal) ((c.tc : Thread Cert.Kernel3Ideal.nD Cert.Kernel3Ideal.τ).loc Cert.Kernel3Ideal.main_v1_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1_0) = v0 c
          ∧ r.2.mem ((c.tc : Thread Cert.Kernel3Ideal.nD Cert.Kernel3Ideal.τ).loc Cert.Kernel3Ideal.main_v1_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v80) = v0 c
          ∧ r.2.mem ((c.tc : Thread Cert.Reference3Ideal.nD Cert.Reference3Ideal.τ).loc Cert.Reference3Ideal.main_v51_5) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v39) = v0 c
          ∧ r.2.mem ((c.tc : Thread Cert.Reference4Ideal.nD Cert.Reference4Ideal.τ).loc Cert.Reference4Ideal.main_v36) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v38) = v0 c
          ∧ r.2.mem ((c.tc : Thread Cert.Reference5Ideal.nD Cert.Reference5Ideal.τ).loc Cert.Reference5Ideal.main_v40) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_v9) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)
      ∧ m' ((c.tc : Thread Cert.Reference8Ideal.nD Cert.Reference8Ideal.τ).loc Cert.Reference8Ideal.main_arg6) = m ((c.tc : Thread Cert.Kernel8Ideal.nD Cert.Kernel8Ideal.τ).loc Cert.Kernel8Ideal.main_arg6)
      ∧ m' ((c.tc : Thread Cert.Reference8Ideal.nD Cert.Reference8Ideal.τ).loc Cert.Reference8Ideal.main_arg7) = m ((c.tc : Thread Cert.Kernel8Ideal.nD Cert.Kernel8Ideal.τ).loc Cert.Kernel8Ideal.main_arg7)
      ∧ m' ((c.tc : Thread Cert.Reference8Ideal.nD Cert.Reference8Ideal.τ).loc Cert.Reference8Ideal.main_arg8) = m ((c.tc : Thread Cert.Kernel8Ideal.nD Cert.Kernel8Ideal.τ).loc Cert.Kernel8Ideal.main_arg8)) →
    ∃ (v0 : (c : Dev Cert.Kernel8Ideal.nD) → Buf (Elt Ideal) ((c.tc : Thread Cert.Kernel8Ideal.nD Cert.Kernel8Ideal.τ).loc Cert.Kernel8Ideal.main_v4_0)) (v1 : (c : Dev Cert.Kernel8Ideal.nD) → Buf (Elt Ideal) ((c.tc : Thread Cert.Kernel8Ideal.nD Cert.Kernel8Ideal.τ).loc Cert.Kernel8Ideal.main_v4_1)) (v2 : (c : Dev Cert.Kernel8Ideal.nD) → Buf (Elt Ideal) ((c.tc : Thread Cert.Kernel8Ideal.nD Cert.Kernel8Ideal.τ).loc Cert.Kernel8Ideal.main_v4_2)) (v3 : (c : Dev Cert.Kernel8Ideal.nD) → Buf (Elt Ideal) ((c.tc : Thread Cert.Kernel8Ideal.nD Cert.Kernel8Ideal.τ).loc Cert.Kernel8Ideal.main_v4_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4_0) = v0 c
          ∧ r.2.mem ((c.tc : Thread Cert.Kernel8Ideal.nD Cert.Kernel8Ideal.τ).loc Cert.Kernel8Ideal.main_v4_1) = v1 c
          ∧ r.2.mem ((c.tc : Thread Cert.Kernel8Ideal.nD Cert.Kernel8Ideal.τ).loc Cert.Kernel8Ideal.main_v4_2) = v2 c
          ∧ r.2.mem ((c.tc : Thread Cert.Kernel8Ideal.nD Cert.Kernel8Ideal.τ).loc Cert.Kernel8Ideal.main_v4_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5)
          ∧ r.2.mem ((c.tc : Thread Cert.Kernel8Ideal.nD Cert.Kernel8Ideal.τ).loc Cert.Kernel8Ideal.main_arg6) = m ((c.tc : Thread Cert.Kernel8Ideal.nD Cert.Kernel8Ideal.τ).loc Cert.Kernel8Ideal.main_arg6)
          ∧ r.2.mem ((c.tc : Thread Cert.Kernel8Ideal.nD Cert.Kernel8Ideal.τ).loc Cert.Kernel8Ideal.main_arg7) = m ((c.tc : Thread Cert.Kernel8Ideal.nD Cert.Kernel8Ideal.τ).loc Cert.Kernel8Ideal.main_arg7)
          ∧ r.2.mem ((c.tc : Thread Cert.Kernel8Ideal.nD Cert.Kernel8Ideal.τ).loc Cert.Kernel8Ideal.main_arg8) = m ((c.tc : Thread Cert.Kernel8Ideal.nD Cert.Kernel8Ideal.τ).loc Cert.Kernel8Ideal.main_arg8))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v111) = v0 c
          ∧ r.2.mem ((c.tc : Thread Cert.Reference8Ideal.nD Cert.Reference8Ideal.τ).loc Cert.Reference8Ideal.main_v113) = v1 c
          ∧ r.2.mem ((c.tc : Thread Cert.Reference8Ideal.nD Cert.Reference8Ideal.τ).loc Cert.Reference8Ideal.main_v115) = v2 c
          ∧ r.2.mem ((c.tc : Thread Cert.Reference8Ideal.nD Cert.Reference8Ideal.τ).loc Cert.Reference8Ideal.main_v117) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5)
          ∧ r.2.mem ((c.tc : Thread Cert.Reference8Ideal.nD Cert.Reference8Ideal.τ).loc Cert.Reference8Ideal.main_arg6) = m' ((c.tc : Thread Cert.Reference8Ideal.nD Cert.Reference8Ideal.τ).loc Cert.Reference8Ideal.main_arg6)
          ∧ r.2.mem ((c.tc : Thread Cert.Reference8Ideal.nD Cert.Reference8Ideal.τ).loc Cert.Reference8Ideal.main_arg7) = m' ((c.tc : Thread Cert.Reference8Ideal.nD Cert.Reference8Ideal.τ).loc Cert.Reference8Ideal.main_arg7)
          ∧ r.2.mem ((c.tc : Thread Cert.Reference8Ideal.nD Cert.Reference8Ideal.τ).loc Cert.Reference8Ideal.main_arg8) = m' ((c.tc : Thread Cert.Reference8Ideal.nD Cert.Reference8Ideal.τ).loc Cert.Reference8Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_inputs_finite : Cert.Pre_inputs_finite.Facts) (hPre_bounds_finite : Cert.Pre_bounds_finite.Facts),
    quiescent_Kernel (hKernel := hKernel)
    ∧ quiescent_KernelIdeal (hKernelIdeal := hKernelIdeal)
    ∧ quiescent_KernelIdeal_pre_inputs_finite (hKernelIdeal := hKernelIdeal) (hPre_inputs_finite := hPre_inputs_finite)
    ∧ quiescent_ReferenceIdeal (hReferenceIdeal := hReferenceIdeal)
    ∧ quiescent_ReferenceIdeal_pre_inputs_finite (hReferenceIdeal := hReferenceIdeal) (hPre_inputs_finite := hPre_inputs_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_bounds_finite (hKernel3Ideal := hKernel3Ideal) (hPre_bounds_finite := hPre_bounds_finite)
    ∧ quiescent_Reference3Ideal (hReference3Ideal := hReference3Ideal)
    ∧ quiescent_Reference3Ideal_pre_bounds_finite (hReference3Ideal := hReference3Ideal) (hPre_bounds_finite := hPre_bounds_finite)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_inputs_finite (hKernelIdeal := hKernelIdeal) (hReferenceIdeal := hReferenceIdeal) (hPre_inputs_finite := hPre_inputs_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_bounds_finite (hKernel3Ideal := hKernel3Ideal) (hReference3Ideal := hReference3Ideal) (hPre_bounds_finite := hPre_bounds_finite)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
-- ==== Pre_bounds_finite.lean ====
abbrev S8320x22528 : Shape := ⟨2, ![8320, 22528]⟩
abbrev S2x2048 : Shape := ⟨2, ![2, 2048]⟩
abbrev S16x128 : Shape := ⟨2, ![16, 128]⟩
abbrev S128x16x128x128 : Shape := ⟨4, ![128, 16, 128, 128]⟩
abbrev S_ : Shape := ⟨0, ![]⟩

class Facts : Prop where
  bcast_S_S2x2048 : S_.BroadcastsInDim S2x2048 (![] : Fin 0 → Fin S2x2048.rank)
  reducesTo_S2x2048_S_d0_1 : S2x2048.ReducesTo [0, 1] S_
  h_S_ : 0 < S_.numel

variable [Facts]

def fn {F : FTy → Type} [FloatOps F] (main_arg0 : FVec F S8320x22528 .f32) (main_arg1 : FVec F S2x2048 .f32) (main_arg2 : FVec F S16x128 .f32) (main_arg3 : FVec F S128x16x128x128 .f32) : IVec S_ 1 :=
  let main_v0 : FVec F S2x2048 .f32 := Host.absf main_arg1
  let main_cst : FVec F S_ .f32 := constant S_ .f32 0x7F800000#32
  let main_v1 : FVec F S2x2048 .f32 := broadcastInDim S2x2048 ![] bcast_S_S2x2048 main_cst
  let main_v2 : IVec S2x2048 1 := cmpf .olt main_v0 main_v1
  let main_c : IVec S_ 1 := constantI S_ 1 1#1
  let main_v3 : IVec S_ 1 := (fun x v => Host.reduce IntOp.andi x v reducesTo_S2x2048_S_d0_1 h_S_) main_v2 main_c
  main_v3
-- ==== Pre_inputs_finite.lean ====
abbrev S8320x22528 : Shape := ⟨2, ![8320, 22528]⟩
abbrev S2x2048 : Shape := ⟨2, ![2, 2048]⟩
abbrev S16x128 : Shape := ⟨2, ![16, 128]⟩
abbrev S_ : Shape := ⟨0, ![]⟩

class Facts : Prop where
  bcast_S_S8320x22528 : S_.BroadcastsInDim S8320x22528 (![] : Fin 0 → Fin S8320x22528.rank)
  reducesTo_S8320x22528_S_d0_1 : S8320x22528.ReducesTo [0, 1] S_
  h_S_ : 0 < S_.numel
  bcast_S_S2x2048 : S_.BroadcastsInDim S2x2048 (![] : Fin 0 → Fin S2x2048.rank)
  reducesTo_S2x2048_S_d0_1 : S2x2048.ReducesTo [0, 1] S_

variable [Facts]

def fn {F : FTy → Type} [FloatOps F] (main_arg0 : FVec F S8320x22528 .f32) (main_arg1 : FVec F S2x2048 .f32) (main_arg2 : FVec F S16x128 .f32) : IVec S_ 1 :=
  let main_v0 : FVec F S8320x22528 .f32 := Host.absf main_arg0
  let main_cst : FVec F S_ .f32 := constant S_ .f32 0x7F800000#32
  let main_v1 : FVec F S8320x22528 .f32 := broadcastInDim S8320x22528 ![] bcast_S_S8320x22528 main_cst
  let main_v2 : IVec S8320x22528 1 := cmpf .olt main_v0 main_v1
  let main_c : IVec S_ 1 := constantI S_ 1 1#1
  let main_v3 : IVec S_ 1 := (fun x v => Host.reduce IntOp.andi x v reducesTo_S8320x22528_S_d0_1 h_S_) main_v2 main_c
  let main_v4 : FVec F S2x2048 .f32 := Host.absf main_arg1
  let main_cst_0 : FVec F S_ .f32 := constant S_ .f32 0x7F800000#32
  let main_v5 : FVec F S2x2048 .f32 := broadcastInDim S2x2048 ![] bcast_S_S2x2048 main_cst_0
  let main_v6 : IVec S2x2048 1 := cmpf .olt main_v4 main_v5
  let main_c_1 : IVec S_ 1 := constantI S_ 1 1#1
  let main_v7 : IVec S_ 1 := (fun x v => Host.reduce IntOp.andi x v reducesTo_S2x2048_S_d0_1 h_S_) main_v6 main_c_1
  let main_v8 : IVec S_ 1 := andi main_v3 main_v7
  main_v8
-- ==== Kernel.lean ====
abbrev S8320x22528 : Shape := ⟨2, ![8320, 22528]⟩
abbrev S2x2048 : Shape := ⟨2, ![2, 2048]⟩
abbrev S16x128 : Shape := ⟨2, ![16, 128]⟩
abbrev S128x384 : Shape := ⟨2, ![128, 384]⟩
abbrev S1x2048 : Shape := ⟨2, ![1, 2048]⟩
abbrev S8192x2048 : Shape := ⟨2, ![8192, 2048]⟩
abbrev S4x16x128x128 : Shape := ⟨4, ![4, 16, 128, 128]⟩
abbrev S128x2048 : Shape := ⟨2, ![128, 2048]⟩
abbrev S1x16x128x128 : Shape := ⟨4, ![1, 16, 128, 128]⟩
abbrev S16x128x128 : Shape := ⟨3, ![16, 128, 128]⟩
abbrev S128x128 : Shape := ⟨2, ![128, 128]⟩
abbrev S2048 : Shape := ⟨1, ![2048]⟩
abbrev S384x2048 : Shape := ⟨2, ![384, 2048]⟩
abbrev S1x128x2048 : Shape := ⟨3, ![1, 128, 2048]⟩
abbrev S1x1x2048 : Shape := ⟨3, ![1, 1, 2048]⟩
abbrev S2x64x2048 : Shape := ⟨3, ![2, 64, 2048]⟩
abbrev S2x1x2048 : Shape := ⟨3, ![2, 1, 2048]⟩
abbrev S4x32x2048 : Shape := ⟨3, ![4, 32, 2048]⟩
abbrev S4x1x2048 : Shape := ⟨3, ![4, 1, 2048]⟩
abbrev S8x16x2048 : Shape := ⟨3, ![8, 16, 2048]⟩
abbrev S8x1x2048 : Shape := ⟨3, ![8, 1, 2048]⟩
abbrev S16x8x2048 : Shape := ⟨3, ![16, 8, 2048]⟩
abbrev S16x1x2048 : Shape := ⟨3, ![16, 1, 2048]⟩
abbrev S1x128x128 : Shape := ⟨3, ![1, 128, 128]⟩
abbrev S1x128 : Shape := ⟨2, ![1, 128]⟩
abbrev S128 : Shape := ⟨1, ![128]⟩
abbrev S128x1 : Shape := ⟨2, ![128, 1]⟩
abbrev S1x1x128x128 : Shape := ⟨4, ![1, 1, 128, 128]⟩

abbrev nBuf : Space → Nat
  | .hbm => 7
  | .vmem => 16
  | .smem => 0
  | _ => 0

abbrev bufTy : (tb : Table) → Fin (tcTables nBuf tb) → BufTy
  | .hbm, ⟨0, _⟩ => ⟨S8320x22528, .f32⟩
  | .hbm, ⟨1, _⟩ => ⟨S2x2048, .f32⟩
  | .hbm, ⟨2, _⟩ => ⟨S16x128, .f32⟩
  | .hbm, ⟨3, _⟩ => ⟨S128x384, .bf16⟩
  | .hbm, ⟨4, _⟩ => ⟨S1x2048, .f32⟩
  | .hbm, ⟨5, _⟩ => ⟨S8192x2048, .bf16⟩
  | .hbm, ⟨6, _⟩ => ⟨S4x16x128x128, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S2x2048, .f32⟩
  | .local _ .vmem, ⟨9, _⟩ => ⟨S1x2048, .f32⟩
  | .local _ .vmem, ⟨10, _⟩ => ⟨S128x384, .bf16⟩
  | .local _ .vmem, ⟨11, _⟩ => ⟨S128x2048, .bf16⟩
  | .local _ .vmem, ⟨12, _⟩ => ⟨S128x2048, .bf16⟩
  | .local _ .vmem, ⟨13, _⟩ => ⟨S1x16x128x128, .f32⟩
  | .local _ .vmem, ⟨14, _⟩ => ⟨S1x16x128x128, .f32⟩
  | .local _ .vmem, ⟨15, _⟩ => ⟨S16x128x128, .f32⟩
  | _, _ => ⟨S8320x22528, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨3, ![4, 1, 16], ![false, false, false]⟩

def k0_cond2 (i : grid0.Coords) : BitVec 1 :=
  let arg2 : BitVec 32 := BitVec.ofNat 32 (i 2).val
  let c15_i32 : BitVec 32 := 15#32
  let v1344 : BitVec 1 := Scalar.cmpi .eq arg2 c15_i32
  let v1345 : BitVec 32 := Scalar.extui v1344
  let c0_i32_446 : BitVec 32 := 0#32
  let v1346 : BitVec 1 := Scalar.cmpi .ne v1345 c0_i32_446
  v1346

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c1_i32 : BitVec 32 := 1#32
  let v2 : BitVec 32 := Scalar.addi c1_i32 arg1
  let c0_i32 : BitVec 32 := 0#32
  ![v1.toNat, v2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c3_i32 : BitVec 32 := 3#32
  let v2 : BitVec 32 := Scalar.addi c3_i32 arg1
  let c0_i32 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

def cc0_transform_8 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, true, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true, false]

abbrev stage0_6 : Fin 1 → Memref sig .tc .vmem S128x384 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S128x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x16x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== ReferenceIdeal.lean ====
abbrev S8320x22528 : Shape := ⟨2, ![8320, 22528]⟩
abbrev S2x2048 : Shape := ⟨2, ![2, 2048]⟩
abbrev S16x128 : Shape := ⟨2, ![16, 128]⟩
abbrev S_ : Shape := ⟨0, ![]⟩
abbrev S2048 : Shape := ⟨1, ![2048]⟩
abbrev S1x2048 : Shape := ⟨2, ![1, 2048]⟩
abbrev S8192x22528 : Shape := ⟨2, ![8192, 22528]⟩
abbrev S4x2048x22528 : Shape := ⟨3, ![4, 2048, 22528]⟩
abbrev S4x2048x2048 : Shape := ⟨3, ![4, 2048, 2048]⟩
abbrev S4x2048x4096 : Shape := ⟨3, ![4, 2048, 4096]⟩
abbrev S4x2048x16x128 : Shape := ⟨4, ![4, 2048, 16, 128]⟩
abbrev S1x1x16x128 : Shape := ⟨4, ![1, 1, 16, 128]⟩
abbrev S4x16x128x128 : Shape := ⟨4, ![4, 16, 128, 128]⟩
abbrev S64x64 : Shape := ⟨2, ![64, 64]⟩
abbrev S1x64x64x1x1 : Shape := ⟨5, ![1, 64, 64, 1, 1]⟩
abbrev S4x32x64x16x128 : Shape := ⟨5, ![4, 32, 64, 16, 128]⟩
abbrev S32x4x64x16x128 : Shape := ⟨5, ![32, 4, 64, 16, 128]⟩
abbrev S1x4x64x16x128 : Shape := ⟨5, ![1, 4, 64, 16, 128]⟩
abbrev S4x64x16x128 : Shape := ⟨4, ![4, 64, 16, 128]⟩
abbrev S4x64x1x16x128 : Shape := ⟨5, ![4, 64, 1, 16, 128]⟩
abbrev S4x1x64x16x128 : Shape := ⟨5, ![4, 1, 64, 16, 128]⟩
abbrev S4x64x64x16x128 : Shape := ⟨5, ![4, 64, 64, 16, 128]⟩
abbrev S4x16x64x64 : Shape := ⟨4, ![4, 16, 64, 64]⟩
abbrev S4x16x128x64 : Shape := ⟨4, ![4, 16, 128, 64]⟩
abbrev S4x1x16x128 : Shape := ⟨4, ![4, 1, 16, 128]⟩
abbrev S4x16x128 : Shape := ⟨3, ![4, 16, 128]⟩
abbrev S4x16x128x1 : Shape := ⟨4, ![4, 16, 128, 1]⟩
abbrev S4x2048x16 : Shape := ⟨3, ![4, 2048, 16]⟩
abbrev S4x2048x16x1 : Shape := ⟨4, ![4, 2048, 16, 1]⟩
abbrev S8192x2048 : Shape := ⟨2, ![8192, 2048]⟩

abbrev nBuf : Space → Nat
  | .hbm => 205
  | .vmem => 0
  | .smem => 0
  | _ => 0

abbrev hbmTy0_0 (i : Nat) : BufTy := match i % 128 with
  | 0 => ⟨S8320x22528, .f32⟩
  | 1 => ⟨S2x2048, .f32⟩
  | 2 => ⟨S16x128, .f32⟩
  | 3 => ⟨S_, .f32⟩
  | 4 => ⟨S2048, .f32⟩
  | 5 => ⟨S_, .f32⟩
  | 6 => ⟨S2048, .f32⟩
  | 7 => ⟨S2048, .f32⟩
  | 8 => ⟨S1x2048, .f32⟩
  | 9 => ⟨S2x2048, .f32⟩
  | 10 => ⟨S2x2048, .f32⟩
  | 11 => ⟨S2x2048, .f32⟩
  | 12 => ⟨S_, .f32⟩
  | 13 => ⟨S2048, .f32⟩
  | 14 => ⟨S1x2048, .f32⟩
  | 15 => ⟨S2x2048, .f32⟩
  | 16 => ⟨S2x2048, .f32⟩
  | 17 => ⟨S_, .f32⟩
  | 18 => ⟨S_, .f32⟩
  | 19 => ⟨S2x2048, .f32⟩
  | 20 => ⟨S1x2048, .f32⟩
  | 21 => ⟨S2048, .f32⟩
  | 22 => ⟨S16x128, .f32⟩
  | 23 => ⟨S8192x22528, .f32⟩
  | 24 => ⟨S4x2048x22528, .f32⟩
  | 25 => ⟨S4x2048x2048, .f32⟩
  | 26 => ⟨S4x2048x2048, .f32⟩
  | 27 => ⟨S4x2048x2048, .f32⟩
  | 28 => ⟨S4x2048x2048, .f32⟩
  | 29 => ⟨S4x2048x2048, .f32⟩
  | 30 => ⟨S4x2048x2048, .f32⟩
  | 31 => ⟨S4x2048x2048, .f32⟩
  | 32 => ⟨S4x2048x4096, .f32⟩
  | 33 => ⟨S4x2048x4096, .f32⟩
  | 34 => ⟨S_, .f32⟩
  | 35 => ⟨S16x128, .f32⟩
  | 36 => ⟨S16x128, .f32⟩
  | 37 => ⟨S4x2048x16x128, .f32⟩
  | 38 => ⟨S4x2048x16x128, .f32⟩
  | 39 => ⟨S4x2048x16x128, .f32⟩
  | 40 => ⟨S_, .f32⟩
  | 41 => ⟨S4x2048x16x128, .f32⟩
  | 42 => ⟨S4x2048x16x128, .f32⟩
  | 43 => ⟨S_, .f32⟩
  | 44 => ⟨S4x2048x16x128, .f32⟩
  | 45 => ⟨S4x2048x16x128, .f32⟩
  | 46 => ⟨S1x1x16x128, .f32⟩
  | 47 => ⟨S4x2048x16x128, .f32⟩
  | 48 => ⟨S4x2048x16x128, .f32⟩
  | 49 => ⟨S1x1x16x128, .f32⟩
  | 50 => ⟨S4x2048x16x128, .f32⟩
  | 51 => ⟨S4x2048x16x128, .f32⟩
  | 52 => ⟨S4x2048x16x128, .f32⟩
  | 53 => ⟨S4x2048x16x128, .f32⟩
  | 54 => ⟨S_, .f32⟩
  | 55 => ⟨S4x2048x16x128, .f32⟩
  | 56 => ⟨S4x2048x16x128, .f32⟩
  | 57 => ⟨S4x2048x16x128, .f32⟩
  | 58 => ⟨S_, .f32⟩
  | 59 => ⟨S4x16x128x128, .f32⟩
  | 60 => ⟨S_, .i1⟩
  | 61 => ⟨S64x64, .i1⟩
  | 62 => ⟨S64x64, .i32⟩
  | 63 => ⟨S_, .i32⟩
  | 64 => ⟨S64x64, .i32⟩
  | 65 => ⟨S64x64, .i32⟩
  | 66 => ⟨S64x64, .i32⟩
  | 67 => ⟨S64x64, .i1⟩
  | 68 => ⟨S_, .i1⟩
  | 69 => ⟨S64x64, .i1⟩
  | 70 => ⟨S64x64, .i1⟩
  | 71 => ⟨S1x64x64x1x1, .i1⟩
  | 72 => ⟨S4x32x64x16x128, .f32⟩
  | 73 => ⟨S32x4x64x16x128, .f32⟩
  | 74 => ⟨S4x32x64x16x128, .f32⟩
  | 75 => ⟨S32x4x64x16x128, .f32⟩
  | 76 => ⟨S4x32x64x16x128, .f32⟩
  | 77 => ⟨S32x4x64x16x128, .f32⟩
  | 78 => ⟨S4x32x64x16x128, .f32⟩
  | 79 => ⟨S32x4x64x16x128, .f32⟩
  | 80 => ⟨S_, .f32⟩
  | 81 => ⟨S32x4x64x16x128, .f32⟩
  | 82 => ⟨S_, .i32⟩
  | 83 => ⟨S32x4x64x16x128, .f32⟩
  | 84 => ⟨S32x4x64x16x128, .f32⟩
  | 85 => ⟨S32x4x64x16x128, .f32⟩
  | 86 => ⟨S32x4x64x16x128, .f32⟩
  | 87 => ⟨S1x64x64x1x1, .i1⟩
  | 88 => ⟨S_, .i32⟩
  | 89 => ⟨S4x16x128x128, .f32⟩
  | 90 => ⟨S32x4x64x16x128, .f32⟩
  | 91 => ⟨S_, .i32⟩
  | 92 => ⟨S_, .i1⟩
  | 93 => ⟨S_, .i32⟩
  | 94 => ⟨S_, .i32⟩
  | 95 => ⟨S_, .i32⟩
  | 96 => ⟨S_, .i32⟩
  | 97 => ⟨S1x4x64x16x128, .f32⟩
  | 98 => ⟨S4x64x16x128, .f32⟩
  | 99 => ⟨S_, .i32⟩
  | 100 => ⟨S_, .i32⟩
  | 101 => ⟨S_, .i32⟩
  | 102 => ⟨S_, .i32⟩
  | 103 => ⟨S1x4x64x16x128, .f32⟩
  | 104 => ⟨S4x64x16x128, .f32⟩
  | 105 => ⟨S_, .i32⟩
  | 106 => ⟨S_, .i32⟩
  | 107 => ⟨S_, .i32⟩
  | 108 => ⟨S_, .i32⟩
  | 109 => ⟨S1x4x64x16x128, .f32⟩
  | 110 => ⟨S4x64x16x128, .f32⟩
  | 111 => ⟨S_, .i32⟩
  | 112 => ⟨S_, .i32⟩
  | 113 => ⟨S_, .i32⟩
  | 114 => ⟨S_, .i32⟩
  | 115 => ⟨S1x4x64x16x128, .f32⟩
  | 116 => ⟨S4x64x16x128, .f32⟩
  | 117 => ⟨S_, .f32⟩
  | 118 => ⟨S_, .f32⟩
  | 119 => ⟨S4x64x16x128, .f32⟩
  | 120 => ⟨S4x64x1x16x128, .f32⟩
  | 121 => ⟨S4x1x64x16x128, .f32⟩
  | 122 => ⟨S4x64x64x16x128, .f32⟩
  | 123 => ⟨S4x64x64x16x128, .f32⟩
  | 124 => ⟨S4x64x64x16x128, .f32⟩
  | 125 => ⟨S_, .f32⟩
  | 126 => ⟨S_, .f32⟩
  | 127 => ⟨S4x64x64x16x128, .i1⟩
  | _ => ⟨S8320x22528, .f32⟩

abbrev hbmTy0_1 (i : Nat) : BufTy := match i % 128 with
  | 0 => ⟨S4x64x64x16x128, .f32⟩
  | 1 => ⟨S4x64x64x16x128, .f32⟩
  | 2 => ⟨S4x64x64x16x128, .f32⟩
  | 3 => ⟨S4x1x64x16x128, .f32⟩
  | 4 => ⟨S4x64x64x16x128, .f32⟩
  | 5 => ⟨S4x64x64x16x128, .f32⟩
  | 6 => ⟨S4x16x64x64, .f32⟩
  | 7 => ⟨S4x16x128x64, .f32⟩
  | 8 => ⟨S4x64x16x128, .f32⟩
  | 9 => ⟨S4x64x16x128, .f32⟩
  | 10 => ⟨S4x64x16x128, .f32⟩
  | 11 => ⟨S4x16x128x64, .f32⟩
  | 12 => ⟨S4x64x16x128, .f32⟩
  | 13 => ⟨S4x64x16x128, .f32⟩
  | 14 => ⟨S4x1x16x128, .f32⟩
  | 15 => ⟨S4x16x128, .f32⟩
  | 16 => ⟨S4x16x128, .f32⟩
  | 17 => ⟨S4x16x128x1, .f32⟩
  | 18 => ⟨S4x16x128x128, .f32⟩
  | 19 => ⟨S4x16x128x128, .f32⟩
  | 20 => ⟨S4x1x16x128, .f32⟩
  | 21 => ⟨S4x64x16x128, .f32⟩
  | 22 => ⟨S4x64x16x128, .f32⟩
  | 23 => ⟨S4x64x16x128, .f32⟩
  | 24 => ⟨S4x64x16x128, .f32⟩
  | 25 => ⟨S4x16x128x128, .f32⟩
  | 26 => ⟨S4x16x128x128, .f32⟩
  | 27 => ⟨S1x4x64x16x128, .f32⟩
  | 28 => ⟨S_, .i32⟩
  | 29 => ⟨S_, .i32⟩
  | 30 => ⟨S_, .i32⟩
  | 31 => ⟨S_, .i32⟩
  | 32 => ⟨S32x4x64x16x128, .f32⟩
  | 33 => ⟨S_, .i32⟩
  | 34 => ⟨S_, .i32⟩
  | 35 => ⟨S4x32x64x16x128, .f32⟩
  | 36 => ⟨S4x2048x16x128, .f32⟩
  | 37 => ⟨S4x2048x16x128, .f32⟩
  | 38 => ⟨S_, .f32⟩
  | 39 => ⟨S4x2048x16, .f32⟩
  | 40 => ⟨S4x2048x16x1, .f32⟩
  | 41 => ⟨S_, .f32⟩
  | 42 => ⟨S4x2048x16x1, .f32⟩
  | 43 => ⟨S4x2048x16x1, .f32⟩
  | 44 => ⟨S_, .f32⟩
  | 45 => ⟨S4x2048x16x1, .f32⟩
  | 46 => ⟨S4x2048x16x1, .f32⟩
  | 47 => ⟨S4x2048x16x1, .f32⟩
  | 48 => ⟨S4x2048x16x128, .f32⟩
  | 49 => ⟨S4x2048x16x128, .f32⟩
  | 50 => ⟨S1x1x16x128, .f32⟩
  | 51 => ⟨S4x2048x16x128, .f32⟩
  | 52 => ⟨S4x2048x16x128, .f32⟩
  | 53 => ⟨S4x2048x2048, .f32⟩
  | 54 => ⟨S8192x22528, .f32⟩
  | 55 => ⟨S4x2048x22528, .f32⟩
  | 56 => ⟨S4x2048x2048, .f32⟩
  | 57 => ⟨S4x2048x2048, .f32⟩
  | 58 => ⟨S4x2048x2048, .f32⟩
  | 59 => ⟨S4x2048x2048, .f32⟩
  | 60 => ⟨S4x2048x2048, .f32⟩
  | 61 => ⟨S4x2048x2048, .f32⟩
  | 62 => ⟨S4x2048x2048, .f32⟩
  | 63 => ⟨S4x2048x4096, .f32⟩
  | 64 => ⟨S4x2048x4096, .f32⟩
  | 65 => ⟨S4x2048x2048, .f32⟩
  | 66 => ⟨S4x2048x2048, .f32⟩
  | 67 => ⟨S_, .f32⟩
  | 68 => ⟨S4x2048x2048, .f32⟩
  | 69 => ⟨S4x2048x2048, .f32⟩
  | 70 => ⟨S_, .f32⟩
  | 71 => ⟨S4x2048x2048, .f32⟩
  | 72 => ⟨S4x2048x2048, .f32⟩
  | 73 => ⟨S4x2048x2048, .f32⟩
  | 74 => ⟨S4x2048x2048, .f32⟩
  | 75 => ⟨S8192x2048, .f32⟩
  | 76 => ⟨S8192x2048, .bf16⟩
  | _ => ⟨S8320x22528, .f32⟩

abbrev hbmTy (i : Nat) : BufTy := match i / 128 with
  | 0 => hbmTy0_0 i
  | 1 => hbmTy0_1 i
  | _ => ⟨S8320x22528, .f32⟩

abbrev bufTy : (tb : Table) → Fin (tcTables nBuf tb) → BufTy
  | .hbm, ⟨i, _⟩ => hbmTy i
  | _, _ => ⟨S8320x22528, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_call0_cst : Ref sig .tc := ⟨.hbm, 17, rfl⟩
abbrev main_call0_call0_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_2 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_cst_5 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_6 : Ref sig .tc := ⟨.hbm, 58, rfl⟩
abbrev main_v46 : Ref sig .tc := ⟨.hbm, 59, rfl⟩
abbrev main_c : Ref sig .tc := ⟨.hbm, 60, rfl⟩
abbrev main_v47 : Ref sig .tc := ⟨.hbm, 61, rfl⟩
abbrev main_call1_v0 : Ref sig .tc := ⟨.hbm, 62, rfl⟩
abbrev main_call1_c : Ref sig .tc := ⟨.hbm, 63, rfl⟩
abbrev main_call1_v1 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_c_0 : Ref sig .tc := ⟨.hbm, 68, rfl⟩
abbrev main_call1_v5 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_7 : Ref sig .tc := ⟨.hbm, 80, rfl⟩
abbrev main_v58 : Ref sig .tc := ⟨.hbm, 81, rfl⟩
abbrev main_c_8 : Ref sig .tc := ⟨.hbm, 82, rfl⟩
abbrev main_v59_0 : Ref sig .tc := ⟨.hbm, 83, rfl⟩
abbrev main_v59_1 : Ref sig .tc := ⟨.hbm, 84, rfl⟩
abbrev main_v59_2 : Ref sig .tc := ⟨.hbm, 85, rfl⟩
abbrev main_v59_3 : Ref sig .tc := ⟨.hbm, 86, rfl⟩
abbrev main_v59_4 : Ref sig .tc := ⟨.hbm, 87, rfl⟩
abbrev main_v59_5 : Ref sig .tc := ⟨.hbm, 88, rfl⟩
abbrev main_v59_6 : Ref sig .tc := ⟨.hbm, 89, rfl⟩
abbrev main_v59_7 : Ref sig .tc := ⟨.hbm, 90, rfl⟩
abbrev main_while0c_c_19 : Ref sig .tc := ⟨.hbm, 91, rfl⟩
abbrev main_while0c_v91 : Ref sig .tc := ⟨.hbm, 92, rfl⟩
abbrev main_while0b_call2_c : Ref sig .tc := ⟨.hbm, 93, rfl⟩
abbrev main_while0b_call2_c_0 : Ref sig .tc := ⟨.hbm, 94, rfl⟩
abbrev main_while0b_call2_c_1 : Ref sig .tc := ⟨.hbm, 95, rfl⟩
abbrev main_while0b_call2_c_2 : Ref sig .tc := ⟨.hbm, 96, rfl⟩
abbrev main_while0b_call2_v0 : Ref sig .tc := ⟨.hbm, 97, rfl⟩
abbrev main_while0b_v91 : Ref sig .tc := ⟨.hbm, 98, rfl⟩
abbrev main_while0b_call3_c : Ref sig .tc := ⟨.hbm, 99, rfl⟩
abbrev main_while0b_call3_c_0 : Ref sig .tc := ⟨.hbm, 100, rfl⟩
abbrev main_while0b_call3_c_1 : Ref sig .tc := ⟨.hbm, 101, rfl⟩
abbrev main_while0b_call3_c_2 : Ref sig .tc := ⟨.hbm, 102, rfl⟩
abbrev main_while0b_call3_v0 : Ref sig .tc := ⟨.hbm, 103, rfl⟩
abbrev main_while0b_v92 : Ref sig .tc := ⟨.hbm, 104, rfl⟩
abbrev main_while0b_call4_c : Ref sig .tc := ⟨.hbm, 105, rfl⟩
abbrev main_while0b_call4_c_0 : Ref sig .tc := ⟨.hbm, 106, rfl⟩
abbrev main_while0b_call4_c_1 : Ref sig .tc := ⟨.hbm, 107, rfl⟩
abbrev main_while0b_call4_c_2 : Ref sig .tc := ⟨.hbm, 108, rfl⟩
abbrev main_while0b_call4_v0 : Ref sig .tc := ⟨.hbm, 109, rfl⟩
abbrev main_while0b_v93 : Ref sig .tc := ⟨.hbm, 110, rfl⟩
abbrev main_while0b_call5_c : Ref sig .tc := ⟨.hbm, 111, rfl⟩
abbrev main_while0b_call5_c_0 : Ref sig .tc := ⟨.hbm, 112, rfl⟩
abbrev main_while0b_call5_c_1 : Ref sig .tc := ⟨.hbm, 113, rfl⟩
abbrev main_while0b_call5_c_2 : Ref sig .tc := ⟨.hbm, 114, rfl⟩
abbrev main_while0b_call5_v0 : Ref sig .tc := ⟨.hbm, 115, rfl⟩
abbrev main_while0b_v94 : Ref sig .tc := ⟨.hbm, 116, rfl⟩
abbrev main_while0b_call6_call0_cst : Ref sig .tc := ⟨.hbm, 117, rfl⟩
abbrev main_while0b_call6_call0_v0 : Ref sig .tc := ⟨.hbm, 118, rfl⟩
abbrev main_while0b_v95 : Ref sig .tc := ⟨.hbm, 119, rfl⟩
abbrev main_while0b_v96 : Ref sig .tc := ⟨.hbm, 120, rfl⟩
abbrev main_while0b_v97 : Ref sig .tc := ⟨.hbm, 121, rfl⟩
abbrev main_while0b_v98 : Ref sig .tc := ⟨.hbm, 122, rfl⟩
abbrev main_while0b_v99 : Ref sig .tc := ⟨.hbm, 123, rfl⟩
abbrev main_while0b_v100 : Ref sig .tc := ⟨.hbm, 124, rfl⟩
abbrev main_while0b_cst_19 : Ref sig .tc := ⟨.hbm, 125, rfl⟩
abbrev main_while0b_call7_v0 : Ref sig .tc := ⟨.hbm, 126, rfl⟩
abbrev main_while0b_call7_v1 : Ref sig .tc := ⟨.hbm, 127, rfl⟩
abbrev main_while0b_call7_v2 : Ref sig .tc := ⟨.hbm, 128, rfl⟩
abbrev main_while0b_v101 : Ref sig .tc := ⟨.hbm, 129, rfl⟩
abbrev main_while0b_v102 : Ref sig .tc := ⟨.hbm, 130, rfl⟩
abbrev main_while0b_v103 : Ref sig .tc := ⟨.hbm, 131, rfl⟩
abbrev main_while0b_v104 : Ref sig .tc := ⟨.hbm, 132, rfl⟩
abbrev main_while0b_v105 : Ref sig .tc := ⟨.hbm, 133, rfl⟩
abbrev main_while0b_v106 : Ref sig .tc := ⟨.hbm, 134, rfl⟩
abbrev main_while0b_v107 : Ref sig .tc := ⟨.hbm, 135, rfl⟩
abbrev main_while0b_v108 : Ref sig .tc := ⟨.hbm, 136, rfl⟩
abbrev main_while0b_v109 : Ref sig .tc := ⟨.hbm, 137, rfl⟩
abbrev main_while0b_v110 : Ref sig .tc := ⟨.hbm, 138, rfl⟩
abbrev main_while0b_v111 : Ref sig .tc := ⟨.hbm, 139, rfl⟩
abbrev main_while0b_v112 : Ref sig .tc := ⟨.hbm, 140, rfl⟩
abbrev main_while0b_v113 : Ref sig .tc := ⟨.hbm, 141, rfl⟩
abbrev main_while0b_v114 : Ref sig .tc := ⟨.hbm, 142, rfl⟩
abbrev main_while0b_v115 : Ref sig .tc := ⟨.hbm, 143, rfl⟩
abbrev main_while0b_v116 : Ref sig .tc := ⟨.hbm, 144, rfl⟩
abbrev main_while0b_v117 : Ref sig .tc := ⟨.hbm, 145, rfl⟩
abbrev main_while0b_v118 : Ref sig .tc := ⟨.hbm, 146, rfl⟩
abbrev main_while0b_v119 : Ref sig .tc := ⟨.hbm, 147, rfl⟩
abbrev main_while0b_v120 : Ref sig .tc := ⟨.hbm, 148, rfl⟩
abbrev main_while0b_v121 : Ref sig .tc := ⟨.hbm, 149, rfl⟩
abbrev main_while0b_v122 : Ref sig .tc := ⟨.hbm, 150, rfl⟩
abbrev main_while0b_v123 : Ref sig .tc := ⟨.hbm, 151, rfl⟩
abbrev main_while0b_v124 : Ref sig .tc := ⟨.hbm, 152, rfl⟩
abbrev main_while0b_v125 : Ref sig .tc := ⟨.hbm, 153, rfl⟩
abbrev main_while0b_v126 : Ref sig .tc := ⟨.hbm, 154, rfl⟩
abbrev main_while0b_call8_v0 : Ref sig .tc := ⟨.hbm, 155, rfl⟩
abbrev main_while0b_call8_c : Ref sig .tc := ⟨.hbm, 156, rfl⟩
abbrev main_while0b_call8_c_0 : Ref sig .tc := ⟨.hbm, 157, rfl⟩
abbrev main_while0b_call8_c_1 : Ref sig .tc := ⟨.hbm, 158, rfl⟩
abbrev main_while0b_call8_c_2 : Ref sig .tc := ⟨.hbm, 159, rfl⟩
abbrev main_while0b_v127 : Ref sig .tc := ⟨.hbm, 160, rfl⟩
abbrev main_while0b_c_20 : Ref sig .tc := ⟨.hbm, 161, rfl⟩
abbrev main_while0b_v128 : Ref sig .tc := ⟨.hbm, 162, rfl⟩
abbrev main_v60 : Ref sig .tc := ⟨.hbm, 163, rfl⟩
abbrev main_v61 : Ref sig .tc := ⟨.hbm, 164, rfl⟩
abbrev main_v62 : Ref sig .tc := ⟨.hbm, 165, rfl⟩
abbrev main_cst_9 : Ref sig .tc := ⟨.hbm, 166, rfl⟩
abbrev main_v63 : Ref sig .tc := ⟨.hbm, 167, rfl⟩
abbrev main_v64 : Ref sig .tc := ⟨.hbm, 168, rfl⟩
abbrev main_cst_10 : Ref sig .tc := ⟨.hbm, 169, rfl⟩
abbrev main_v65 : Ref sig .tc := ⟨.hbm, 170, rfl⟩
abbrev main_v66 : Ref sig .tc := ⟨.hbm, 171, rfl⟩
abbrev main_cst_11 : Ref sig .tc := ⟨.hbm, 172, rfl⟩
abbrev main_v67 : Ref sig .tc := ⟨.hbm, 173, rfl⟩
abbrev main_v68 : Ref sig .tc := ⟨.hbm, 174, rfl⟩
abbrev main_v69 : Ref sig .tc := ⟨.hbm, 175, rfl⟩
abbrev main_v70 : Ref sig .tc := ⟨.hbm, 176, rfl⟩
abbrev main_v71 : Ref sig .tc := ⟨.hbm, 177, rfl⟩
abbrev main_v72 : Ref sig .tc := ⟨.hbm, 178, rfl⟩
abbrev main_v73 : Ref sig .tc := ⟨.hbm, 179, rfl⟩
abbrev main_v74 : Ref sig .tc := ⟨.hbm, 180, rfl⟩
abbrev main_v75 : Ref sig .tc := ⟨.hbm, 181, rfl⟩
abbrev main_v76 : Ref sig .tc := ⟨.hbm, 182, rfl⟩
abbrev main_v77 : Ref sig .tc := ⟨.hbm, 183, rfl⟩
abbrev main_v78 : Ref sig .tc := ⟨.hbm, 184, rfl⟩
abbrev main_v79 : Ref sig .tc := ⟨.hbm, 185, rfl⟩
abbrev main_v80 : Ref sig .tc := ⟨.hbm, 186, rfl⟩
abbrev main_v81 : Ref sig .tc := ⟨.hbm, 187, rfl⟩
abbrev main_v82 : Ref sig .tc := ⟨.hbm, 188, rfl⟩
abbrev main_v83 : Ref sig .tc := ⟨.hbm, 189, rfl⟩
abbrev main_v84 : Ref sig .tc := ⟨.hbm, 190, rfl⟩
abbrev main_v85 : Ref sig .tc := ⟨.hbm, 191, rfl⟩
abbrev main_v86 : Ref sig .tc := ⟨.hbm, 192, rfl⟩
abbrev main_call9_v0 : Ref sig .tc := ⟨.hbm, 193, rfl⟩
abbrev main_call9_v1 : Ref sig .tc := ⟨.hbm, 194, rfl⟩
abbrev main_call9_cst : Ref sig .tc := ⟨.hbm, 195, rfl⟩
abbrev main_call9_v2 : Ref sig .tc := ⟨.hbm, 196, rfl⟩
abbrev main_call9_v3 : Ref sig .tc := ⟨.hbm, 197, rfl⟩
abbrev main_call9_cst_0 : Ref sig .tc := ⟨.hbm, 198, rfl⟩
abbrev main_call9_v4 : Ref sig .tc := ⟨.hbm, 199, rfl⟩
abbrev main_call9_v5 : Ref sig .tc := ⟨.hbm, 200, rfl⟩
abbrev main_v87 : Ref sig .tc := ⟨.hbm, 201, rfl⟩
abbrev main_v88 : Ref sig .tc := ⟨.hbm, 202, rfl⟩
abbrev main_v89 : Ref sig .tc := ⟨.hbm, 203, rfl⟩
abbrev main_v90 : Ref sig .tc := ⟨.hbm, 204, rfl⟩

abbrev nD : Nat := 1
abbrev τ : Topo := Topo.v7x

variable {F : FTy → Type} [FloatOps F]

abbrev main_while0_count : Scf.Loop 32 := ⟨0#32, 32#32, 1#32⟩
-- ==== Kernel2.lean ====
abbrev S8320x4096 : Shape := ⟨2, ![8320, 4096]⟩
abbrev S4096x22528 : Shape := ⟨2, ![4096, 22528]⟩
abbrev S16384x4096 : Shape := ⟨2, ![16384, 4096]⟩
abbrev S4096x4096 : Shape := ⟨2, ![4096, 4096]⟩
abbrev S2048x4096 : Shape := ⟨2, ![2048, 4096]⟩
abbrev S4096x2048 : Shape := ⟨2, ![4096, 2048]⟩
abbrev S8320x22528 : Shape := ⟨2, ![8320, 22528]⟩
abbrev S640x4096 : Shape := ⟨2, ![640, 4096]⟩
abbrev S4096x1024 : Shape := ⟨2, ![4096, 1024]⟩
abbrev S64x4096 : Shape := ⟨2, ![64, 4096]⟩
abbrev S16x4096 : Shape := ⟨2, ![16, 4096]⟩
abbrev S16x2048 : Shape := ⟨2, ![16, 2048]⟩
abbrev S640x1024 : Shape := ⟨2, ![640, 1024]⟩

abbrev nBuf : Space → Nat
  | .hbm => 16
  | .vmem => 30
  | .smem => 0
  | _ => 0

abbrev bufTy : (tb : Table) → Fin (tcTables nBuf tb) → BufTy
  | .hbm, ⟨0, _⟩ => ⟨S8320x4096, .bf16⟩
  | .hbm, ⟨1, _⟩ => ⟨S4096x22528, .f32⟩
  | .hbm, ⟨2, _⟩ => ⟨S16384x4096, .f32⟩
  | .hbm, ⟨3, _⟩ => ⟨S16384x4096, .f32⟩
  | .hbm, ⟨4, _⟩ => ⟨S4096x4096, .f32⟩
  | .hbm, ⟨5, _⟩ => ⟨S2048x4096, .f32⟩
  | .hbm, ⟨6, _⟩ => ⟨S2048x4096, .f32⟩
  | .hbm, ⟨7, _⟩ => ⟨S4096x2048, .f32⟩
  | .hbm, ⟨8, _⟩ => ⟨S4096x22528, .bf16⟩
  | .hbm, ⟨9, _⟩ => ⟨S8320x22528, .f32⟩
  | .hbm, ⟨10, _⟩ => ⟨S16384x4096, .bf16⟩
  | .hbm, ⟨11, _⟩ => ⟨S16384x4096, .bf16⟩
  | .hbm, ⟨12, _⟩ => ⟨S4096x4096, .bf16⟩
  | .hbm, ⟨13, _⟩ => ⟨S2048x4096, .bf16⟩
  | .hbm, ⟨14, _⟩ => ⟨S2048x4096, .bf16⟩
  | .hbm, ⟨15, _⟩ => ⟨S4096x2048, .bf16⟩
  | .local _ .vmem, ⟨0, _⟩ => ⟨S640x4096, .bf16⟩
  | .local _ .vmem, ⟨1, _⟩ => ⟨S640x4096, .bf16⟩
  | .local _ .vmem, ⟨2, _⟩ => ⟨S4096x1024, .bf16⟩
  | .local _ .vmem, ⟨3, _⟩ => ⟨S4096x1024, .bf16⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S16x4096, .f32⟩
  | .local _ .vmem, ⟨9, _⟩ => ⟨S16x4096, .f32⟩
  | .local _ .vmem, ⟨10, _⟩ => ⟨S16x4096, .f32⟩
  | .local _ .vmem, ⟨11, _⟩ => ⟨S16x4096, .f32⟩
  | .local _ .vmem, ⟨12, _⟩ => ⟨S16x4096, .f32⟩
  | .local _ .vmem, ⟨13, _⟩ => ⟨S16x4096, .f32⟩
  | .local _ .vmem, ⟨14, _⟩ => ⟨S16x2048, .f32⟩
  | .local _ .vmem, ⟨15, _⟩ => ⟨S16x2048, .f32⟩
  | .local _ .vmem, ⟨16, _⟩ => ⟨S640x1024, .f32⟩
  | .local _ .vmem, ⟨17, _⟩ => ⟨S640x1024, .f32⟩
  | .local _ .vmem, ⟨18, _⟩ => ⟨S64x4096, .bf16⟩
  | .local _ .vmem, ⟨19, _⟩ => ⟨S64x4096, .bf16⟩
  | .local _ .vmem, ⟨20, _⟩ => ⟨S64x4096, .bf16⟩
  | .local _ .vmem, ⟨21, _⟩ => ⟨S64x4096, .bf16⟩
  | .local _ .vmem, ⟨22, _⟩ => ⟨S16x4096, .bf16⟩
  | .local _ .vmem, ⟨23, _⟩ => ⟨S16x4096, .bf16⟩
  | .local _ .vmem, ⟨24, _⟩ => ⟨S16x4096, .bf16⟩
  | .local _ .vmem, ⟨25, _⟩ => ⟨S16x4096, .bf16⟩
  | .local _ .vmem, ⟨26, _⟩ => ⟨S16x4096, .bf16⟩
  | .local _ .vmem, ⟨27, _⟩ => ⟨S16x4096, .bf16⟩
  | .local _ .vmem, ⟨28, _⟩ => ⟨S16x2048, .bf16⟩
  | .local _ .vmem, ⟨29, _⟩ => ⟨S16x2048, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1_0 : Ref sig .tc := ⟨.hbm, 9, rfl⟩
abbrev main_v1_1 : Ref sig .tc := ⟨.hbm, 10, rfl⟩
abbrev main_v1_2 : Ref sig .tc := ⟨.hbm, 11, rfl⟩
abbrev main_v1_3 : Ref sig .tc := ⟨.hbm, 12, rfl⟩
abbrev main_v1_4 : Ref sig .tc := ⟨.hbm, 13, rfl⟩
abbrev main_v1_5 : Ref sig .tc := ⟨.hbm, 14, rfl⟩
abbrev main_v1_6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29

abbrev nD : Nat := 1
abbrev τ : Topo := Topo.v7x

variable {F : FTy → Type} [FloatOps F]

abbrev grid0 : Pipeline.Grid := ⟨3, ![13, 22, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.muli arg0 c22_i32
  let v1 : BitVec 32 := Scalar.addi v0 arg1
  let c1_i32 : BitVec 32 := 1#32
  let v2 : BitVec 32 := Scalar.muli v1 c1_i32
  let v3 : BitVec 32 := Scalar.addi v2 arg2
  let c255_i32 : BitVec 32 := 255#32
  let v4 : BitVec 32 := Scalar.minsi v3 c255_i32
  let c0_i32 : BitVec 32 := 0#32
  let c0_i32_0 : BitVec 32 := 0#32
  ![v4.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.muli arg0 c22_i32
  let v1 : BitVec 32 := Scalar.addi v0 arg1
  let c1_i32 : BitVec 32 := 1#32
  let v2 : BitVec 32 := Scalar.muli v1 c1_i32
  let v3 : BitVec 32 := Scalar.addi v2 arg2
  let c255_i32 : BitVec 32 := 255#32
  let v4 : BitVec 32 := Scalar.minsi v3 c255_i32
  let c0_i32 : BitVec 32 := 0#32
  let c0_i32_0 : BitVec 32 := 0#32
  ![v4.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.muli arg0 c22_i32
  let v1 : BitVec 32 := Scalar.addi v0 arg1
  let c1_i32 : BitVec 32 := 1#32
  let v2 : BitVec 32 := Scalar.muli v1 c1_i32
  let v3 : BitVec 32 := Scalar.addi v2 arg2
  let c255_i32 : BitVec 32 := 255#32
  let v4 : BitVec 32 := Scalar.minsi v3 c255_i32
  let c0_i32 : BitVec 32 := 0#32
  let c0_i32_0 : BitVec 32 := 0#32
  ![v4.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.muli arg0 c22_i32
  let v1 : BitVec 32 := Scalar.addi v0 arg1
  let c1_i32 : BitVec 32 := 1#32
  let v2 : BitVec 32 := Scalar.muli v1 c1_i32
  let v3 : BitVec 32 := Scalar.addi v2 arg2
  let c127_i32 : BitVec 32 := 127#32
  let v4 : BitVec 32 := Scalar.minsi v3 c127_i32
  let c0_i32 : BitVec 32 := 0#32
  let c0_i32_0 : BitVec 32 := 0#32
  ![v4.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.muli arg0 c22_i32
  let v1 : BitVec 32 := Scalar.addi v0 arg1
  let c1_i32 : BitVec 32 := 1#32
  let v2 : BitVec 32 := Scalar.muli v1 c1_i32
  let v3 : BitVec 32 := Scalar.addi v2 arg2
  let c127_i32 : BitVec 32 := 127#32
  let v4 : BitVec 32 := Scalar.minsi v3 c127_i32
  let c0_i32 : BitVec 32 := 0#32
  let c0_i32_0 : BitVec 32 := 0#32
  ![v4.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.muli arg0 c22_i32
  let v1 : BitVec 32 := Scalar.addi v0 arg1
  let c1_i32 : BitVec 32 := 1#32
  let v2 : BitVec 32 := Scalar.muli v1 c1_i32
  let v3 : BitVec 32 := Scalar.addi v2 arg2
  let c255_i32 : BitVec 32 := 255#32
  let v4 : BitVec 32 := Scalar.minsi v3 c255_i32
  let c0_i32 : BitVec 32 := 0#32
  let c0_i32_0 : BitVec 32 := 0#32
  ![v4.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.muli arg0 c22_i32
  let v1 : BitVec 32 := Scalar.addi v0 arg1
  let c1_i32 : BitVec 32 := 1#32
  let v2 : BitVec 32 := Scalar.muli v1 c1_i32
  let v3 : BitVec 32 := Scalar.addi v2 arg2
  let c255_i32 : BitVec 32 := 255#32
  let v4 : BitVec 32 := Scalar.minsi v3 c255_i32
  let c0_i32 : BitVec 32 := 0#32
  let c0_i32_0 : BitVec 32 := 0#32
  ![v4.toNat, c0_i32.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.muli arg0 c22_i32
  let v1 : BitVec 32 := Scalar.addi v0 arg1
  let c1_i32 : BitVec 32 := 1#32
  let v2 : BitVec 32 := Scalar.muli v1 c1_i32
  let v3 : BitVec 32 := Scalar.addi v2 arg2
  let c255_i32 : BitVec 32 := 255#32
  let v4 : BitVec 32 := Scalar.minsi v3 c255_i32
  let c0_i32 : BitVec 32 := 0#32
  let c0_i32_0 : BitVec 32 := 0#32
  ![v4.toNat, c0_i32.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.muli arg0 c22_i32
  let v1 : BitVec 32 := Scalar.addi v0 arg1
  let c1_i32 : BitVec 32 := 1#32
  let v2 : BitVec 32 := Scalar.muli v1 c1_i32
  let v3 : BitVec 32 := Scalar.addi v2 arg2
  let c255_i32 : BitVec 32 := 255#32
  let v4 : BitVec 32 := Scalar.minsi v3 c255_i32
  let c0_i32 : BitVec 32 := 0#32
  let c0_i32_0 : BitVec 32 := 0#32
  ![v4.toNat, c0_i32.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.muli arg0 c22_i32
  let v1 : BitVec 32 := Scalar.addi v0 arg1
  let c1_i32 : BitVec 32 := 1#32
  let v2 : BitVec 32 := Scalar.muli v1 c1_i32
  let v3 : BitVec 32 := Scalar.addi v2 arg2
  let c127_i32 : BitVec 32 := 127#32
  let v4 : BitVec 32 := Scalar.minsi v3 c127_i32
  let c0_i32 : BitVec 32 := 0#32
  let c0_i32_0 : BitVec 32 := 0#32
  ![v4.toNat, c0_i32.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.muli arg0 c22_i32
  let v1 : BitVec 32 := Scalar.addi v0 arg1
  let c1_i32 : BitVec 32 := 1#32
  let v2 : BitVec 32 := Scalar.muli v1 c1_i32
  let v3 : BitVec 32 := Scalar.addi v2 arg2
  let c127_i32 : BitVec 32 := 127#32
  let v4 : BitVec 32 := Scalar.minsi v3 c127_i32
  let c0_i32 : BitVec 32 := 0#32
  let c0_i32_0 : BitVec 32 := 0#32
  ![v4.toNat, c0_i32.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c22_i32 : BitVec 32 := 22#32
  let v0 : BitVec 32 := Scalar.muli arg0 c22_i32
  let v1 : BitVec 32 := Scalar.addi v0 arg1
  let c1_i32 : BitVec 32 := 1#32
  let v2 : BitVec 32 := Scalar.muli v1 c1_i32
  let v3 : BitVec 32 := Scalar.addi v2 arg2
  let c255_i32 : BitVec 32 := 255#32
  let v4 : BitVec 32 := Scalar.minsi v3 c255_i32
  let c0_i32 : BitVec 32 := 0#32
  let c0_i32_0 : BitVec 32 := 0#32
  ![v4.toNat, c0_i32.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S16x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S16x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S16x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S16x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S640x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]

abbrev stage0_9 : Fin 2 → Memref sig .tc .vmem S64x4096 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S64x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]

abbrev stage0_11 : Fin 2 → Memref sig .tc .vmem S16x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, true]

abbrev stage0_12 : Fin 2 → Memref sig .tc .vmem S16x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true, true]

abbrev stage0_13 : Fin 2 → Memref sig .tc .vmem S16x4096 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 2 → Memref sig .tc .vmem S16x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true, true]
-- ==== Reference2Ideal.lean ====
abbrev S8320x4096 : Shape := ⟨2, ![8320, 4096]⟩
abbrev S4096x22528 : Shape := ⟨2, ![4096, 22528]⟩
abbrev S16384x4096 : Shape := ⟨2, ![16384, 4096]⟩
abbrev S4096x4096 : Shape := ⟨2, ![4096, 4096]⟩
abbrev S2048x4096 : Shape := ⟨2, ![2048, 4096]⟩
abbrev S4096x2048 : Shape := ⟨2, ![4096, 2048]⟩
abbrev S8320x22528 : Shape := ⟨2, ![8320, 22528]⟩

abbrev nBuf : Space → Nat
  | .hbm => 16
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x22528, .f32⟩
  | .hbm, ⟨2, _⟩ => ⟨S16384x4096, .f32⟩
  | .hbm, ⟨3, _⟩ => ⟨S16384x4096, .f32⟩
  | .hbm, ⟨4, _⟩ => ⟨S4096x4096, .f32⟩
  | .hbm, ⟨5, _⟩ => ⟨S2048x4096, .f32⟩
  | .hbm, ⟨6, _⟩ => ⟨S2048x4096, .f32⟩
  | .hbm, ⟨7, _⟩ => ⟨S4096x2048, .f32⟩
  | .hbm, ⟨8, _⟩ => ⟨S8320x4096, .f32⟩
  | .hbm, ⟨9, _⟩ => ⟨S8320x22528, .f32⟩
  | .hbm, ⟨10, _⟩ => ⟨S16384x4096, .bf16⟩
  | .hbm, ⟨11, _⟩ => ⟨S16384x4096, .bf16⟩
  | .hbm, ⟨12, _⟩ => ⟨S4096x4096, .bf16⟩
  | .hbm, ⟨13, _⟩ => ⟨S2048x4096, .bf16⟩
  | .hbm, ⟨14, _⟩ => ⟨S2048x4096, .bf16⟩
  | .hbm, ⟨15, _⟩ => ⟨S4096x2048, .bf16⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩

abbrev nD : Nat := 1
abbrev τ : Topo := Topo.v7x

variable {F : FTy → Type} [FloatOps F]
-- ==== Kernel3.lean ====
abbrev S8320x22528 : Shape := ⟨2, ![8320, 22528]⟩
abbrev S2x2048 : Shape := ⟨2, ![2, 2048]⟩
abbrev S16x128 : Shape := ⟨2, ![16, 128]⟩
abbrev S128x16x128x128 : Shape := ⟨4, ![128, 16, 128, 128]⟩
abbrev S1x2048 : Shape := ⟨2, ![1, 2048]⟩
abbrev S128x2048 : Shape := ⟨2, ![128, 2048]⟩
abbrev S8x2048 : Shape := ⟨2, ![8, 2048]⟩
abbrev S8x16x128x128 : Shape := ⟨4, ![8, 16, 128, 128]⟩
abbrev S128x128 : Shape := ⟨2, ![128, 128]⟩
abbrev S2048 : Shape := ⟨1, ![2048]⟩
abbrev S8x128 : Shape := ⟨2, ![8, 128]⟩
abbrev S1x128 : Shape := ⟨2, ![1, 128]⟩
abbrev S128 : Shape := ⟨1, ![128]⟩
abbrev S128x1 : Shape := ⟨2, ![128, 1]⟩
abbrev S1x1x128x128 : Shape := ⟨4, ![1, 1, 128, 128]⟩
abbrev S8 : Shape := ⟨1, ![8]⟩
abbrev S8x1 : Shape := ⟨2, ![8, 1]⟩

abbrev nBuf : Space → Nat
  | .hbm => 7
  | .vmem => 17
  | .smem => 0
  | _ => 0

abbrev bufTy : (tb : Table) → Fin (tcTables nBuf tb) → BufTy
  | .hbm, ⟨0, _⟩ => ⟨S8320x22528, .f32⟩
  | .hbm, ⟨1, _⟩ => ⟨S2x2048, .f32⟩
  | .hbm, ⟨2, _⟩ => ⟨S16x128, .f32⟩
  | .hbm, ⟨3, _⟩ => ⟨S128x16x128x128, .f32⟩
  | .hbm, ⟨4, _⟩ => ⟨S1x2048, .f32⟩
  | .hbm, ⟨5, _⟩ => ⟨S128x2048, .f32⟩
  | .hbm, ⟨6, _⟩ => ⟨S128x16x128x128, .f32⟩
  | .local _ .vmem, ⟨0, _⟩ => ⟨S8x2048, .f32⟩
  | .local _ .vmem, ⟨1, _⟩ => ⟨S8x2048, .f32⟩
  | .local _ .vmem, ⟨2, _⟩ => ⟨S8x2048, .f32⟩
  | .local _ .vmem, ⟨3, _⟩ => ⟨S8x2048, .f32⟩
  | .local _ .vmem, ⟨4, _⟩ => ⟨S8x2048, .f32⟩
  | .local _ .vmem, ⟨5, _⟩ => ⟨S8x2048, .f32⟩
  | .local _ .vmem, ⟨6, _⟩ => ⟨S8x2048, .f32⟩
  | .local _ .vmem, ⟨7, _⟩ => ⟨S8x2048, .f32⟩
  | .local _ .vmem, ⟨8, _⟩ => ⟨S2x2048, .f32⟩
  | .local _ .vmem, ⟨9, _⟩ => ⟨S1x2048, .f32⟩
  | .local _ .vmem, ⟨10, _⟩ => ⟨S8x16x128x128, .f32⟩
  | .local _ .vmem, ⟨11, _⟩ => ⟨S8x16x128x128, .f32⟩
  | .local _ .vmem, ⟨12, _⟩ => ⟨S8x2048, .f32⟩
  | .local _ .vmem, ⟨13, _⟩ => ⟨S8x2048, .f32⟩
  | .local _ .vmem, ⟨14, _⟩ => ⟨S8x16x128x128, .f32⟩
  | .local _ .vmem, ⟨15, _⟩ => ⟨S8x16x128x128, .f32⟩
  | .local _ .vmem, ⟨16, _⟩ => ⟨S8x2048, .f32⟩
  | _, _ => ⟨S8320x22528, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1024_i32 : BitVec 32 := 1024#32
  let v0 : BitVec 32 := Scalar.addi c1024_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c1024_i32 : BitVec 32 := 1024#32
  let v0 : BitVec 32 := Scalar.addi c1024_i32 arg0
  let c1_i32 : BitVec 32 := 1#32
  let c0_i32 : BitVec 32 := 0#32
  ![v0.toNat, c1_i32.toNat]

def cc0_transform_2 (i : grid0.Coords) : Fin 2 → Nat :=
  let arg0 : BitVec 32 := BitVec.ofNat 32 (i 0).val
  let c1024_i32 : BitVec 32 := 1024#32
  let v0 : BitVec 32 := Scalar.addi c1024_i32 arg0
  let c2_i32 : BitVec 32 := 2#32
  let c0_i32 : BitVec 32 := 0#32
  ![v0.toNat, c2_i32.toNat]

def cc0_transform_3 (i : grid0.Coords) : Fin 2 → Nat :=
  let arg0 : BitVec 32 := BitVec.ofNat 32 (i 0).val
  let c1024_i32 : BitVec 32 := 1024#32
  let v0 : BitVec 32 := Scalar.addi c1024_i32 arg0
  let c3_i32 : BitVec 32 := 3#32
  let c0_i32 : BitVec 32 := 0#32
  ![v0.toNat, c3_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x16x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x16x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S8320x22528 : Shape := ⟨2, ![8320, 22528]⟩
abbrev S2x2048 : Shape := ⟨2, ![2, 2048]⟩
abbrev S16x128 : Shape := ⟨2, ![16, 128]⟩
abbrev S128x16x128x128 : Shape := ⟨4, ![128, 16, 128, 128]⟩
abbrev S_ : Shape := ⟨0, ![]⟩
abbrev S2048 : Shape := ⟨1, ![2048]⟩
abbrev S1x2048 : Shape := ⟨2, ![1, 2048]⟩
abbrev S128x22528 : Shape := ⟨2, ![128, 22528]⟩
abbrev S128x1x22528 : Shape := ⟨3, ![128, 1, 22528]⟩
abbrev S128x1x2048 : Shape := ⟨3, ![128, 1, 2048]⟩
abbrev S128x1x4096 : Shape := ⟨3, ![128, 1, 4096]⟩
abbrev S128x1x16x128 : Shape := ⟨4, ![128, 1, 16, 128]⟩
abbrev S1x1x16x128 : Shape := ⟨4, ![1, 1, 16, 128]⟩
abbrev S1x128x16x128 : Shape := ⟨4, ![1, 128, 16, 128]⟩
abbrev S128x16x128 : Shape := ⟨3, ![128, 16, 128]⟩
abbrev S128x16x128x1 : Shape := ⟨4, ![128, 16, 128, 1]⟩
abbrev S128x16x1x128 : Shape := ⟨4, ![128, 16, 1, 128]⟩
abbrev S128x1x16 : Shape := ⟨3, ![128, 1, 16]⟩
abbrev S128x1x16x1 : Shape := ⟨4, ![128, 1, 16, 1]⟩
abbrev S128x2048 : Shape := ⟨2, ![128, 2048]⟩

abbrev nBuf : Space → Nat
  | .hbm => 153
  | .vmem => 0
  | .smem => 0
  | _ => 0

abbrev hbmTy0_0 (i : Nat) : BufTy := match i % 128 with
  | 0 => ⟨S8320x22528, .f32⟩
  | 1 => ⟨S2x2048, .f32⟩
  | 2 => ⟨S16x128, .f32⟩
  | 3 => ⟨S128x16x128x128, .f32⟩
  | 4 => ⟨S_, .f32⟩
  | 5 => ⟨S2048, .f32⟩
  | 6 => ⟨S_, .f32⟩
  | 7 => ⟨S2048, .f32⟩
  | 8 => ⟨S2048, .f32⟩
  | 9 => ⟨S1x2048, .f32⟩
  | 10 => ⟨S2x2048, .f32⟩
  | 11 => ⟨S2x2048, .f32⟩
  | 12 => ⟨S2x2048, .f32⟩
  | 13 => ⟨S_, .f32⟩
  | 14 => ⟨S2048, .f32⟩
  | 15 => ⟨S1x2048, .f32⟩
  | 16 => ⟨S2x2048, .f32⟩
  | 17 => ⟨S2x2048, .f32⟩
  | 18 => ⟨S_, .f32⟩
  | 19 => ⟨S_, .f32⟩
  | 20 => ⟨S2x2048, .f32⟩
  | 21 => ⟨S1x2048, .f32⟩
  | 22 => ⟨S2048, .f32⟩
  | 23 => ⟨S16x128, .f32⟩
  | 24 => ⟨S128x22528, .f32⟩
  | 25 => ⟨S128x1x22528, .f32⟩
  | 26 => ⟨S128x1x2048, .f32⟩
  | 27 => ⟨S128x1x2048, .f32⟩
  | 28 => ⟨S128x1x2048, .f32⟩
  | 29 => ⟨S128x1x2048, .f32⟩
  | 30 => ⟨S128x1x2048, .f32⟩
  | 31 => ⟨S128x1x2048, .f32⟩
  | 32 => ⟨S128x1x2048, .f32⟩
  | 33 => ⟨S128x1x4096, .f32⟩
  | 34 => ⟨S128x1x4096, .f32⟩
  | 35 => ⟨S_, .f32⟩
  | 36 => ⟨S16x128, .f32⟩
  | 37 => ⟨S16x128, .f32⟩
  | 38 => ⟨S128x1x16x128, .f32⟩
  | 39 => ⟨S128x1x16x128, .f32⟩
  | 40 => ⟨S128x1x16x128, .f32⟩
  | 41 => ⟨S_, .f32⟩
  | 42 => ⟨S128x1x16x128, .f32⟩
  | 43 => ⟨S128x1x16x128, .f32⟩
  | 44 => ⟨S_, .f32⟩
  | 45 => ⟨S128x1x16x128, .f32⟩
  | 46 => ⟨S128x1x16x128, .f32⟩
  | 47 => ⟨S1x1x16x128, .f32⟩
  | 48 => ⟨S128x1x16x128, .f32⟩
  | 49 => ⟨S128x1x16x128, .f32⟩
  | 50 => ⟨S1x1x16x128, .f32⟩
  | 51 => ⟨S128x1x16x128, .f32⟩
  | 52 => ⟨S128x1x16x128, .f32⟩
  | 53 => ⟨S128x1x16x128, .f32⟩
  | 54 => ⟨S128x1x16x128, .f32⟩
  | 55 => ⟨S_, .f32⟩
  | 56 => ⟨S128x1x16x128, .f32⟩
  | 57 => ⟨S128x1x16x128, .f32⟩
  | 58 => ⟨S128x1x16x128, .f32⟩
  | 59 => ⟨S1x128x16x128, .f32⟩
  | 60 => ⟨S1x128x16x128, .f32⟩
  | 61 => ⟨S1x128x16x128, .f32⟩
  | 62 => ⟨S1x128x16x128, .f32⟩
  | 63 => ⟨S_, .f32⟩
  | 64 => ⟨S1x128x16x128, .f32⟩
  | 65 => ⟨S_, .i32⟩
  | 66 => ⟨S1x128x16x128, .f32⟩
  | 67 => ⟨S1x128x16x128, .f32⟩
  | 68 => ⟨S1x128x16x128, .f32⟩
  | 69 => ⟨S1x128x16x128, .f32⟩
  | 70 => ⟨S_, .i32⟩
  | 71 => ⟨S128x16x128x128, .f32⟩
  | 72 => ⟨S1x128x16x128, .f32⟩
  | 73 => ⟨S_, .i32⟩
  | 74 => ⟨S_, .i1⟩
  | 75 => ⟨S_, .i32⟩
  | 76 => ⟨S_, .i32⟩
  | 77 => ⟨S_, .i32⟩
  | 78 => ⟨S1x128x16x128, .f32⟩
  | 79 => ⟨S128x16x128, .f32⟩
  | 80 => ⟨S_, .i32⟩
  | 81 => ⟨S_, .i32⟩
  | 82 => ⟨S_, .i32⟩
  | 83 => ⟨S1x128x16x128, .f32⟩
  | 84 => ⟨S128x16x128, .f32⟩
  | 85 => ⟨S_, .i32⟩
  | 86 => ⟨S_, .i32⟩
  | 87 => ⟨S_, .i32⟩
  | 88 => ⟨S1x128x16x128, .f32⟩
  | 89 => ⟨S128x16x128, .f32⟩
  | 90 => ⟨S_, .i32⟩
  | 91 => ⟨S_, .i32⟩
  | 92 => ⟨S_, .i32⟩
  | 93 => ⟨S1x128x16x128, .f32⟩
  | 94 => ⟨S128x16x128, .f32⟩
  | 95 => ⟨S128x16x128, .f32⟩
  | 96 => ⟨S128x16x128x1, .f32⟩
  | 97 => ⟨S128x16x128x128, .f32⟩
  | 98 => ⟨S128x16x128x128, .f32⟩
  | 99 => ⟨S128x16x128x1, .f32⟩
  | 100 => ⟨S128x16x1x128, .f32⟩
  | 101 => ⟨S128x16x128x128, .f32⟩
  | 102 => ⟨S128x16x128x128, .f32⟩
  | 103 => ⟨S128x16x128x128, .f32⟩
  | 104 => ⟨S128x16x128x128, .f32⟩
  | 105 => ⟨S128x16x128, .f32⟩
  | 106 => ⟨S1x128x16x128, .f32⟩
  | 107 => ⟨S_, .i32⟩
  | 108 => ⟨S_, .i32⟩
  | 109 => ⟨S_, .i32⟩
  | 110 => ⟨S1x128x16x128, .f32⟩
  | 111 => ⟨S_, .i32⟩
  | 112 => ⟨S_, .i32⟩
  | 113 => ⟨S128x1x16x128, .f32⟩
  | 114 => ⟨S128x1x16x128, .f32⟩
  | 115 => ⟨S_, .f32⟩
  | 116 => ⟨S128x1x16, .f32⟩
  | 117 => ⟨S128x1x16x1, .f32⟩
  | 118 => ⟨S_, .f32⟩
  | 119 => ⟨S128x1x16x1, .f32⟩
  | 120 => ⟨S128x1x16x1, .f32⟩
  | 121 => ⟨S_, .f32⟩
  | 122 => ⟨S128x1x16x1, .f32⟩
  | 123 => ⟨S128x1x16x1, .f32⟩
  | 124 => ⟨S128x1x16x1, .f32⟩
  | 125 => ⟨S128x1x16x128, .f32⟩
  | 126 => ⟨S128x1x16x128, .f32⟩
  | 127 => ⟨S1x1x16x128, .f32⟩
  | _ => ⟨S8320x22528, .f32⟩

abbrev hbmTy0_1 (i : Nat) : BufTy := match i % 128 with
  | 0 => ⟨S128x1x16x128, .f32⟩
  | 1 => ⟨S128x1x16x128, .f32⟩
  | 2 => ⟨S128x1x2048, .f32⟩
  | 3 => ⟨S128x22528, .f32⟩
  | 4 => ⟨S128x1x22528, .f32⟩
  | 5 => ⟨S128x1x2048, .f32⟩
  | 6 => ⟨S128x1x2048, .f32⟩
  | 7 => ⟨S128x1x2048, .f32⟩
  | 8 => ⟨S128x1x2048, .f32⟩
  | 9 => ⟨S128x1x2048, .f32⟩
  | 10 => ⟨S128x1x2048, .f32⟩
  | 11 => ⟨S128x1x2048, .f32⟩
  | 12 => ⟨S128x1x4096, .f32⟩
  | 13 => ⟨S128x1x4096, .f32⟩
  | 14 => ⟨S128x1x2048, .f32⟩
  | 15 => ⟨S128x1x2048, .f32⟩
  | 16 => ⟨S_, .f32⟩
  | 17 => ⟨S128x1x2048, .f32⟩
  | 18 => ⟨S128x1x2048, .f32⟩
  | 19 => ⟨S_, .f32⟩
  | 20 => ⟨S128x1x2048, .f32⟩
  | 21 => ⟨S128x1x2048, .f32⟩
  | 22 => ⟨S128x1x2048, .f32⟩
  | 23 => ⟨S128x1x2048, .f32⟩
  | 24 => ⟨S128x2048, .f32⟩
  | _ => ⟨S8320x22528, .f32⟩

abbrev hbmTy (i : Nat) : BufTy := match i / 128 with
  | 0 => hbmTy0_0 i
  | 1 => hbmTy0_1 i
  | _ => ⟨S8320x22528, .f32⟩

abbrev bufTy : (tb : Table) → Fin (tcTables nBuf tb) → BufTy
  | .hbm, ⟨i, _⟩ => hbmTy i
  | _, _ => ⟨S8320x22528, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_call0_cst : Ref sig .tc := ⟨.hbm, 18, rfl⟩
abbrev main_call0_call0_v0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_2 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_5 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_c : Ref sig .tc := ⟨.hbm, 65, rfl⟩
abbrev main_v51_0 : Ref sig .tc := ⟨.hbm, 66, rfl⟩
abbrev main_v51_1 : Ref sig .tc := ⟨.hbm, 67, rfl⟩
abbrev main_v51_2 : Ref sig .tc := ⟨.hbm, 68, rfl⟩
abbrev main_v51_3 : Ref sig .tc := ⟨.hbm, 69, rfl⟩
abbrev main_v51_4 : Ref sig .tc := ⟨.hbm, 70, rfl⟩
abbrev main_v51_5 : Ref sig .tc := ⟨.hbm, 71, rfl⟩
abbrev main_v51_6 : Ref sig .tc := ⟨.hbm, 72, rfl⟩
abbrev main_while0c_c_16 : Ref sig .tc := ⟨.hbm, 73, rfl⟩
abbrev main_while0c_v81 : Ref sig .tc := ⟨.hbm, 74, rfl⟩
abbrev main_while0b_call1_c : Ref sig .tc := ⟨.hbm, 75, rfl⟩
abbrev main_while0b_call1_c_0 : Ref sig .tc := ⟨.hbm, 76, rfl⟩
abbrev main_while0b_call1_c_1 : Ref sig .tc := ⟨.hbm, 77, rfl⟩
abbrev main_while0b_call1_v0 : Ref sig .tc := ⟨.hbm, 78, rfl⟩
abbrev main_while0b_v81 : Ref sig .tc := ⟨.hbm, 79, rfl⟩
abbrev main_while0b_call2_c : Ref sig .tc := ⟨.hbm, 80, rfl⟩
abbrev main_while0b_call2_c_0 : Ref sig .tc := ⟨.hbm, 81, rfl⟩
abbrev main_while0b_call2_c_1 : Ref sig .tc := ⟨.hbm, 82, rfl⟩
abbrev main_while0b_call2_v0 : Ref sig .tc := ⟨.hbm, 83, rfl⟩
abbrev main_while0b_v82 : Ref sig .tc := ⟨.hbm, 84, rfl⟩
abbrev main_while0b_call3_c : Ref sig .tc := ⟨.hbm, 85, rfl⟩
abbrev main_while0b_call3_c_0 : Ref sig .tc := ⟨.hbm, 86, rfl⟩
abbrev main_while0b_call3_c_1 : Ref sig .tc := ⟨.hbm, 87, rfl⟩
abbrev main_while0b_call3_v0 : Ref sig .tc := ⟨.hbm, 88, rfl⟩
abbrev main_while0b_v83 : Ref sig .tc := ⟨.hbm, 89, rfl⟩
abbrev main_while0b_call4_c : Ref sig .tc := ⟨.hbm, 90, rfl⟩
abbrev main_while0b_call4_c_0 : Ref sig .tc := ⟨.hbm, 91, rfl⟩
abbrev main_while0b_call4_c_1 : Ref sig .tc := ⟨.hbm, 92, rfl⟩
abbrev main_while0b_call4_v0 : Ref sig .tc := ⟨.hbm, 93, rfl⟩
abbrev main_while0b_v84 : Ref sig .tc := ⟨.hbm, 94, rfl⟩
abbrev main_while0b_v85 : Ref sig .tc := ⟨.hbm, 95, rfl⟩
abbrev main_while0b_v86 : Ref sig .tc := ⟨.hbm, 96, rfl⟩
abbrev main_while0b_v87 : Ref sig .tc := ⟨.hbm, 97, rfl⟩
abbrev main_while0b_v88 : Ref sig .tc := ⟨.hbm, 98, rfl⟩
abbrev main_while0b_v89 : Ref sig .tc := ⟨.hbm, 99, rfl⟩
abbrev main_while0b_v90 : Ref sig .tc := ⟨.hbm, 100, rfl⟩
abbrev main_while0b_v91 : Ref sig .tc := ⟨.hbm, 101, rfl⟩
abbrev main_while0b_v92 : Ref sig .tc := ⟨.hbm, 102, rfl⟩
abbrev main_while0b_v93 : Ref sig .tc := ⟨.hbm, 103, rfl⟩
abbrev main_while0b_v94 : Ref sig .tc := ⟨.hbm, 104, rfl⟩
abbrev main_while0b_v95 : Ref sig .tc := ⟨.hbm, 105, rfl⟩
abbrev main_while0b_call5_v0 : Ref sig .tc := ⟨.hbm, 106, rfl⟩
abbrev main_while0b_call5_c : Ref sig .tc := ⟨.hbm, 107, rfl⟩
abbrev main_while0b_call5_c_0 : Ref sig .tc := ⟨.hbm, 108, rfl⟩
abbrev main_while0b_call5_c_1 : Ref sig .tc := ⟨.hbm, 109, rfl⟩
abbrev main_while0b_v96 : Ref sig .tc := ⟨.hbm, 110, rfl⟩
abbrev main_while0b_c_16 : Ref sig .tc := ⟨.hbm, 111, rfl⟩
abbrev main_while0b_v97 : Ref sig .tc := ⟨.hbm, 112, rfl⟩
abbrev main_v52 : Ref sig .tc := ⟨.hbm, 113, rfl⟩
abbrev main_v53 : Ref sig .tc := ⟨.hbm, 114, rfl⟩
abbrev main_cst_7 : Ref sig .tc := ⟨.hbm, 115, rfl⟩
abbrev main_v54 : Ref sig .tc := ⟨.hbm, 116, rfl⟩
abbrev main_v55 : Ref sig .tc := ⟨.hbm, 117, rfl⟩
abbrev main_cst_8 : Ref sig .tc := ⟨.hbm, 118, rfl⟩
abbrev main_v56 : Ref sig .tc := ⟨.hbm, 119, rfl⟩
abbrev main_v57 : Ref sig .tc := ⟨.hbm, 120, rfl⟩
abbrev main_cst_9 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_call6_v0 : Ref sig .tc := ⟨.hbm, 142, rfl⟩
abbrev main_call6_v1 : Ref sig .tc := ⟨.hbm, 143, rfl⟩
abbrev main_call6_cst : Ref sig .tc := ⟨.hbm, 144, rfl⟩
abbrev main_call6_v2 : Ref sig .tc := ⟨.hbm, 145, rfl⟩
abbrev main_call6_v3 : Ref sig .tc := ⟨.hbm, 146, rfl⟩
abbrev main_call6_cst_0 : Ref sig .tc := ⟨.hbm, 147, rfl⟩
abbrev main_call6_v4 : Ref sig .tc := ⟨.hbm, 148, rfl⟩
abbrev main_call6_v5 : Ref sig .tc := ⟨.hbm, 149, rfl⟩
abbrev main_v78 : Ref sig .tc := ⟨.hbm, 150, rfl⟩
abbrev main_v79 : Ref sig .tc := ⟨.hbm, 151, rfl⟩
abbrev main_v80 : Ref sig .tc := ⟨.hbm, 152, rfl⟩

abbrev nD : Nat := 1
abbrev τ : Topo := Topo.v7x

variable {F : FTy → Type} [FloatOps F]

abbrev main_while0_count : Scf.Loop 32 := ⟨0#32, 1#32, 1#32⟩
-- ==== Kernel4.lean ====
abbrev S8320x22528 : Shape := ⟨2, ![8320, 22528]⟩
abbrev S3x2048 : Shape := ⟨2, ![3, 2048]⟩
abbrev S8192x2048 : Shape := ⟨2, ![8192, 2048]⟩
abbrev S4x2x2048 : Shape := ⟨3, ![4, 2, 2048]⟩
abbrev S2048x256 : Shape := ⟨2, ![2048, 256]⟩
abbrev S3x256 : Shape := ⟨2, ![3, 256]⟩
abbrev S1x2x256 : Shape := ⟨3, ![1, 2, 256]⟩
abbrev S1x256 : Shape := ⟨2, ![1, 256]⟩
abbrev S2x256 : Shape := ⟨2, ![2, 256]⟩

abbrev nBuf : Space → Nat
  | .hbm => 4
  | .vmem => 12
  | .smem => 0
  | _ => 0

abbrev bufTy : (tb : Table) → Fin (tcTables nBuf tb) → BufTy
  | .hbm, ⟨0, _⟩ => ⟨S8320x22528, .f32⟩
  | .hbm, ⟨1, _⟩ => ⟨S3x2048, .f32⟩
  | .hbm, ⟨2, _⟩ => ⟨S8192x2048, .bf16⟩
  | .hbm, ⟨3, _⟩ => ⟨S4x2x2048, .f32⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S3x256, .f32⟩
  | .local _ .vmem, ⟨7, _⟩ => ⟨S3x256, .f32⟩
  | .local _ .vmem, ⟨8, _⟩ => ⟨S2048x256, .bf16⟩
  | .local _ .vmem, ⟨9, _⟩ => ⟨S2048x256, .bf16⟩
  | .local _ .vmem, ⟨10, _⟩ => ⟨S1x2x256, .f32⟩
  | .local _ .vmem, ⟨11, _⟩ => ⟨S1x2x256, .f32⟩
  | _, _ => ⟨S8320x22528, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c40_i32 : BitVec 32 := 40#32
  let v0 : BitVec 32 := Scalar.addi c40_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference4Ideal.lean ====
abbrev S8320x22528 : Shape := ⟨2, ![8320, 22528]⟩
abbrev S3x2048 : Shape := ⟨2, ![3, 2048]⟩
abbrev S8192x22528 : Shape := ⟨2, ![8192, 22528]⟩
abbrev S4x2048x22528 : Shape := ⟨3, ![4, 2048, 22528]⟩
abbrev S4x2048x2048 : Shape := ⟨3, ![4, 2048, 2048]⟩
abbrev S4x2048x4096 : Shape := ⟨3, ![4, 2048, 4096]⟩
abbrev S_ : Shape := ⟨0, ![]⟩
abbrev S4x2x2048 : Shape := ⟨3, ![4, 2, 2048]⟩
abbrev S4x2050x2048 : Shape := ⟨3, ![4, 2050, 2048]⟩
abbrev S1x2048 : Shape := ⟨2, ![1, 2048]⟩
abbrev S2048 : Shape := ⟨1, ![2048]⟩
abbrev S1x1x2048 : Shape := ⟨3, ![1, 1, 2048]⟩
abbrev S8192x2048 : Shape := ⟨2, ![8192, 2048]⟩

abbrev nBuf : Space → Nat
  | .hbm => 44
  | .vmem => 0
  | .smem => 0
  | _ => 0

abbrev bufTy : (tb : Table) → Fin (tcTables nBuf tb) → BufTy
  | .hbm, ⟨0, _⟩ => ⟨S8320x22528, .f32⟩
  | .hbm, ⟨1, _⟩ => ⟨S3x2048, .f32⟩
  | .hbm, ⟨2, _⟩ => ⟨S8192x22528, .f32⟩
  | .hbm, ⟨3, _⟩ => ⟨S4x2048x22528, .f32⟩
  | .hbm, ⟨4, _⟩ => ⟨S4x2048x2048, .f32⟩
  | .hbm, ⟨5, _⟩ => ⟨S4x2048x2048, .f32⟩
  | .hbm, ⟨6, _⟩ => ⟨S4x2048x2048, .f32⟩
  | .hbm, ⟨7, _⟩ => ⟨S4x2048x2048, .f32⟩
  | .hbm, ⟨8, _⟩ => ⟨S4x2048x2048, .f32⟩
  | .hbm, ⟨9, _⟩ => ⟨S4x2048x2048, .f32⟩
  | .hbm, ⟨10, _⟩ => ⟨S4x2048x2048, .f32⟩
  | .hbm, ⟨11, _⟩ => ⟨S4x2048x4096, .f32⟩
  | .hbm, ⟨12, _⟩ => ⟨S4x2048x4096, .f32⟩
  | .hbm, ⟨13, _⟩ => ⟨S4x2048x2048, .f32⟩
  | .hbm, ⟨14, _⟩ => ⟨S_, .f32⟩
  | .hbm, ⟨15, _⟩ => ⟨S4x2x2048, .f32⟩
  | .hbm, ⟨16, _⟩ => ⟨S4x2050x2048, .f32⟩
  | .hbm, ⟨17, _⟩ => ⟨S4x2048x2048, .f32⟩
  | .hbm, ⟨18, _⟩ => ⟨S1x2048, .f32⟩
  | .hbm, ⟨19, _⟩ => ⟨S2048, .f32⟩
  | .hbm, ⟨20, _⟩ => ⟨S1x1x2048, .f32⟩
  | .hbm, ⟨21, _⟩ => ⟨S4x2048x2048, .f32⟩
  | .hbm, ⟨22, _⟩ => ⟨S4x2048x2048, .f32⟩
  | .hbm, ⟨23, _⟩ => ⟨S_, .f32⟩
  | .hbm, ⟨24, _⟩ => ⟨S4x2048x2048, .f32⟩
  | .hbm, ⟨25, _⟩ => ⟨S4x2048x2048, .f32⟩
  | .hbm, ⟨26, _⟩ => ⟨S4x2048x2048, .f32⟩
  | .hbm, ⟨27, _⟩ => ⟨S1x2048, .f32⟩
  | .hbm, ⟨28, _⟩ => ⟨S2048, .f32⟩
  | .hbm, ⟨29, _⟩ => ⟨S1x1x2048, .f32⟩
  | .hbm, ⟨30, _⟩ => ⟨S4x2048x2048, .f32⟩
  | .hbm, ⟨31, _⟩ => ⟨S4x2048x2048, .f32⟩
  | .hbm, ⟨32, _⟩ => ⟨S4x2048x2048, .f32⟩
  | .hbm, ⟨33, _⟩ => ⟨S4x2048x2048, .f32⟩
  | .hbm, ⟨34, _⟩ => ⟨S1x2048, .f32⟩
  | .hbm, ⟨35, _⟩ => ⟨S2048, .f32⟩
  | .hbm, ⟨36, _⟩ => ⟨S1x1x2048, .f32⟩
  | .hbm, ⟨37, _⟩ => ⟨S4x2048x2048, .f32⟩
  | .hbm, ⟨38, _⟩ => ⟨S4x2048x2048, .f32⟩
  | .hbm, ⟨39, _⟩ => ⟨S4x2048x2048, .f32⟩
  | .hbm, ⟨40, _⟩ => ⟨S4x2x2048, .f32⟩
  | .hbm, ⟨41, _⟩ => ⟨S4x2048x2048, .f32⟩
  | .hbm, ⟨42, _⟩ => ⟨S8192x2048, .f32⟩
  | .hbm, ⟨43, _⟩ => ⟨S8192x2048, .bf16⟩
  | _, _ => ⟨S8320x22528, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_cst : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_cst_0 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩

abbrev nD : Nat := 1
abbrev τ : Topo := Topo.v7x

variable {F : FTy → Type} [FloatOps F]
-- ==== Kernel5.lean ====
abbrev S8320x22528 : Shape := ⟨2, ![8320, 22528]⟩
abbrev S3x2048 : Shape := ⟨2, ![3, 2048]⟩
abbrev S128x2x2048 : Shape := ⟨3, ![128, 2, 2048]⟩
abbrev S128x1x2048 : Shape := ⟨3, ![128, 1, 2048]⟩
abbrev S128x2048 : Shape := ⟨2, ![128, 2048]⟩
abbrev S128x256 : Shape := ⟨2, ![128, 256]⟩
abbrev S3x256 : Shape := ⟨2, ![3, 256]⟩
abbrev S1x256 : Shape := ⟨2, ![1, 256]⟩

abbrev nBuf : Space → Nat
  | .hbm => 9
  | .vmem => 16
  | .smem => 0
  | _ => 0

abbrev bufTy : (tb : Table) → Fin (tcTables nBuf tb) → BufTy
  | .hbm, ⟨0, _⟩ => ⟨S8320x22528, .f32⟩
  | .hbm, ⟨1, _⟩ => ⟨S3x2048, .f32⟩
  | .hbm, ⟨2, _⟩ => ⟨S128x2x2048, .f32⟩
  | .hbm, ⟨3, _⟩ => ⟨S128x1x2048, .f32⟩
  | .hbm, ⟨4, _⟩ => ⟨S128x2048, .f32⟩
  | .hbm, ⟨5, _⟩ => ⟨S128x1x2048, .f32⟩
  | .hbm, ⟨6, _⟩ => ⟨S128x2048, .f32⟩
  | .hbm, ⟨7, _⟩ => ⟨S128x2048, .bf16⟩
  | .hbm, ⟨8, _⟩ => ⟨S128x2048, .f32⟩
  | .local _ .vmem, ⟨0, _⟩ => ⟨S128x256, .f32⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S3x256, .f32⟩
  | .local _ .vmem, ⟨11, _⟩ => ⟨S3x256, .f32⟩
  | .local _ .vmem, ⟨12, _⟩ => ⟨S128x256, .bf16⟩
  | .local _ .vmem, ⟨13, _⟩ => ⟨S128x256, .bf16⟩
  | .local _ .vmem, ⟨14, _⟩ => ⟨S128x256, .f32⟩
  | .local _ .vmem, ⟨15, _⟩ => ⟨S128x256, .f32⟩
  | _, _ => ⟨S8320x22528, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c32_i32 : BitVec 32 := 32#32
  let v0 : BitVec 32 := Scalar.addi c32_i32 arg0
  let c64_i32 : BitVec 32 := 64#32
  let c0_i32 : BitVec 32 := 0#32
  ![c64_i32.toNat, v0.toNat]

def cc0_transform_1 (i : grid0.Coords) : Fin 2 → Nat :=
  let arg0 : BitVec 32 := BitVec.ofNat 32 (i 0).val
  let c40_i32 : BitVec 32 := 40#32
  let v0 : BitVec 32 := Scalar.addi c40_i32 arg0
  let c64_i32 : BitVec 32 := 64#32
  let c0_i32 : BitVec 32 := 0#32
  ![c64_i32.toNat, v0.toNat]

def cc0_transform_2 (i : grid0.Coords) : Fin 2 → Nat :=
  let arg0 : BitVec 32 := BitVec.ofNat 32 (i 0).val
  let c48_i32 : BitVec 32 := 48#32
  let v0 : BitVec 32 := Scalar.addi c48_i32 arg0
  let c64_i32 : BitVec 32 := 64#32
  let c0_i32 : BitVec 32 := 0#32
  ![c64_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference5Ideal.lean ====
abbrev S8320x22528 : Shape := ⟨2, ![8320, 22528]⟩
abbrev S3x2048 : Shape := ⟨2, ![3, 2048]⟩
abbrev S128x2x2048 : Shape := ⟨3, ![128, 2, 2048]⟩
abbrev S128x22528 : Shape := ⟨2, ![128, 22528]⟩
abbrev S128x1x22528 : Shape := ⟨3, ![128, 1, 22528]⟩
abbrev S128x1x2048 : Shape := ⟨3, ![128, 1, 2048]⟩
abbrev S128x1x4096 : Shape := ⟨3, ![128, 1, 4096]⟩
abbrev S128x3x2048 : Shape := ⟨3, ![128, 3, 2048]⟩
abbrev S1x2048 : Shape := ⟨2, ![1, 2048]⟩
abbrev S2048 : Shape := ⟨1, ![2048]⟩
abbrev S1x1x2048 : Shape := ⟨3, ![1, 1, 2048]⟩
abbrev S_ : Shape := ⟨0, ![]⟩
abbrev S128x2048 : Shape := ⟨2, ![128, 2048]⟩

abbrev nBuf : Space → Nat
  | .hbm => 45
  | .vmem => 0
  | .smem => 0
  | _ => 0

abbrev bufTy : (tb : Table) → Fin (tcTables nBuf tb) → BufTy
  | .hbm, ⟨0, _⟩ => ⟨S8320x22528, .f32⟩
  | .hbm, ⟨1, _⟩ => ⟨S3x2048, .f32⟩
  | .hbm, ⟨2, _⟩ => ⟨S128x2x2048, .f32⟩
  | .hbm, ⟨3, _⟩ => ⟨S128x22528, .f32⟩
  | .hbm, ⟨4, _⟩ => ⟨S128x1x22528, .f32⟩
  | .hbm, ⟨5, _⟩ => ⟨S128x1x2048, .f32⟩
  | .hbm, ⟨6, _⟩ => ⟨S128x1x2048, .f32⟩
  | .hbm, ⟨7, _⟩ => ⟨S128x1x2048, .f32⟩
  | .hbm, ⟨8, _⟩ => ⟨S128x1x2048, .f32⟩
  | .hbm, ⟨9, _⟩ => ⟨S128x1x2048, .f32⟩
  | .hbm, ⟨10, _⟩ => ⟨S128x1x2048, .f32⟩
  | .hbm, ⟨11, _⟩ => ⟨S128x1x2048, .f32⟩
  | .hbm, ⟨12, _⟩ => ⟨S128x1x4096, .f32⟩
  | .hbm, ⟨13, _⟩ => ⟨S128x1x4096, .f32⟩
  | .hbm, ⟨14, _⟩ => ⟨S128x1x2048, .f32⟩
  | .hbm, ⟨15, _⟩ => ⟨S128x3x2048, .f32⟩
  | .hbm, ⟨16, _⟩ => ⟨S128x1x2048, .f32⟩
  | .hbm, ⟨17, _⟩ => ⟨S1x2048, .f32⟩
  | .hbm, ⟨18, _⟩ => ⟨S2048, .f32⟩
  | .hbm, ⟨19, _⟩ => ⟨S1x1x2048, .f32⟩
  | .hbm, ⟨20, _⟩ => ⟨S128x1x2048, .f32⟩
  | .hbm, ⟨21, _⟩ => ⟨S128x1x2048, .f32⟩
  | .hbm, ⟨22, _⟩ => ⟨S_, .f32⟩
  | .hbm, ⟨23, _⟩ => ⟨S128x1x2048, .f32⟩
  | .hbm, ⟨24, _⟩ => ⟨S128x1x2048, .f32⟩
  | .hbm, ⟨25, _⟩ => ⟨S128x1x2048, .f32⟩
  | .hbm, ⟨26, _⟩ => ⟨S1x2048, .f32⟩
  | .hbm, ⟨27, _⟩ => ⟨S2048, .f32⟩
  | .hbm, ⟨28, _⟩ => ⟨S1x1x2048, .f32⟩
  | .hbm, ⟨29, _⟩ => ⟨S128x1x2048, .f32⟩
  | .hbm, ⟨30, _⟩ => ⟨S128x1x2048, .f32⟩
  | .hbm, ⟨31, _⟩ => ⟨S128x1x2048, .f32⟩
  | .hbm, ⟨32, _⟩ => ⟨S128x1x2048, .f32⟩
  | .hbm, ⟨33, _⟩ => ⟨S1x2048, .f32⟩
  | .hbm, ⟨34, _⟩ => ⟨S2048, .f32⟩
  | .hbm, ⟨35, _⟩ => ⟨S1x1x2048, .f32⟩
  | .hbm, ⟨36, _⟩ => ⟨S128x1x2048, .f32⟩
  | .hbm, ⟨37, _⟩ => ⟨S128x1x2048, .f32⟩
  | .hbm, ⟨38, _⟩ => ⟨S128x1x2048, .f32⟩
  | .hbm, ⟨39, _⟩ => ⟨S128x2x2048, .f32⟩
  | .hbm, ⟨40, _⟩ => ⟨S128x1x2048, .f32⟩
  | .hbm, ⟨41, _⟩ => ⟨S128x2048, .f32⟩
  | .hbm, ⟨42, _⟩ => ⟨S128x2048, .bf16⟩
  | .hbm, ⟨43, _⟩ => ⟨S128x1x2048, .f32⟩
  | .hbm, ⟨44, _⟩ => ⟨S128x2048, .f32⟩
  | _, _ => ⟨S8320x22528, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_cst : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩

abbrev nD : Nat := 1
abbrev τ : Topo := Topo.v7x

variable {F : FTy → Type} [FloatOps F]
-- ==== Kernel6.lean ====
abbrev S8320x4096 : Shape := ⟨2, ![8320, 4096]⟩
abbrev S4096x4096 : Shape := ⟨2, ![4096, 4096]⟩
abbrev S640x4096 : Shape := ⟨2, ![640, 4096]⟩
abbrev S4096x1024 : Shape := ⟨2, ![4096, 1024]⟩
abbrev S640x1024 : Shape := ⟨2, ![640, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8320x4096, .bf16⟩
  | .hbm, ⟨1, _⟩ => ⟨S4096x4096, .bf16⟩
  | .hbm, ⟨2, _⟩ => ⟨S8320x4096, .bf16⟩
  | .local _ .vmem, ⟨0, _⟩ => ⟨S640x4096, .bf16⟩
  | .local _ .vmem, ⟨1, _⟩ => ⟨S640x4096, .bf16⟩
  | .local _ .vmem, ⟨2, _⟩ => ⟨S4096x1024, .bf16⟩
  | .local _ .vmem, ⟨3, _⟩ => ⟨S4096x1024, .bf16⟩
  | .local _ .vmem, ⟨4, _⟩ => ⟨S640x1024, .bf16⟩
  | .local _ .vmem, ⟨5, _⟩ => ⟨S640x1024, .bf16⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![13, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S640x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S640x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S8320x4096 : Shape := ⟨2, ![8320, 4096]⟩
abbrev S4096x4096 : Shape := ⟨2, ![4096, 4096]⟩

abbrev nBuf : Space → Nat
  | .hbm => 6
  | .vmem => 0
  | .smem => 0
  | _ => 0

abbrev bufTy : (tb : Table) → Fin (tcTables nBuf tb) → BufTy
  | .hbm, ⟨0, _⟩ => ⟨S8320x4096, .bf16⟩
  | .hbm, ⟨1, _⟩ => ⟨S4096x4096, .bf16⟩
  | .hbm, ⟨2, _⟩ => ⟨S8320x4096, .f32⟩
  | .hbm, ⟨3, _⟩ => ⟨S4096x4096, .f32⟩
  | .hbm, ⟨4, _⟩ => ⟨S8320x4096, .f32⟩
  | .hbm, ⟨5, _⟩ => ⟨S8320x4096, .bf16⟩
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel7.lean ====
abbrev S16x4096 : Shape := ⟨2, ![16, 4096]⟩
abbrev S128x4096 : Shape := ⟨2, ![128, 4096]⟩
abbrev S4096x24576 : Shape := ⟨2, ![4096, 24576]⟩
abbrev S24576 : Shape := ⟨1, ![24576]⟩
abbrev S1x24576 : Shape := ⟨2, ![1, 24576]⟩
abbrev S16x24576 : Shape := ⟨2, ![16, 24576]⟩
abbrev S128x24576 : Shape := ⟨2, ![128, 24576]⟩
abbrev S4096x512 : Shape := ⟨2, ![4096, 512]⟩
abbrev S1x512 : Shape := ⟨2, ![1, 512]⟩
abbrev S16x512 : Shape := ⟨2, ![16, 512]⟩
abbrev S128x512 : Shape := ⟨2, ![128, 512]⟩

abbrev nBuf : Space → Nat
  | .hbm => 7
  | .vmem => 10
  | .smem => 0
  | _ => 0

abbrev bufTy : (tb : Table) → Fin (tcTables nBuf tb) → BufTy
  | .hbm, ⟨0, _⟩ => ⟨S16x4096, .f32⟩
  | .hbm, ⟨1, _⟩ => ⟨S128x4096, .f32⟩
  | .hbm, ⟨2, _⟩ => ⟨S4096x24576, .f32⟩
  | .hbm, ⟨3, _⟩ => ⟨S24576, .f32⟩
  | .hbm, ⟨4, _⟩ => ⟨S1x24576, .f32⟩
  | .hbm, ⟨5, _⟩ => ⟨S16x24576, .f32⟩
  | .hbm, ⟨6, _⟩ => ⟨S128x24576, .f32⟩
  | .local _ .vmem, ⟨0, _⟩ => ⟨S16x4096, .f32⟩
  | .local _ .vmem, ⟨1, _⟩ => ⟨S128x4096, .f32⟩
  | .local _ .vmem, ⟨2, _⟩ => ⟨S4096x512, .f32⟩
  | .local _ .vmem, ⟨3, _⟩ => ⟨S4096x512, .f32⟩
  | .local _ .vmem, ⟨4, _⟩ => ⟨S1x512, .f32⟩
  | .local _ .vmem, ⟨5, _⟩ => ⟨S1x512, .f32⟩
  | .local _ .vmem, ⟨6, _⟩ => ⟨S16x512, .f32⟩
  | .local _ .vmem, ⟨7, _⟩ => ⟨S16x512, .f32⟩
  | .local _ .vmem, ⟨8, _⟩ => ⟨S128x512, .f32⟩
  | .local _ .vmem, ⟨9, _⟩ => ⟨S128x512, .f32⟩
  | _, _ => ⟨S16x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![48], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference7Ideal.lean ====
abbrev S16x4096 : Shape := ⟨2, ![16, 4096]⟩
abbrev S128x4096 : Shape := ⟨2, ![128, 4096]⟩
abbrev S4096x24576 : Shape := ⟨2, ![4096, 24576]⟩
abbrev S24576 : Shape := ⟨1, ![24576]⟩
abbrev S_ : Shape := ⟨0, ![]⟩
abbrev S16x24576 : Shape := ⟨2, ![16, 24576]⟩
abbrev S1x24576 : Shape := ⟨2, ![1, 24576]⟩
abbrev S128x24576 : Shape := ⟨2, ![128, 24576]⟩

abbrev nBuf : Space → Nat
  | .hbm => 30
  | .vmem => 0
  | .smem => 0
  | _ => 0

abbrev bufTy : (tb : Table) → Fin (tcTables nBuf tb) → BufTy
  | .hbm, ⟨0, _⟩ => ⟨S16x4096, .f32⟩
  | .hbm, ⟨1, _⟩ => ⟨S128x4096, .f32⟩
  | .hbm, ⟨2, _⟩ => ⟨S4096x24576, .f32⟩
  | .hbm, ⟨3, _⟩ => ⟨S24576, .f32⟩
  | .hbm, ⟨4, _⟩ => ⟨S16x4096, .f32⟩
  | .hbm, ⟨5, _⟩ => ⟨S16x4096, .f32⟩
  | .hbm, ⟨6, _⟩ => ⟨S_, .f32⟩
  | .hbm, ⟨7, _⟩ => ⟨S16x4096, .f32⟩
  | .hbm, ⟨8, _⟩ => ⟨S16x4096, .f32⟩
  | .hbm, ⟨9, _⟩ => ⟨S_, .f32⟩
  | .hbm, ⟨10, _⟩ => ⟨S16x4096, .f32⟩
  | .hbm, ⟨11, _⟩ => ⟨S16x4096, .f32⟩
  | .hbm, ⟨12, _⟩ => ⟨S16x4096, .f32⟩
  | .hbm, ⟨13, _⟩ => ⟨S16x24576, .f32⟩
  | .hbm, ⟨14, _⟩ => ⟨S1x24576, .f32⟩
  | .hbm, ⟨15, _⟩ => ⟨S16x24576, .f32⟩
  | .hbm, ⟨16, _⟩ => ⟨S16x24576, .f32⟩
  | .hbm, ⟨17, _⟩ => ⟨S128x4096, .f32⟩
  | .hbm, ⟨18, _⟩ => ⟨S128x4096, .f32⟩
  | .hbm, ⟨19, _⟩ => ⟨S_, .f32⟩
  | .hbm, ⟨20, _⟩ => ⟨S128x4096, .f32⟩
  | .hbm, ⟨21, _⟩ => ⟨S128x4096, .f32⟩
  | .hbm, ⟨22, _⟩ => ⟨S_, .f32⟩
  | .hbm, ⟨23, _⟩ => ⟨S128x4096, .f32⟩
  | .hbm, ⟨24, _⟩ => ⟨S128x4096, .f32⟩
  | .hbm, ⟨25, _⟩ => ⟨S128x4096, .f32⟩
  | .hbm, ⟨26, _⟩ => ⟨S128x24576, .f32⟩
  | .hbm, ⟨27, _⟩ => ⟨S1x24576, .f32⟩
  | .hbm, ⟨28, _⟩ => ⟨S128x24576, .f32⟩
  | .hbm, ⟨29, _⟩ => ⟨S128x24576, .f32⟩
  | _, _ => ⟨S16x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call1_v0 : Ref sig .tc := ⟨.hbm, 17, rfl⟩
abbrev main_call1_v1 : Ref sig .tc := ⟨.hbm, 18, rfl⟩
abbrev main_call1_cst : Ref sig .tc := ⟨.hbm, 19, rfl⟩
abbrev main_call1_v2 : Ref sig .tc := ⟨.hbm, 20, rfl⟩
abbrev main_call1_v3 : Ref sig .tc := ⟨.hbm, 21, rfl⟩
abbrev main_call1_cst_0 : Ref sig .tc := ⟨.hbm, 22, rfl⟩
abbrev main_call1_v4 : Ref sig .tc := ⟨.hbm, 23, rfl⟩
abbrev main_call1_v5 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩

abbrev nD : Nat := 1
abbrev τ : Topo := Topo.v7x

variable {F : FTy → Type} [FloatOps F]
-- ==== Kernel8.lean ====
abbrev S8320x4096 : Shape := ⟨2, ![8320, 4096]⟩
abbrev S8192x4096 : Shape := ⟨2, ![8192, 4096]⟩
abbrev S128x4096 : Shape := ⟨2, ![128, 4096]⟩
abbrev S4096 : Shape := ⟨1, ![4096]⟩
abbrev S16x24576 : Shape := ⟨2, ![16, 24576]⟩
abbrev S128x24576 : Shape := ⟨2, ![128, 24576]⟩
abbrev S4096x2048 : Shape := ⟨2, ![4096, 2048]⟩
abbrev S8x2x128x128 : Shape := ⟨4, ![8, 2, 128, 128]⟩
abbrev S1x4096 : Shape := ⟨2, ![1, 4096]⟩
abbrev S16x1x24576 : Shape := ⟨3, ![16, 1, 24576]⟩
abbrev S8x128x8320 : Shape := ⟨3, ![8, 128, 8320]⟩
abbrev S1x1x4096 : Shape := ⟨3, ![1, 1, 4096]⟩
abbrev S8x128x128 : Shape := ⟨3, ![8, 128, 128]⟩
abbrev S128 : Shape := ⟨1, ![128]⟩
abbrev S128x1 : Shape := ⟨2, ![128, 1]⟩
abbrev S128x2048 : Shape := ⟨2, ![128, 2048]⟩
abbrev S1x1x128x128 : Shape := ⟨4, ![1, 1, 128, 128]⟩
abbrev S128x128 : Shape := ⟨2, ![128, 128]⟩
abbrev S1x128x128 : Shape := ⟨3, ![1, 128, 128]⟩

abbrev nBuf : Space → Nat
  | .hbm => 17
  | .vmem => 26
  | .smem => 0
  | _ => 0

abbrev bufTy : (tb : Table) → Fin (tcTables nBuf tb) → BufTy
  | .hbm, ⟨0, _⟩ => ⟨S8320x4096, .bf16⟩
  | .hbm, ⟨1, _⟩ => ⟨S8192x4096, .f32⟩
  | .hbm, ⟨2, _⟩ => ⟨S128x4096, .f32⟩
  | .hbm, ⟨3, _⟩ => ⟨S4096, .f32⟩
  | .hbm, ⟨4, _⟩ => ⟨S4096, .f32⟩
  | .hbm, ⟨5, _⟩ => ⟨S16x24576, .f32⟩
  | .hbm, ⟨6, _⟩ => ⟨S128x24576, .f32⟩
  | .hbm, ⟨7, _⟩ => ⟨S4096x2048, .bf16⟩
  | .hbm, ⟨8, _⟩ => ⟨S8x2x128x128, .f32⟩
  | .hbm, ⟨9, _⟩ => ⟨S1x4096, .f32⟩
  | .hbm, ⟨10, _⟩ => ⟨S1x4096, .f32⟩
  | .hbm, ⟨11, _⟩ => ⟨S16x1x24576, .f32⟩
  | .hbm, ⟨12, _⟩ => ⟨S8x2x128x128, .bf16⟩
  | .hbm, ⟨13, _⟩ => ⟨S8320x4096, .f32⟩
  | .hbm, ⟨14, _⟩ => ⟨S8320x4096, .bf16⟩
  | .hbm, ⟨15, _⟩ => ⟨S8x128x8320, .f32⟩
  | .hbm, ⟨16, _⟩ => ⟨S8x128x8320, .f32⟩
  | .local _ .vmem, ⟨0, _⟩ => ⟨S128x4096, .bf16⟩
  | .local _ .vmem, ⟨1, _⟩ => ⟨S128x4096, .bf16⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S1x4096, .f32⟩
  | .local _ .vmem, ⟨6, _⟩ => ⟨S1x4096, .f32⟩
  | .local _ .vmem, ⟨7, _⟩ => ⟨S1x1x4096, .f32⟩
  | .local _ .vmem, ⟨8, _⟩ => ⟨S1x1x4096, .f32⟩
  | .local _ .vmem, ⟨9, _⟩ => ⟨S1x1x4096, .f32⟩
  | .local _ .vmem, ⟨10, _⟩ => ⟨S1x1x4096, .f32⟩
  | .local _ .vmem, ⟨11, _⟩ => ⟨S1x1x4096, .f32⟩
  | .local _ .vmem, ⟨12, _⟩ => ⟨S1x1x4096, .f32⟩
  | .local _ .vmem, ⟨13, _⟩ => ⟨S128x4096, .f32⟩
  | .local _ .vmem, ⟨14, _⟩ => ⟨S128x4096, .f32⟩
  | .local _ .vmem, ⟨15, _⟩ => ⟨S128x4096, .f32⟩
  | .local _ .vmem, ⟨16, _⟩ => ⟨S4096x2048, .bf16⟩
  | .local _ .vmem, ⟨17, _⟩ => ⟨S8x2x128x128, .bf16⟩
  | .local _ .vmem, ⟨18, _⟩ => ⟨S128x4096, .f32⟩
  | .local _ .vmem, ⟨19, _⟩ => ⟨S128x4096, .f32⟩
  | .local _ .vmem, ⟨20, _⟩ => ⟨S128x4096, .bf16⟩
  | .local _ .vmem, ⟨21, _⟩ => ⟨S128x4096, .bf16⟩
  | .local _ .vmem, ⟨22, _⟩ => ⟨S8x128x128, .f32⟩
  | .local _ .vmem, ⟨23, _⟩ => ⟨S8x128x128, .f32⟩
  | .local _ .vmem, ⟨24, _⟩ => ⟨S8x128x128, .f32⟩
  | .local _ .vmem, ⟨25, _⟩ => ⟨S8x128x128, .f32⟩
  | _, _ => ⟨S8320x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4_0 : Ref sig .tc := ⟨.hbm, 13, rfl⟩
abbrev main_v4_1 : Ref sig .tc := ⟨.hbm, 14, rfl⟩
abbrev main_v4_2 : Ref sig .tc := ⟨.hbm, 15, rfl⟩
abbrev main_v4_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c64_i32 : BitVec 32 := 64#32
  let v0 : BitVec 1 := Scalar.cmpi .slt arg0 c64_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c64_i32_0 : BitVec 32 := 64#32
  let v3 : BitVec 1 := Scalar.cmpi .sge arg0 c64_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c2_i32 : BitVec 32 := 2#32
  let c0_i32_5 : BitVec 32 := 0#32
  ![v17.toNat, c0_i32_4.toNat, c2_i32.toNat]

def cc0_transform_6 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c4_i32 : BitVec 32 := 4#32
  let c0_i32_5 : BitVec 32 := 0#32
  ![v17.toNat, c0_i32_4.toNat, c4_i32.toNat]

def cc0_transform_7 (i : grid0.Coords) : Fin 3 → Nat :=
  let arg0 : BitVec 32 := BitVec.ofNat 32 (i 0).val
  let c63_i32 : BitVec 32 := 63#32
  let v0 : BitVec 32 := Scalar.minsi arg0 c63_i32
  let c16_i32 : BitVec 32 := 16#32
  let v1 : BitVec 32 := Scalar.divsi v0 c16_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c16_i32 c0_i32_1
  let v8 : BitVec 32 := Scalar.extui v7
  let c0_i32_2 : BitVec 32 := 0#32
  let v9 : BitVec 1 := Scalar.cmpi .slt c16_i32 c0_i32_2
  let v10 : BitVec 32 := Scalar.extui v9
  let v11 : BitVec 32 := Scalar.subi v8 v10
  let v12 : BitVec 1 := Scalar.cmpi .ne v6 v11
  let v13 : BitVec 32 := Scalar.remsi v0 c16_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c3_i32 : BitVec 32 := 3#32
  let c0_i32_5 : BitVec 32 := 0#32
  ![v17.toNat, c0_i32_4.toNat, c3_i32.toNat]

def cc0_transform_8 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_9 (i : grid0.Coords) : Fin 2 → Nat :=
  let arg0 : BitVec 32 := BitVec.ofNat 32 (i 0).val
  let c0_i32 : BitVec 32 := 0#32
  let c4_i32 : BitVec 32 := 4#32
  let c0_i32_0 : BitVec 32 := 0#32
  ![c0_i32.toNat, c4_i32.toNat]

def cc0_transform_10 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S128x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S128x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x4096 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S4096x2048 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x2x128x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S128x4096 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S8x128x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Reference8Ideal.lean ====
abbrev S8320x4096 : Shape := ⟨2, ![8320, 4096]⟩
abbrev S8192x4096 : Shape := ⟨2, ![8192, 4096]⟩
abbrev S128x4096 : Shape := ⟨2, ![128, 4096]⟩
abbrev S4096 : Shape := ⟨1, ![4096]⟩
abbrev S16x24576 : Shape := ⟨2, ![16, 24576]⟩
abbrev S128x24576 : Shape := ⟨2, ![128, 24576]⟩
abbrev S4096x2048 : Shape := ⟨2, ![4096, 2048]⟩
abbrev S8x2x128x128 : Shape := ⟨4, ![8, 2, 128, 128]⟩
abbrev S4x2048x4096 : Shape := ⟨3, ![4, 2048, 4096]⟩
abbrev S4x24576 : Shape := ⟨2, ![4, 24576]⟩
abbrev S4x1x24576 : Shape := ⟨3, ![4, 1, 24576]⟩
abbrev S4x1x4096 : Shape := ⟨3, ![4, 1, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S8192x2048 : Shape := ⟨2, ![8192, 2048]⟩
abbrev S8192x8x2x128 : Shape := ⟨4, ![8192, 8, 2, 128]⟩
abbrev S8x2x128x8192 : Shape := ⟨4, ![8, 2, 128, 8192]⟩
abbrev S8192x8x1x128 : Shape := ⟨4, ![8192, 8, 1, 128]⟩
abbrev S8192x8x128 : Shape := ⟨3, ![8192, 8, 128]⟩
abbrev S128x1x4096 : Shape := ⟨3, ![128, 1, 4096]⟩
abbrev S128x1x24576 : Shape := ⟨3, ![128, 1, 24576]⟩
abbrev S128x1 : Shape := ⟨2, ![128, 1]⟩
abbrev S128x1x1 : Shape := ⟨3, ![128, 1, 1]⟩
abbrev S128x2048 : Shape := ⟨2, ![128, 2048]⟩
abbrev S128x8x2x128 : Shape := ⟨4, ![128, 8, 2, 128]⟩
abbrev S128x8x1x128 : Shape := ⟨4, ![128, 8, 1, 128]⟩
abbrev S128x8x128 : Shape := ⟨3, ![128, 8, 128]⟩
abbrev S8320x8x128 : Shape := ⟨3, ![8320, 8, 128]⟩
abbrev S8x128x8320 : Shape := ⟨3, ![8, 128, 8320]⟩

abbrev nBuf : Space → Nat
  | .hbm => 141
  | .vmem => 0
  | .smem => 0
  | _ => 0

abbrev hbmTy0_0 (i : Nat) : BufTy := match i % 128 with
  | 0 => ⟨S8320x4096, .bf16⟩
  | 1 => ⟨S8192x4096, .f32⟩
  | 2 => ⟨S128x4096, .f32⟩
  | 3 => ⟨S4096, .f32⟩
  | 4 => ⟨S4096, .f32⟩
  | 5 => ⟨S16x24576, .f32⟩
  | 6 => ⟨S128x24576, .f32⟩
  | 7 => ⟨S4096x2048, .bf16⟩
  | 8 => ⟨S8x2x128x128, .f32⟩
  | 9 => ⟨S8320x4096, .f32⟩
  | 10 => ⟨S4x2048x4096, .f32⟩
  | 11 => ⟨S8192x4096, .f32⟩
  | 12 => ⟨S4x24576, .f32⟩
  | 13 => ⟨S4x1x24576, .f32⟩
  | 14 => ⟨S4x1x4096, .f32⟩
  | 15 => ⟨S4x1x4096, .f32⟩
  | 16 => ⟨S4x1x4096, .f32⟩
  | 17 => ⟨S4x1x4096, .f32⟩
  | 18 => ⟨S4x1x4096, .f32⟩
  | 19 => ⟨S4x1x4096, .f32⟩
  | 20 => ⟨S4x2048x4096, .f32⟩
  | 21 => ⟨S4x2048x4096, .f32⟩
  | 22 => ⟨S_, .f32⟩
  | 23 => ⟨S4x2048, .f32⟩
  | 24 => ⟨S4x2048x1, .f32⟩
  | 25 => ⟨S_, .f32⟩
  | 26 => ⟨S4x2048x1, .f32⟩
  | 27 => ⟨S4x2048x1, .f32⟩
  | 28 => ⟨S_, .f32⟩
  | 29 => ⟨S4x2048x1, .f32⟩
  | 30 => ⟨S4x2048x1, .f32⟩
  | 31 => ⟨S4x2048x1, .f32⟩
  | 32 => ⟨S4x2048x4096, .f32⟩
  | 33 => ⟨S4x2048x4096, .f32⟩
  | 34 => ⟨S1x1x4096, .f32⟩
  | 35 => ⟨S4x2048x4096, .f32⟩
  | 36 => ⟨S4x2048x4096, .f32⟩
  | 37 => ⟨S4x2048x4096, .f32⟩
  | 38 => ⟨S4x2048x4096, .f32⟩
  | 39 => ⟨S4x2048x4096, .f32⟩
  | 40 => ⟨S4x2048x4096, .f32⟩
  | 41 => ⟨S_, .f32⟩
  | 42 => ⟨S4x2048, .f32⟩
  | 43 => ⟨S4x2048x1, .f32⟩
  | 44 => ⟨S_, .f32⟩
  | 45 => ⟨S4x2048x1, .f32⟩
  | 46 => ⟨S4x2048x1, .f32⟩
  | 47 => ⟨S_, .f32⟩
  | 48 => ⟨S4x2048x1, .f32⟩
  | 49 => ⟨S4x2048x1, .f32⟩
  | 50 => ⟨S4x2048x1, .f32⟩
  | 51 => ⟨S4x2048x4096, .f32⟩
  | 52 => ⟨S4x2048x4096, .f32⟩
  | 53 => ⟨S1x1x4096, .f32⟩
  | 54 => ⟨S4x2048x4096, .f32⟩
  | 55 => ⟨S4x2048x4096, .f32⟩
  | 56 => ⟨S_, .f32⟩
  | 57 => ⟨S4x1x4096, .f32⟩
  | 58 => ⟨S4x1x4096, .f32⟩
  | 59 => ⟨S4x2048x4096, .f32⟩
  | 60 => ⟨S4x2048x4096, .f32⟩
  | 61 => ⟨S4x2048x4096, .f32⟩
  | 62 => ⟨S4x2048x4096, .f32⟩
  | 63 => ⟨S8192x4096, .f32⟩
  | 64 => ⟨S4096x2048, .f32⟩
  | 65 => ⟨S8192x2048, .f32⟩
  | 66 => ⟨S8192x8x2x128, .f32⟩
  | 67 => ⟨S8x2x128x8192, .f32⟩
  | 68 => ⟨S8192x8x2x128, .f32⟩
  | 69 => ⟨S8192x4096, .f32⟩
  | 70 => ⟨S8192x8x1x128, .f32⟩
  | 71 => ⟨S8192x8x128, .f32⟩
  | 72 => ⟨S8192x8x1x128, .f32⟩
  | 73 => ⟨S8192x8x128, .f32⟩
  | 74 => ⟨S128x1x4096, .f32⟩
  | 75 => ⟨S128x4096, .f32⟩
  | 76 => ⟨S128x1x24576, .f32⟩
  | 77 => ⟨S128x1x4096, .f32⟩
  | 78 => ⟨S128x1x4096, .f32⟩
  | 79 => ⟨S128x1x4096, .f32⟩
  | 80 => ⟨S128x1x4096, .f32⟩
  | 81 => ⟨S128x1x4096, .f32⟩
  | 82 => ⟨S128x1x4096, .f32⟩
  | 83 => ⟨S128x1x4096, .f32⟩
  | 84 => ⟨S128x1x4096, .f32⟩
  | 85 => ⟨S_, .f32⟩
  | 86 => ⟨S128x1, .f32⟩
  | 87 => ⟨S128x1x1, .f32⟩
  | 88 => ⟨S_, .f32⟩
  | 89 => ⟨S128x1x1, .f32⟩
  | 90 => ⟨S128x1x1, .f32⟩
  | 91 => ⟨S_, .f32⟩
  | 92 => ⟨S128x1x1, .f32⟩
  | 93 => ⟨S128x1x1, .f32⟩
  | 94 => ⟨S128x1x1, .f32⟩
  | 95 => ⟨S128x1x4096, .f32⟩
  | 96 => ⟨S128x1x4096, .f32⟩
  | 97 => ⟨S1x1x4096, .f32⟩
  | 98 => ⟨S128x1x4096, .f32⟩
  | 99 => ⟨S128x1x4096, .f32⟩
  | 100 => ⟨S128x1x4096, .f32⟩
  | 101 => ⟨S128x1x4096, .f32⟩
  | 102 => ⟨S128x1x4096, .f32⟩
  | 103 => ⟨S_, .f32⟩
  | 104 => ⟨S128x1, .f32⟩
  | 105 => ⟨S128x1x1, .f32⟩
  | 106 => ⟨S_, .f32⟩
  | 107 => ⟨S128x1x1, .f32⟩
  | 108 => ⟨S128x1x1, .f32⟩
  | 109 => ⟨S_, .f32⟩
  | 110 => ⟨S128x1x1, .f32⟩
  | 111 => ⟨S128x1x1, .f32⟩
  | 112 => ⟨S128x1x1, .f32⟩
  | 113 => ⟨S128x1x4096, .f32⟩
  | 114 => ⟨S128x1x4096, .f32⟩
  | 115 => ⟨S1x1x4096, .f32⟩
  | 116 => ⟨S128x1x4096, .f32⟩
  | 117 => ⟨S128x1x4096, .f32⟩
  | 118 => ⟨S_, .f32⟩
  | 119 => ⟨S128x1x4096, .f32⟩
  | 120 => ⟨S128x1x4096, .f32⟩
  | 121 => ⟨S128x1x4096, .f32⟩
  | 122 => ⟨S128x1x4096, .f32⟩
  | 123 => ⟨S128x4096, .f32⟩
  | 124 => ⟨S4096x2048, .f32⟩
  | 125 => ⟨S128x2048, .f32⟩
  | 126 => ⟨S128x8x2x128, .f32⟩
  | 127 => ⟨S8x2x128x128, .f32⟩
  | _ => ⟨S8320x4096, .bf16⟩

abbrev hbmTy0_1 (i : Nat) : BufTy := match i % 128 with
  | 0 => ⟨S128x8x2x128, .f32⟩
  | 1 => ⟨S128x4096, .f32⟩
  | 2 => ⟨S128x8x1x128, .f32⟩
  | 3 => ⟨S128x8x128, .f32⟩
  | 4 => ⟨S128x8x1x128, .f32⟩
  | 5 => ⟨S128x8x128, .f32⟩
  | 6 => ⟨S8320x4096, .f32⟩
  | 7 => ⟨S8320x4096, .f32⟩
  | 8 => ⟨S8320x4096, .bf16⟩
  | 9 => ⟨S8320x8x128, .f32⟩
  | 10 => ⟨S8x128x8320, .f32⟩
  | 11 => ⟨S8320x8x128, .f32⟩
  | 12 => ⟨S8x128x8320, .f32⟩
  | _ => ⟨S8320x4096, .bf16⟩

abbrev hbmTy (i : Nat) : BufTy := match i / 128 with
  | 0 => hbmTy0_0 i
  | 1 => hbmTy0_1 i
  | _ => ⟨S8320x4096, .bf16⟩

abbrev bufTy : (tb : Table) → Fin (tcTables nBuf tb) → BufTy
  | .hbm, ⟨i, _⟩ => hbmTy i
  | _, _ => ⟨S8320x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_2 : Ref sig .tc := ⟨.hbm, 41, rfl⟩
abbrev main_v29 : Ref sig .tc := ⟨.hbm, 42, rfl⟩
abbrev main_v30 : Ref sig .tc := ⟨.hbm, 43, rfl⟩
abbrev main_cst_3 : Ref sig .tc := ⟨.hbm, 44, rfl⟩
abbrev main_v31 : Ref sig .tc := ⟨.hbm, 45, rfl⟩
abbrev main_v32 : Ref sig .tc := ⟨.hbm, 46, rfl⟩
abbrev main_cst_4 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_5 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_cst_6 : Ref sig .tc := ⟨.hbm, 85, rfl⟩
abbrev main_v69 : Ref sig .tc := ⟨.hbm, 86, rfl⟩
abbrev main_v70 : Ref sig .tc := ⟨.hbm, 87, rfl⟩
abbrev main_cst_7 : Ref sig .tc := ⟨.hbm, 88, rfl⟩
abbrev main_v71 : Ref sig .tc := ⟨.hbm, 89, rfl⟩
abbrev main_v72 : Ref sig .tc := ⟨.hbm, 90, rfl⟩
abbrev main_cst_8 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_cst_9 : Ref sig .tc := ⟨.hbm, 103, rfl⟩
abbrev main_v84 : Ref sig .tc := ⟨.hbm, 104, rfl⟩
abbrev main_v85 : Ref sig .tc := ⟨.hbm, 105, rfl⟩
abbrev main_cst_10 : Ref sig .tc := ⟨.hbm, 106, rfl⟩
abbrev main_v86 : Ref sig .tc := ⟨.hbm, 107, rfl⟩
abbrev main_v87 : Ref sig .tc := ⟨.hbm, 108, rfl⟩
abbrev main_cst_11 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_cst_12 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_v114 : Ref sig .tc := ⟨.hbm, 137, rfl⟩
abbrev main_v115 : Ref sig .tc := ⟨.hbm, 138, rfl⟩
abbrev main_v116 : Ref sig .tc := ⟨.hbm, 139, rfl⟩
abbrev main_v117 : Ref sig .tc := ⟨.hbm, 140, rfl⟩

abbrev nD : Nat := 1
abbrev τ : Topo := Topo.v7x

variable {F : FTy → Type} [FloatOps F]
-- ==== Proof.Heads.lean ====
module

public import proofs.«01_k».proof.Proof.Gen.KernelIdeal.Value
public import Idealize.ShloMosaic.Lib.Pipeline.ValueKit

/-! One head of the prompt's recurrence, as a function of the head's column offset: the sixteen heads of the
    printed body are this function at the offsets 0, 128, …, 1920. -/

@[expose] public section

set_option maxRecDepth 16384

noncomputable section

namespace Cert.KernelIdeal.Heads

open Cert.KernelIdeal Cert.KernelIdeal.Gen Idealize.ShloMosaic Idealize.ShloMosaic.TcCoe

variable {F : FTy → Type} [FloatOps F]

/-! ### The chunk's shared vectors, over the blocks q (x0), forget logits (x1), bounds (x4), table (x6) -/

/-- the forget gates -/
abbrev fV (x1 : Vec F S128x2048 .f32) (x4 : Vec F S2x2048 .f32) : FVec F S128x2048 .f32 := k0_pay30 x4 x1
/-- the keys `1 - f` -/
abbrev kV (x1 : Vec F S128x2048 .f32) (x4 : Vec F S2x2048 .f32) : FVec F S128x2048 .f32 :=
  k0_pay33 (fV x1 x4) k0_pay32
/-- the logarithms of the gates -/
abbrev gV (x1 : Vec F S128x2048 .f32) (x4 : Vec F S2x2048 .f32) : FVec F S128x2048 .f32 := k0_pay31 x4 x1
/-- their prefix sums inside the chunk -/
abbrev cumV (x1 : Vec F S128x2048 .f32) (x4 : Vec F S2x2048 .f32) (x6 : Vec F S128x384 .bf16) :
    FVec F S128x2048 .f32 := k0_pay35 (gV x1 x4) x6
/-- row and column numbers of a score block, and row numbers of a chunk -/
abbrev ti : IVec S128x128 32 := iota .tc S128x128 32 [0] iota_S128x128_d0_w32
abbrev si : IVec S128x128 32 := iota .tc S128x128 32 [1] iota_S128x128_d1_w32
abbrev pos : IVec S128x2048 32 := iota .tc S128x2048 32 [0] iota_S128x2048_d0_w32

/-- the masks: the diagonal blocks, then the levels 64, 32, 16, 8, 4, 2 -/
abbrev msk : Fin 7 → IVec S128x128 1
  | 0 => k0_pay29 ti si
  | 1 => k0_pay21
  | 2 => k0_pay22
  | 3 => k0_pay24 ti si k0_pay23
  | 4 => k0_pay25 ti si
  | 5 => k0_pay26 ti si
  | 6 => k0_pay28 ti si (k0_pay27 ti) 2#32

/-- the scaled queries of each level -/
abbrev qL (x0 x1 : Vec F S128x2048 .f32) (x4 : Vec F S2x2048 .f32) (x6 : Vec F S128x384 .bf16) :
    Fin 7 → FVec F S128x2048 .bf16
  | 0 => k0_pay38 (fV x1 x4) x0
  | 1 => k0_pay41 (gV x1 x4) x0 x6
  | 2 => k0_pay45 x0 (k0_pay43 (gV x1 x4) x6)
  | 3 => k0_pay48 x0 (cumV x1 x4 x6)
  | 4 => k0_pay51 x0 (cumV x1 x4 x6)
  | 5 => k0_pay54 x0 (cumV x1 x4 x6)
  | 6 => k0_pay60 (fV x1 x4) x0 pos (k0_pay56 (fV x1 x4)) (k0_pay57 (fV x1 x4)) k0_pay58

/-- the scaled keys of each level -/
abbrev kL (x1 : Vec F S128x2048 .f32) (x4 : Vec F S2x2048 .f32) (x6 : Vec F S128x384 .bf16) :
    Fin 7 → FVec F S128x2048 .bf16
  | 0 => k0_pay39 (fV x1 x4) k0_pay32
  | 1 => k0_pay42 (fV x1 x4) (gV x1 x4) k0_pay32 x6
  | 2 => k0_pay46 (kV x1 x4) (k0_pay43 (gV x1 x4) x6)
  | 3 => k0_pay49 (kV x1 x4) (cumV x1 x4 x6)
  | 4 => k0_pay52 (kV x1 x4) (cumV x1 x4 x6)
  | 5 => k0_pay55 (kV x1 x4) (cumV x1 x4 x6)
  | 6 => k0_pay61 (fV x1 x4) (kV x1 x4) pos (k0_pay56 (fV x1 x4)) (k0_pay57 (fV x1 x4)) k0_pay58

/-- queries against the incoming state, keys into the outgoing one, the chunk's whole decay -/
abbrev qinV (x0 x1 : Vec F S128x2048 .f32) (x4 : Vec F S2x2048 .f32) (x6 : Vec F S128x384 .bf16) :
    FVec F S128x2048 .bf16 := k0_pay62 x0 (cumV x1 x4 x6)
abbrev lastV (x1 : Vec F S128x2048 .f32) (x4 : Vec F S2x2048 .f32) (x6 : Vec F S128x384 .bf16) :
    FVec F S1x2048 .f32 := k0_pay36 (gV x1 x4) x6
abbrev kstV (x1 : Vec F S128x2048 .f32) (x4 : Vec F S2x2048 .f32) (x6 : Vec F S128x384 .bf16) :
    FVec F S128x2048 .bf16 := k0_pay63 (kV x1 x4) (cumV x1 x4 x6) (lastV x1 x4 x6)
abbrev decV (x1 : Vec F S128x2048 .f32) (x4 : Vec F S2x2048 .f32) (x6 : Vec F S128x384 .bf16) :
    FVec F S1x2048 .f32 := k0_pay64 (lastV x1 x4 x6)

/-! ### One head -/

/-- the columns of one head -/
def sl {φ : FTy} (o : ℕ) (hs : S128x2048.Slices ![0, o] S128x128) (v : FVec F S128x2048 φ) : FVec F S128x128 φ :=
  extractStridedSlice S128x128 ![0, o] v hs

/-- one level's scores laid over the scores so far -/
def lay (M : IVec S128x128 1) (Q K : FVec F S128x128 .bf16) (prev : FVec F S128x128 .f32) : FVec F S128x128 .f32 :=
  select M (matmul dot_S128x128_S128x128_S128x128_1_1_0_0_n_n none Q K (constant S128x128 .f32 0x00000000#32)) prev

/-- the scores: the seven levels in turn -/
def scores (M : Fin 7 → IVec S128x128 1) (Q K : Fin 7 → FVec F S128x128 .bf16) : FVec F S128x128 .f32 :=
  lay (M 6) (Q 6) (K 6) (lay (M 5) (Q 5) (K 5) (lay (M 4) (Q 4) (K 4) (lay (M 3) (Q 3) (K 3) (lay (M 2) (Q 2) (K 2)
    (lay (M 1) (Q 1) (K 1) (lay (M 0) (Q 0) (K 0) (broadcast S128x128 (Scalar.ofBits .f32 0x00000000#32))))))))

/-- the head's output before its norm -/
def outp (A : FVec F S128x128 .f32) (v qin : FVec F S128x128 .bf16) (s : Vec F S1x128x128 .f32) :
    FVec F S128x128 .f32 :=
  addf (matmul dot_S128x128_S128x128_S128x128_1_0_0_1_n_n none (truncf .bf16 A bitsLt_bf16_f32) v
      (constant S128x128 .f32 0x00000000#32))
    (matmul dot_S128x128_S128x128_S128x128_1_1_0_0_n_n none qin
      (truncf .bf16 (shapeCast S128x128 s shapeCasts_S1x128x128_S128x128) bitsLt_bf16_f32)
      (constant S128x128 .f32 0x00000000#32))

/-- the norm over a head's lanes, the scale and the output gate -/
def gated (o : FVec F S128x128 .f32) (on : Vec F S1x128 .f32) (og : Vec F S128x128 .f32) : FVec F S128x128 .bf16 :=
  truncf .bf16 (mulf (mulf (mulf o (broadcastTo S128x128 (rsqrt (addf (divf (shapeCast S128x1
      (multiReduction .add [1] S128 (mulf o o) 0x00000000#32 reduces_S128x128_S128 (.inl rfl) rfl)
      shapeCasts_S128_S128x1) (broadcast S128x1 (Scalar.ofBits .f32 0x43000000#32)))
      (broadcast S128x1 (Scalar.ofBits .f32 0x358637BD#32)))) broadcasts_S128x1_S128x128))
    (broadcastTo S128x128 (shapeCast S1x128 on shapeCasts_S1x128_S1x128) broadcasts_S1x128_S128x128))
    (mulf og (logistic og))) bitsLt_bf16_f32

/-- the head's outgoing state: decayed, plus the chunk's values times keys -/
def newS (o : ℕ) (h1 : S1x2048.Slices ![0, o] S1x128) (dec : FVec F S1x2048 .f32) (v kst : FVec F S128x128 .bf16)
    (s : Vec F S1x128x128 .f32) : FVec F S1x128x128 .f32 :=
  shapeCast S1x128x128 (addf (mulf (broadcastTo S128x128 (extractStridedSlice S1x128 ![0, o] dec h1)
      broadcasts_S1x128_S128x128) (shapeCast S128x128 s shapeCasts_S1x128x128_S128x128))
    (matmul dot_S128x128_S128x128_S128x128_0_0_1_1_n_n none v kst (constant S128x128 .f32 0x00000000#32)))
    shapeCasts_S128x128_S1x128x128

/-- every column offset of a head is inside the row -/
theorem sls (h : Fin 16) : S128x2048.Slices ![0, 128 * h.val] S128x128 := by
  revert h; decide
theorem sls1 (h : Fin 16) : S1x2048.Slices ![0, 128 * h.val] S1x128 := by
  revert h; decide

/-- what head `h` stores in the state scratch -/
def hS (h : Fin 16) (x1 x2 : Vec F S128x2048 .f32) (x4 : Vec F S2x2048 .f32) (x6 : Vec F S128x384 .bf16)
    (s : Vec F S1x128x128 .f32) : FVec F S1x128x128 .f32 :=
  newS (128 * h.val) (sls1 h) (decV x1 x4 x6) (sl (128 * h.val) (sls h) (k0_pay34 x2))
    (sl (128 * h.val) (sls h) (kstV x1 x4 x6)) s

/-- the head's output before its norm, from the blocks -/
def hO (h : Fin 16) (x0 x1 x2 : Vec F S128x2048 .f32) (x4 : Vec F S2x2048 .f32) (x6 : Vec F S128x384 .bf16)
    (s : Vec F S1x128x128 .f32) : FVec F S128x128 .f32 :=
  outp (scores msk (fun l => sl (128 * h.val) (sls h) (qL x0 x1 x4 x6 l))
      (fun l => sl (128 * h.val) (sls h) (kL x1 x4 x6 l)))
    (sl (128 * h.val) (sls h) (k0_pay34 x2)) (sl (128 * h.val) (sls h) (qinV x0 x1 x4 x6)) s

/-- what head `h` stores in the output block -/
def hA (h : Fin 16) (x0 x1 x2 : Vec F S128x2048 .f32) (x4 : Vec F S2x2048 .f32) (x6 : Vec F S128x384 .bf16)
    (s : Vec F S1x128x128 .f32) (on : Vec F S1x128 .f32) (og : Vec F S128x128 .f32) : FVec F S128x128 .bf16 :=
  gated (hO h x0 x1 x2 x4 x6 s) on og

end Cert.KernelIdeal.Heads

end

end
-- ==== Proof.Recur.lean ====
module

public import Idealize.ShloMosaic.Lib.Pointwise

/-! The layer's gated recurrence over the reals, one step per token, and its chunked form. -/

@[expose] public section

noncomputable section

namespace Cert.Recur

open Real

/-- one entry of the state after `n` tokens: decay by the gate, add key times value -/
def st (f k v : ℕ → ℝ) : ℕ → ℝ
  | 0 => 0
  | n + 1 => f n * st f k v n + k n * v n

/-- the sum of the logarithms of the gates of the tokens `n … n + r - 1` -/
def cumL (f : ℕ → ℝ) (n r : ℕ) : ℝ := ∑ u ∈ Finset.range r, log (f (n + u))

theorem cumL_succ (f : ℕ → ℝ) (n r : ℕ) : cumL f n (r + 1) = cumL f n r + log (f (n + r)) :=
  Finset.sum_range_succ _ _

theorem cumL_anti (f : ℕ → ℝ) (h0 : ∀ i, 0 < f i) (h1 : ∀ i, f i ≤ 1) (n : ℕ) {a b : ℕ} (h : a ≤ b) :
    cumL f n b ≤ cumL f n a := by
  induction b, h using Nat.le_induction with
  | base => exact le_rfl
  | succ b _ ih =>
    rw [cumL_succ]
    have := log_nonpos (h0 (n + b)).le (h1 (n + b))
    linarith

/-- the state `r` tokens into a chunk -/
theorem st_chunk (f k v : ℕ → ℝ) (h0 : ∀ i, 0 < f i) (n r : ℕ) :
    st f k v (n + r) = exp (cumL f n r) * st f k v n
      + ∑ s ∈ Finset.range r, exp (cumL f n r - cumL f n (s + 1)) * k (n + s) * v (n + s) := by
  induction r with
  | zero => simp [cumL]
  | succ r ih =>
    rw [← Nat.add_assoc, st, ih, Finset.sum_range_succ, sub_self, exp_zero, one_mul, mul_add, ← mul_assoc,
      Finset.mul_sum, ← add_assoc]
    congr 1
    congr 1
    · rw [cumL_succ, exp_add, exp_log (h0 _)]; ring
    · refine Finset.sum_congr rfl fun s _ => ?_
      rw [cumL_succ f n r, add_sub_right_comm, exp_add, exp_log (h0 _)]; ring

/-- a whole chunk's step, as both programs write it -/
theorem chunk_state (f k v : ℕ → ℝ) (h0 : ∀ i, 0 < f i) (C n : ℕ) :
    exp (cumL f n C) * st f k v n
      + ∑ s : Fin C, k (n + s) * exp (cumL f n C - cumL f n (s + 1)) * v (n + s) = st f k v (n + C) := by
  rw [st_chunk f k v h0 n C, ← Fin.sum_univ_eq_sum_range (fun s => exp (cumL f n C - cumL f n (s + 1)) * k (n + s) * v (n + s))]
  congr 1
  exact Finset.sum_congr rfl fun s _ => by ring

theorem chunk_state' (f k v : ℕ → ℝ) (h0 : ∀ i, 0 < f i) (C n : ℕ) :
    exp (cumL f n C) * st f k v n
      + ∑ s : Fin C, v (n + s) * (k (n + s) * exp (cumL f n C - cumL f n (s + 1))) = st f k v (n + C) := by
  rw [← chunk_state f k v h0 C n]
  congr 1
  exact Finset.sum_congr rfl fun s _ => by ring

/-- a chunk's sums over the tokens so far, as a masked sum over the chunk -/
theorem sum_mask (C r : ℕ) (hr : r < C) (a : ℕ → ℝ) :
    (∑ s : Fin C, if s.val ≤ r then a s else 0) = ∑ s ∈ Finset.range (r + 1), a s := by
  rw [Fin.sum_univ_eq_sum_range (fun s => if s ≤ r then a s else 0) C, ← Finset.sum_filter]
  refine Finset.sum_congr ?_ fun _ _ => rfl
  ext s; simp only [Finset.mem_filter, Finset.mem_range]; omega

/-- the output of one token: queries against the state just after it, as masked scores against the chunk's values
    plus queries against the chunk's incoming state -/
theorem chunk_out {K : Type} [Fintype K] (q : K → ℝ) (f k : K → ℕ → ℝ) (v : ℕ → ℝ) (h0 : ∀ j i, 0 < f j i)
    (C n r : ℕ) (hr : r < C) :
    (∑ s : Fin C, (if s.val ≤ r then ∑ j, q j * (exp (cumL (f j) n (r + 1) - cumL (f j) n (s + 1)) * k j (n + s)) else 0)
        * v (n + s))
      + ∑ j, q j * exp (cumL (f j) n (r + 1)) * st (f j) (k j) v n = ∑ j, q j * st (f j) (k j) v (n + r + 1) := by
  have e (s : Fin C) : (if s.val ≤ r then ∑ j, q j * (exp (cumL (f j) n (r + 1) - cumL (f j) n (s + 1)) * k j (n + s)) else 0)
      * v (n + s) = if s.val ≤ r then ∑ j, q j * (exp (cumL (f j) n (r + 1) - cumL (f j) n (s + 1)) * k j (n + s)) * v (n + s) else 0 := by
    split <;> simp [Finset.sum_mul]
  simp only [e]
  rw [sum_mask C r hr (fun s => ∑ j, q j * (exp (cumL (f j) n (r + 1) - cumL (f j) n (s + 1)) * k j (n + s)) * v (n + s)),
    Finset.sum_comm, ← Finset.sum_add_distrib]
  refine Finset.sum_congr rfl fun j _ => ?_
  rw [Nat.add_assoc, st_chunk (f j) (k j) v (h0 j) n (r + 1), mul_add, Finset.mul_sum, add_comm]
  congr 1
  · ring
  · exact Finset.sum_congr rfl fun s _ => by ring

/-- two factors of distances to a row between them make the decay from one row to the other -/
theorem exp_mid (a b m : ℝ) (h1 : a ≤ m) (h2 : m ≤ b) : exp (0 - |a - m|) * exp (0 - |b - m|) = exp (a - b) := by
  rw [← exp_add, abs_of_nonpos (by linarith), abs_of_nonneg (by linarith)]
  congr 1; ring

end Cert.Recur

end

end
-- ==== Proof.Masks.lean ====
module

public import proofs.«01_k».proof.Proof.Heads
public import proofs.«01_k».proof.Proof.Recur
public import Idealize.ShloMosaic.Lib.Pointwise

/-! The seven masks of a chunk's score block: which pairs (query row, key row) each one keeps, and that together they
    keep exactly the pairs with the key row not after the query row. -/

@[expose] public section

set_option maxRecDepth 16384

noncomputable section

namespace Cert.KernelIdeal.Chunk

open Cert.KernelIdeal Cert.KernelIdeal.Gen Idealize.ShloMosaic Idealize.ShloMosaic.TcCoe Idealize.ShloMosaic.Tactic
open Cert.KernelIdeal.Heads

/-- the bit test of the level of half-width `w = 2 ^ b`: same block of `2 w` rows, the query row in its upper half,
    the key row in its lower half -/
def mb (b : BitVec 32) (w : BitVec 32) (r s : ℕ) : BitVec 1 :=
  IntOp.andi (IntOp.andi (IntOp.cmpi .eq (IntOp.shrsi .vector (BitVec.ofNat 32 r) b) (IntOp.shrsi .vector (BitVec.ofNat 32 s) b))
    (IntOp.cmpi .ne (IntOp.andi (BitVec.ofNat 32 r) w) 0#32)) (IntOp.cmpi .eq (IntOp.andi (BitVec.ofNat 32 s) w) 0#32)

/-- the bit test of the diagonal pairs: same pair of rows, the key row not after the query row -/
def mb0 (r s : ℕ) : BitVec 1 :=
  IntOp.andi (IntOp.cmpi .eq (IntOp.shrsi .vector (BitVec.ofNat 32 r) 1#32) (IntOp.shrsi .vector (BitVec.ofNat 32 s) 1#32))
    (IntOp.cmpi .sle (BitVec.ofNat 32 s) (BitVec.ofNat 32 r))

/-- the seven bit tests -/
def mk : Fin 7 → ℕ → ℕ → BitVec 1
  | 0 => mb0
  | 1 => mb 7#32 64#32
  | 2 => mb 6#32 32#32
  | 3 => mb 5#32 16#32
  | 4 => mb 4#32 8#32
  | 5 => mb 3#32 4#32
  | 6 => mb 2#32 2#32

theorem msk_at (l : Fin 7) (r s : Fin 128) : msk l (ix2 r s) = mk l r.val s.val := by
  match l with
  | 0 => unfold msk k0_pay29 mk mb0; pointwise
  | 1 => unfold msk k0_pay21 mk mb; pointwise
  | 2 => unfold msk k0_pay22 mk mb; pointwise
  | 3 => unfold msk k0_pay24 k0_pay23 mk mb; pointwise
  | 4 => unfold msk k0_pay25 mk mb; pointwise
  | 5 => unfold msk k0_pay26 mk mb; pointwise
  | 6 => unfold msk k0_pay28 k0_pay27 mk mb; pointwise

/-- the last row of the lower half of the row's block, at half-width `w` -/
abbrev mid (w r : ℕ) : ℕ := r / (2 * w) * (2 * w) + (w - 1)

/-- a kept pair lies on both sides of the middle of one block -/
def Kept (w r s : ℕ) : Prop := mid w r = mid w s ∧ s ≤ mid w s ∧ mid w r ≤ r

instance (w r s : ℕ) : Decidable (Kept w r s) := by unfold Kept; infer_instance

theorem kept1 : ∀ r s : Fin 128, mk 1 r.val s.val = 1#1 → Kept 64 r.val s.val := by decide +kernel
theorem kept2 : ∀ r s : Fin 128, mk 2 r.val s.val = 1#1 → Kept 32 r.val s.val := by decide +kernel
theorem kept3 : ∀ r s : Fin 128, mk 3 r.val s.val = 1#1 → Kept 16 r.val s.val := by decide +kernel
theorem kept4 : ∀ r s : Fin 128, mk 4 r.val s.val = 1#1 → Kept 8 r.val s.val := by decide +kernel
theorem kept5 : ∀ r s : Fin 128, mk 5 r.val s.val = 1#1 → Kept 4 r.val s.val := by decide +kernel
theorem kept6 : ∀ r s : Fin 128, mk 6 r.val s.val = 1#1 → r.val / 4 = s.val / 4 ∧ 2 ≤ r.val % 4 ∧ s.val % 4 < 2 := by
  decide +kernel
theorem kept0 : ∀ r s : Fin 128, mk 0 r.val s.val = 1#1 → r.val / 2 = s.val / 2 ∧ s.val ≤ r.val := by decide +kernel

/-- every pair with the key row not after the query row is kept by some mask -/
theorem some_kept : ∀ r s : Fin 128, s.val ≤ r.val → ∃ l : Fin 7, mk l r.val s.val = 1#1 := by decide +kernel

end Cert.KernelIdeal.Chunk

end

end
-- ==== Proof.Tokens.lean ====
module

public import proofs.«01_k».proof.Proof.Recur
public import Idealize.ShloMosaic.Lib.Pointwise

/-! The real numbers of the prompt's recurrence: queries, gates and values of a batch's tokens, read from the
    combined projection and from the lower bound's logits. -/

@[expose] public section

noncomputable section

namespace Cert.Recur

open Idealize.ShloMosaic

/-- the lane `x` of head `h` -/
abbrev jh (h : Fin 16) (x : Fin 128) : Fin 2048 := ⟨128 * h.val + x.val, by have := h.isLt; have := x.isLt; omega⟩

/-- the head's state entry of key lane `x`, value lane `y` after `m` tokens -/
def stH (f v : Fin 2048 → ℕ → ℝ) (h : Fin 16) (x y : Fin 128) (m : ℕ) : ℝ :=
  st (f (jh h x)) (fun i => 1 - f (jh h x) i) (v (jh h y)) m

variable (P : (⟨2, ![8320, 22528]⟩ : Shape).Idx → EReal) (L : (⟨2, ![2, 2048]⟩ : Shape).Idx → EReal)

/-- an entry of the combined projection, zero outside -/
def pR (i j : ℕ) : ℝ := if h : i < 8320 ∧ j < 22528 then (P (ix2 ⟨i, h.1⟩ ⟨j, h.2⟩)).toReal else 0

/-- the lower bound: the first row of the softmax over the two rows -/
def lbR (j : Fin 2048) : ℝ :=
  Real.exp ((L (ix2 0 j)).toReal - max (L (ix2 0 j)).toReal (L (ix2 1 j)).toReal)
    / (Real.exp ((L (ix2 0 j)).toReal - max (L (ix2 0 j)).toReal (L (ix2 1 j)).toReal)
      + Real.exp ((L (ix2 1 j)).toReal - max (L (ix2 0 j)).toReal (L (ix2 1 j)).toReal))

/-- batch `b`'s queries, values and gates, by lane and token -/
def qR (b : ℕ) (j : Fin 2048) (t : ℕ) : ℝ := pR P (2048 * b + t) j
def vR (b : ℕ) (j : Fin 2048) (t : ℕ) : ℝ := pR P (2048 * b + t) (4096 + j)
def fR (b : ℕ) (j : Fin 2048) (t : ℕ) : ℝ :=
  lbR L j + (1 - lbR L j) * (1 + Real.exp (-pR P (2048 * b + t) (2048 + j)))⁻¹

theorem lbR_pos (j : Fin 2048) : 0 < lbR L j := by unfold lbR; positivity
theorem lbR_le (j : Fin 2048) : lbR L j ≤ 1 := by
  unfold lbR
  rw [div_le_one (by positivity)]
  have := Real.exp_pos ((L (ix2 1 j)).toReal - max (L (ix2 0 j)).toReal (L (ix2 1 j)).toReal)
  linarith

theorem gate_bounds (l z : ℝ) (h0 : 0 < l) (h1 : l ≤ 1) :
    0 < l + (1 - l) * (1 + Real.exp z)⁻¹ ∧ l + (1 - l) * (1 + Real.exp z)⁻¹ ≤ 1 := by
  have hz := Real.exp_pos z
  have hp : 0 < (1 + Real.exp z)⁻¹ := by positivity
  have hl : (1 + Real.exp z)⁻¹ ≤ 1 := inv_le_one_of_one_le₀ (by linarith)
  have := mul_nonneg (sub_nonneg.mpr h1) hp.le
  have := mul_le_mul_of_nonneg_left hl (sub_nonneg.mpr h1)
  constructor <;> linarith

theorem fR_pos (b : ℕ) (j : Fin 2048) (t : ℕ) : 0 < fR P L b j t := (gate_bounds _ _ (lbR_pos L j) (lbR_le L j)).1
theorem fR_le (b : ℕ) (j : Fin 2048) (t : ℕ) : fR P L b j t ≤ 1 := (gate_bounds _ _ (lbR_pos L j) (lbR_le L j)).2

/-- the projection's entries, where they are real -/
theorem pR_coe (hP : ∀ i, P i ≠ ⊤ ∧ P i ≠ ⊥) (i : Fin 8320) (j : Fin 22528) : P (ix2 i j) = ((pR P i.val j.val : ℝ) : EReal) := by
  unfold pR
  rw [dif_pos ⟨i.isLt, j.isLt⟩, EReal.coe_toReal (hP _).1 (hP _).2]

/-- a quotient of reals, where the divisor is not zero -/
theorem div_coe (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- the two rows' maximum, folded from minus infinity -/
theorem fold_coe (hL : ∀ i, L i ≠ ⊤ ∧ L i ≠ ⊥) (j : Fin 2048) :
    Finset.fold max (Ideal.ofBits .f32 4286578688#32 : EReal) (fun x : Fin 2 => L (ix2 x j)) Finset.univ
      = ((max (L (ix2 0 j)).toReal (L (ix2 1 j)).toReal : ℝ) : EReal) := by
  rw [show (Ideal.ofBits .f32 4286578688#32 : EReal) = ⊥ by simp [Ideal.ofBits, Ideal.ieee],
    show (Finset.univ : Finset (Fin 2)) = {0, 1} from rfl, Finset.fold_insert (by decide), Finset.fold_singleton,
    max_bot_right, EReal.coe_strictMono.monotone.map_max, EReal.coe_toReal (hL _).1 (hL _).2, EReal.coe_toReal (hL _).1 (hL _).2]

/-- the first row's softmax -/
theorem lb_coe (hL : ∀ i, L i ≠ ⊤ ∧ L i ≠ ⊥) (j : Fin 2048) :
    Ideal.div (Ideal.exp (L (ix2 0 j) - ((max (L (ix2 0 j)).toReal (L (ix2 1 j)).toReal : ℝ) : EReal)))
      (∑ x : Fin 2, Ideal.exp (L (ix2 x j) - ((max (L (ix2 0 j)).toReal (L (ix2 1 j)).toReal : ℝ) : EReal)))
      = ((lbR L j : ℝ) : EReal) := by
  have h0 := EReal.coe_toReal (hL (ix2 0 j)).1 (hL (ix2 0 j)).2
  have h1 := EReal.coe_toReal (hL (ix2 1 j)).1 (hL (ix2 1 j)).2
  unfold lbR
  rw [Fin.sum_univ_two]
  generalize (L (ix2 0 j)).toReal = a at *
  generalize (L (ix2 1 j)).toReal = b at *
  rw [← h0, ← h1, ← EReal.coe_sub, ← EReal.coe_sub, Ideal.exp_coe, Ideal.exp_coe, ← EReal.coe_add, div_coe _ _ (by positivity)]

/-- a gate from a real bound and a real input -/
theorem gate_coe (l z : ℝ) : (l : EReal) + (1 - (l : EReal)) * (((1 + Real.exp (-z))⁻¹ : ℝ) : EReal)
    = ((l + (1 - l) * (1 + Real.exp (-z))⁻¹ : ℝ) : EReal) := by
  rw [← EReal.coe_one, ← EReal.coe_sub, ← EReal.coe_mul, ← EReal.coe_add]

end Cert.Recur

end

end
-- ==== Proof.Chunk.lean ====
module

public import proofs.«01_k».proof.Proof.Masks
public import proofs.«01_k».proof.Proof.Tokens

/-! One chunk of the prompt's recurrence, over blocks that hold real numbers: each vector the body makes, at an
    index, as a real number; then the head's state and output as the token recurrence's. -/

@[expose] public section

set_option maxRecDepth 16384

noncomputable section

namespace Cert.KernelIdeal.Chunk

open Cert.KernelIdeal Cert.KernelIdeal.Gen Idealize.ShloMosaic Idealize.ShloMosaic.TcCoe Idealize.ShloMosaic.Tactic
open Cert.KernelIdeal.Heads Cert.Recur

/-- a chunk's blocks hold the real queries, gates and values of the tokens from `n` on, and the prefix-sum table -/
structure Holds (x0 x1 x2 : Vec Ideal S128x2048 .f32) (x4 : Vec Ideal S2x2048 .f32) (x6 : Vec Ideal S128x384 .bf16)
    (q f v : Fin 2048 → ℕ → ℝ) (n : ℕ) : Prop where
  q_at : ∀ (r : Fin 128) (j : Fin 2048), x0 (ix2 r j) = ((q j (n + r.val) : ℝ) : EReal)
  f_at : ∀ (r : Fin 128) (j : Fin 2048), k0_pay30 x4 x1 (ix2 r j) = ((f j (n + r.val) : ℝ) : EReal)
  v_at : ∀ (r : Fin 128) (j : Fin 2048), x2 (ix2 r j) = ((v j (n + r.val) : ℝ) : EReal)
  pos : ∀ j i, 0 < f j i
  le1 : ∀ j i, f j i ≤ 1
  tri : ∀ (r : Fin 128) (k : Fin 384), k.val < 128 → x6 (ix2 r k) = if k.val ≤ r.val then 1 else 0

theorem coe_sum {ι : Type} (s : Finset ι) (a : ι → ℝ) : ∑ i ∈ s, ((a i : ℝ) : EReal) = ((∑ i ∈ s, a i : ℝ) : EReal) := by
  induction s using Finset.cons_induction with
  | empty => simp
  | cons i s h ih => rw [Finset.sum_cons, Finset.sum_cons, ih, EReal.coe_add]

variable {x0 x1 x2 : Vec Ideal S128x2048 .f32} {x4 : Vec Ideal S2x2048 .f32} {x6 : Vec Ideal S128x384 .bf16}
  {q f v : Fin 2048 → ℕ → ℝ} {n : ℕ}

theorem g_at (H : Holds x0 x1 x2 x4 x6 q f v n) (r : Fin 128) (j : Fin 2048) :
    k0_pay31 x4 x1 (ix2 r j) = ((Real.log (f j (n + r.val)) : ℝ) : EReal) := by
  unfold k0_pay31
  pointwise
  rw [H.f_at, Ideal.log_coe, if_neg (not_le.mpr (H.pos _ _))]

theorem fV_at (H : Holds x0 x1 x2 x4 x6 q f v n) (r : Fin 128) (j : Fin 2048) :
    fV x1 x4 (ix2 r j) = ((f j (n + r.val) : ℝ) : EReal) := H.f_at r j

theorem k_at (H : Holds x0 x1 x2 x4 x6 q f v n) (r : Fin 128) (j : Fin 2048) :
    kV x1 x4 (ix2 r j) = ((1 - f j (n + r.val) : ℝ) : EReal) := by
  unfold kV k0_pay33 k0_pay32
  pointwise
  rw [fV_at H, EReal.coe_sub, EReal.coe_one]

theorem gV_at (H : Holds x0 x1 x2 x4 x6 q f v n) (r : Fin 128) (j : Fin 2048) :
    gV x1 x4 (ix2 r j) = ((Real.log (f j (n + r.val)) : ℝ) : EReal) := g_at H r j
theorem k33_at (H : Holds x0 x1 x2 x4 x6 q f v n) (r : Fin 128) (j : Fin 2048) :
    k0_pay33 (fV x1 x4) k0_pay32 (ix2 r j) = ((1 - f j (n + r.val) : ℝ) : EReal) := k_at H r j

/-- the table's sum of the logarithms up to a row -/
theorem cum_at (H : Holds x0 x1 x2 x4 x6 q f v n) (r : Fin 128) (j : Fin 2048) :
    cumV x1 x4 x6 (ix2 r j) = ((cumL (f j) n (r.val + 1) : ℝ) : EReal) := by
  unfold cumV k0_pay35
  pointwise
  have e (x : Fin 384) : (x6 (ix2 r x) * if h : x.val < 128 then gV x1 x4 (ix2 ⟨x.val, h⟩ j)
      else if h : x.val - 128 < 128 then gV x1 x4 (ix2 ⟨x.val - 128, h⟩ j) - gV x1 x4 (ix2 ⟨x.val - 128, h⟩ j)
        else gV x1 x4 (ix2 ⟨x.val - 128 - 128, by omega⟩ j) - gV x1 x4 (ix2 ⟨x.val - 128 - 128, by omega⟩ j) -
          (gV x1 x4 (ix2 ⟨x.val - 128 - 128, by omega⟩ j) - gV x1 x4 (ix2 ⟨x.val - 128 - 128, by omega⟩ j)))
      = ((if x.val ≤ r.val then Real.log (f j (n + x.val)) else 0 : ℝ) : EReal) := by
    by_cases hx : x.val < 128
    · rw [dif_pos hx, H.tri r x hx, gV_at H]
      by_cases hr : x.val ≤ r.val
      · rw [if_pos hr, if_pos hr, one_mul]
      · rw [if_neg hr, if_neg hr, zero_mul, EReal.coe_zero]
    · rw [dif_neg hx, if_neg (by omega)]
      split
      · rw [gV_at H, ← EReal.coe_sub, sub_self, EReal.coe_zero, mul_zero]
      · rw [gV_at H, ← EReal.coe_sub, sub_self, ← EReal.coe_sub, sub_self, EReal.coe_zero, mul_zero]
  simp only [e]
  rw [coe_sum, sum_mask 384 r.val (by omega) (fun s => Real.log (f j (n + s)))]
  rfl

theorem c35_at (H : Holds x0 x1 x2 x4 x6 q f v n) (r : Fin 128) (j : Fin 2048) :
    k0_pay35 (gV x1 x4) x6 (ix2 r j) = ((cumL (f j) n (r.val + 1) : ℝ) : EReal) := cum_at H r j

/-- the factor of a level of half-width `w` at a row: the decay between the row and the middle of its block -/
def lvl (f : Fin 2048 → ℕ → ℝ) (n w : ℕ) (j : Fin 2048) (r : ℕ) : ℝ :=
  Real.exp (0 - |cumL (f j) n (r + 1) - cumL (f j) n (mid w r + 1)|)

/-- the factor of the level of half-width two, from the gates alone -/
def lvl2 (f : Fin 2048 → ℕ → ℝ) (n : ℕ) (j : Fin 2048) (r : ℕ) : ℝ :=
  if r % 4 = 0 then f j (n + (r + 1)) else if r % 4 = 1 then 1 else if r % 4 = 2 then f j (n + r)
  else f j (n + (r - 1)) * f j (n + r)

def facQ (f : Fin 2048 → ℕ → ℝ) (n : ℕ) : Fin 7 → Fin 2048 → ℕ → ℝ
  | 0, j, r => if r % 2 = 1 then f j (n + r) else 1
  | 1, j, r => lvl f n 64 j r
  | 2, j, r => lvl f n 32 j r
  | 3, j, r => lvl f n 16 j r
  | 4, j, r => lvl f n 8 j r
  | 5, j, r => lvl f n 4 j r
  | 6, j, r => lvl2 f n j r

def facK (f : Fin 2048 → ℕ → ℝ) (n : ℕ) : Fin 7 → Fin 2048 → ℕ → ℝ
  | 0, j, r => if r % 2 = 1 then 1 / f j (n + r) else 1
  | 1, j, r => lvl f n 64 j r
  | 2, j, r => lvl f n 32 j r
  | 3, j, r => lvl f n 16 j r
  | 4, j, r => lvl f n 8 j r
  | 5, j, r => lvl f n 4 j r
  | 6, j, r => lvl2 f n j r

theorem exp_abs (a b : ℝ) : Ideal.exp (0 - FloatOps.absf (F := Ideal) (φ := .f32) ((a : EReal) - (b : EReal)))
    = ((Real.exp (0 - |a - b|) : ℝ) : EReal) := by
  have h : FloatOps.absf (F := Ideal) (φ := .f32) ((a : EReal) - (b : EReal)) = ((|a - b| : ℝ) : EReal) := by
    show max ((a : EReal) - (b : EReal)) (-((a : EReal) - (b : EReal))) = _
    rw [← EReal.coe_sub, ← EReal.coe_neg, ← EReal.coe_strictMono.monotone.map_max]; rfl
  rw [h, ← EReal.coe_zero, ← EReal.coe_sub, Ideal.exp_coe]

theorem lv64_at (H : Holds x0 x1 x2 x4 x6 q f v n) (r : Fin 128) (j : Fin 2048) :
    k0_pay40 (gV x1 x4) x6 (ix2 r j) = ((lvl f n 64 j r.val : ℝ) : EReal) := by
  unfold k0_pay40
  pointwise
  rw [c35_at H, c35_at H, exp_abs]
  have : mid 64 r.val = 63 := by unfold mid; omega
  rw [lvl, this]
  rfl

theorem lv32_at (H : Holds x0 x1 x2 x4 x6 q f v n) (r : Fin 128) (j : Fin 2048) :
    k0_pay44 (k0_pay43 (gV x1 x4) x6) (ix2 r j) = ((lvl f n 32 j r.val : ℝ) : EReal) := by
  have e : k0_pay43 (gV x1 x4) x6 (ix2 r j) = cumV x1 x4 x6 (ix2 r j)
      - cumV x1 x4 x6 (ix2 ⟨r.val / 64 * 64 + 31, by have := r.isLt; omega⟩ j) := by
    unfold k0_pay43
    pointwise
  unfold k0_pay44
  pointwise
  rw [e, cum_at H, cum_at H, exp_abs]
  rfl

theorem lv16_at (H : Holds x0 x1 x2 x4 x6 q f v n) (r : Fin 128) (j : Fin 2048) :
    k0_pay47 (cumV x1 x4 x6) (ix2 r j) = ((lvl f n 16 j r.val : ℝ) : EReal) := by
  unfold k0_pay47
  pointwise
  rw [cum_at H, cum_at H, exp_abs]
  rfl

theorem lv8_at (H : Holds x0 x1 x2 x4 x6 q f v n) (r : Fin 128) (j : Fin 2048) :
    k0_pay50 (cumV x1 x4 x6) (ix2 r j) = ((lvl f n 8 j r.val : ℝ) : EReal) := by
  unfold k0_pay50
  pointwise
  rw [cum_at H, cum_at H, exp_abs]
  rfl

theorem lv4_at (H : Holds x0 x1 x2 x4 x6 q f v n) (r : Fin 128) (j : Fin 2048) :
    k0_pay53 (cumV x1 x4 x6) (ix2 r j) = ((lvl f n 4 j r.val : ℝ) : EReal) := by
  unfold k0_pay53
  pointwise
  rw [cum_at H, cum_at H, exp_abs]
  rfl

theorem and1 : ∀ r : Fin 128, IntOp.cmpi .eq (IntOp.andi (BitVec.ofNat 32 r.val) 1#32) 1#32 = if r.val % 2 = 1 then 1#1 else 0#1 := by
  decide +kernel
theorem and3_0 : ∀ r : Fin 128, IntOp.cmpi .eq (IntOp.andi (BitVec.ofNat 32 r.val) 3#32) 0#32
    = if r.val % 4 = 0 then 1#1 else 0#1 := by
  decide +kernel
theorem and3_1 : ∀ r : Fin 128, IntOp.cmpi .eq (IntOp.andi (BitVec.ofNat 32 r.val) 3#32) 1#32
    = if r.val % 4 = 1 then 1#1 else 0#1 := by
  decide +kernel
theorem and3_2 : ∀ r : Fin 128, IntOp.cmpi .eq (IntOp.andi (BitVec.ofNat 32 r.val) 3#32) 2#32
    = if r.val % 4 = 2 then 1#1 else 0#1 := by
  decide +kernel

theorem sel_ite {α : Type} (p : Prop) [Decidable p] (a b : α) :
    Scalar.select (if p then 1#1 else 0#1) a b = if p then a else b := by
  by_cases h : p <;> simp [h, Scalar.select]

theorem lv2_at (H : Holds x0 x1 x2 x4 x6 q f v n) (r : Fin 128) (j : Fin 2048) :
    k0_pay59 (fV x1 x4) pos (k0_pay56 (fV x1 x4)) (k0_pay57 (fV x1 x4)) k0_pay58 (ix2 r j)
      = ((lvl2 f n j r.val : ℝ) : EReal) := by
  unfold k0_pay59 k0_pay56 k0_pay57 k0_pay58 pos
  pointwise
  rw [and3_0, and3_1, and3_2]
  simp only [sel_ite, fV_at H]
  unfold lvl2
  have := r.isLt
  by_cases h : r.val % 4 = 0
  · rw [if_pos h, if_pos h]
    congr 3
    show (r.val + 128 - 127) % 128 = r.val + 1
    omega
  · rw [if_neg h, if_neg h]
    by_cases h1 : r.val % 4 = 1
    · rw [if_pos h1, if_pos h1, EReal.coe_one]
    · rw [if_neg h1, if_neg h1]
      by_cases h2 : r.val % 4 = 2
      · rw [if_pos h2, if_pos h2]
      · rw [if_neg h2, if_neg h2, EReal.coe_mul]
        congr 4
        show (r.val + 128 - 1) % 128 = r.val - 1
        omega

theorem qL_at (H : Holds x0 x1 x2 x4 x6 q f v n) (l : Fin 7) (r : Fin 128) (j : Fin 2048) :
    qL x0 x1 x4 x6 l (ix2 r j) = ((q j (n + r.val) * facQ f n l j r.val : ℝ) : EReal) := by
  match l with
  | 0 =>
    unfold qL k0_pay38 k0_pay37
    pointwise
    rw [and1, sel_ite, H.q_at, fV_at H, EReal.coe_mul, facQ]
    split <;> simp
  | 1 => unfold qL k0_pay41; pointwise; rw [lv64_at H, H.q_at, EReal.coe_mul]; rfl
  | 2 => unfold qL k0_pay45; pointwise; rw [lv32_at H, H.q_at, EReal.coe_mul]; rfl
  | 3 => unfold qL k0_pay48; pointwise; rw [lv16_at H, H.q_at, EReal.coe_mul]; rfl
  | 4 => unfold qL k0_pay51; pointwise; rw [lv8_at H, H.q_at, EReal.coe_mul]; rfl
  | 5 => unfold qL k0_pay54; pointwise; rw [lv4_at H, H.q_at, EReal.coe_mul]; rfl
  | 6 => unfold qL k0_pay60; pointwise; rw [lv2_at H, H.q_at, EReal.coe_mul]; rfl

theorem kL_at (H : Holds x0 x1 x2 x4 x6 q f v n) (l : Fin 7) (r : Fin 128) (j : Fin 2048) :
    kL x1 x4 x6 l (ix2 r j) = (((1 - f j (n + r.val)) * facK f n l j r.val : ℝ) : EReal) := by
  match l with
  | 0 =>
    unfold kL k0_pay39 k0_pay37
    pointwise
    rw [and1, sel_ite, k33_at H, fV_at H, EReal.coe_mul, facK]
    split
    · rw [Ideal.div, if_neg (by rw [← EReal.coe_zero, EReal.coe_eq_coe_iff]; exact (H.pos _ _).ne')]; simp [EReal.coe_inv]
    · simp
  | 1 => unfold kL k0_pay42; pointwise; rw [lv64_at H, k33_at H, EReal.coe_mul]; rfl
  | 2 => unfold kL k0_pay46; pointwise; rw [lv32_at H, k_at H, EReal.coe_mul]; rfl
  | 3 => unfold kL k0_pay49; pointwise; rw [lv16_at H, k_at H, EReal.coe_mul]; rfl
  | 4 => unfold kL k0_pay52; pointwise; rw [lv8_at H, k_at H, EReal.coe_mul]; rfl
  | 5 => unfold kL k0_pay55; pointwise; rw [lv4_at H, k_at H, EReal.coe_mul]; rfl
  | 6 => unfold kL k0_pay61; pointwise; rw [lv2_at H, k_at H, EReal.coe_mul]; rfl

/-- the two factors of a kept pair make the decay from the key's row to the query's -/
theorem lvl_mul (h0 : ∀ j i, 0 < f j i) (h1 : ∀ j i, f j i ≤ 1) (w : ℕ) (j : Fin 2048) (r s : ℕ) (h : Kept w r s) :
    lvl f n w j r * lvl f n w j s = Real.exp (cumL (f j) n (r + 1) - cumL (f j) n (s + 1)) := by
  obtain ⟨e, hs, hr⟩ := h
  unfold lvl
  rw [e]
  rw [e] at hr
  exact exp_mid _ _ _ (cumL_anti (f j) (h0 j) (h1 j) n (by omega)) (cumL_anti (f j) (h0 j) (h1 j) n (by omega))

theorem fac_mul (h0 : ∀ j i, 0 < f j i) (h1 : ∀ j i, f j i ≤ 1) (l : Fin 7) (j : Fin 2048) (r s : Fin 128)
    (h : mk l r.val s.val = 1#1) :
    s.val ≤ r.val ∧
      facQ f n l j r.val * facK f n l j s.val = Real.exp (cumL (f j) n (r.val + 1) - cumL (f j) n (s.val + 1)) := by
  have two (m : ℕ) : Real.exp (cumL (f j) n (m + 1 + 1) - cumL (f j) n (m + 1)) = f j (n + (m + 1)) := by
    rw [cumL_succ, add_sub_cancel_left, Real.exp_log (h0 _ _)]
  match l with
  | 1 => exact ⟨by have := kept1 r s h; unfold Kept at this; omega, lvl_mul h0 h1 64 j _ _ (kept1 r s h)⟩
  | 2 => exact ⟨by have := kept2 r s h; unfold Kept at this; omega, lvl_mul h0 h1 32 j _ _ (kept2 r s h)⟩
  | 3 => exact ⟨by have := kept3 r s h; unfold Kept at this; omega, lvl_mul h0 h1 16 j _ _ (kept3 r s h)⟩
  | 4 => exact ⟨by have := kept4 r s h; unfold Kept at this; omega, lvl_mul h0 h1 8 j _ _ (kept4 r s h)⟩
  | 5 => exact ⟨by have := kept5 r s h; unfold Kept at this; omega, lvl_mul h0 h1 4 j _ _ (kept5 r s h)⟩
  | 0 =>
    obtain ⟨e, hs⟩ := kept0 r s h
    refine ⟨hs, ?_⟩
    show (if r.val % 2 = 1 then f j (n + r.val) else 1) * (if s.val % 2 = 1 then 1 / f j (n + s.val) else 1) = _
    rcases Nat.eq_or_lt_of_le hs with e' | e'
    · rw [e', sub_self, Real.exp_zero]
      split
      · exact mul_one_div_cancel (h0 _ _).ne'
      · exact mul_one 1
    · have a : r.val = s.val + 1 := by omega
      have b : r.val % 2 = 1 := by omega
      have b' : ¬ s.val % 2 = 1 := by omega
      rw [if_pos b, if_neg b', mul_one, a, two]
  | 6 =>
    obtain ⟨e, hr, hs⟩ := kept6 r s h
    refine ⟨by omega, ?_⟩
    show lvl2 f n j r.val * lvl2 f n j s.val = _
    have three (m : ℕ) : Real.exp (cumL (f j) n (m + 1 + 1 + 1) - cumL (f j) n (m + 1)) = f j (n + (m + 1)) * f j (n + (m + 1 + 1)) := by
      rw [cumL_succ, cumL_succ, add_sub_right_comm, add_sub_cancel_left, Real.exp_add, Real.exp_log (h0 _ _), Real.exp_log (h0 _ _)]
    have four (m : ℕ) : Real.exp (cumL (f j) n (m + 1 + 1 + 1 + 1) - cumL (f j) n (m + 1))
        = f j (n + (m + 1)) * f j (n + (m + 1 + 1)) * f j (n + (m + 1 + 1 + 1)) := by
      rw [cumL_succ, cumL_succ, cumL_succ, add_sub_right_comm, add_sub_right_comm, add_sub_cancel_left, Real.exp_add,
        Real.exp_add, Real.exp_log (h0 _ _), Real.exp_log (h0 _ _), Real.exp_log (h0 _ _)]
    rcases (by omega : s.val % 4 = 0 ∨ s.val % 4 = 1) with a | a <;>
      rcases (by omega : r.val % 4 = 2 ∨ r.val % 4 = 3) with b | b
    · have c : r.val = s.val + 1 + 1 := by omega
      have u : lvl2 f n j r.val = f j (n + r.val) := by simp [lvl2, b]
      have w : lvl2 f n j s.val = f j (n + (s.val + 1)) := by simp [lvl2, a]
      rw [u, w, c, three]; ring
    · have c : r.val = s.val + 1 + 1 + 1 := by omega
      have u : lvl2 f n j r.val = f j (n + (r.val - 1)) * f j (n + r.val) := by simp [lvl2, b]
      have w : lvl2 f n j s.val = f j (n + (s.val + 1)) := by simp [lvl2, a]
      rw [u, w, c, four, show s.val + 1 + 1 + 1 - 1 = s.val + 1 + 1 from rfl]; ring
    · have c : r.val = s.val + 1 := by omega
      have u : lvl2 f n j r.val = f j (n + r.val) := by simp [lvl2, b]
      have w : lvl2 f n j s.val = 1 := by simp [lvl2, a]
      rw [u, w, c, two]; ring
    · have c : r.val = s.val + 1 + 1 := by omega
      have u : lvl2 f n j r.val = f j (n + (r.val - 1)) * f j (n + r.val) := by simp [lvl2, b]
      have w : lvl2 f n j s.val = 1 := by simp [lvl2, a]
      rw [u, w, c, three, show s.val + 1 + 1 - 1 = s.val + 1 from rfl]; ring

/-! ### One head -/

theorem sl_at {φ : FTy} (h : Fin 16) (w : FVec Ideal S128x2048 φ) (r x : Fin 128) :
    sl (128 * h.val) (sls h) w (ix2 r x) = w (ix2 r (jh h x)) := by
  unfold sl
  pointwise

theorem lay_at (M : IVec S128x128 1) (Q K : FVec Ideal S128x128 .bf16) (prev : FVec Ideal S128x128 .f32) (r s : Fin 128) :
    lay M Q K prev (ix2 r s) = if M (ix2 r s) = 1#1 then ∑ x : Fin 128, Q (ix2 r x) * K (ix2 s x) else prev (ix2 r s) := by
  unfold lay
  pointwise
  rfl

/-- a level's scores at a kept pair -/
theorem level_at (H : Holds x0 x1 x2 x4 x6 q f v n) (h : Fin 16) (l : Fin 7) (r s : Fin 128)
    (hm : mk l r.val s.val = 1#1) :
    (∑ x : Fin 128, sl (128 * h.val) (sls h) (qL x0 x1 x4 x6 l) (ix2 r x) * sl (128 * h.val) (sls h) (kL x1 x4 x6 l) (ix2 s x))
      = ((∑ x : Fin 128, q (jh h x) (n + r.val) * (Real.exp (cumL (f (jh h x)) n (r.val + 1) - cumL (f (jh h x)) n (s.val + 1))
          * (1 - f (jh h x) (n + s.val))) : ℝ) : EReal) := by
  rw [← coe_sum]
  refine Finset.sum_congr rfl fun x _ => ?_
  rw [sl_at, sl_at, qL_at H, kL_at H, ← EReal.coe_mul, ← (fac_mul H.pos H.le1 l (jh h x) r s hm).2]
  congr 1
  ring

theorem scores_at (H : Holds x0 x1 x2 x4 x6 q f v n) (h : Fin 16) (r s : Fin 128) :
    scores msk (fun l => sl (128 * h.val) (sls h) (qL x0 x1 x4 x6 l)) (fun l => sl (128 * h.val) (sls h) (kL x1 x4 x6 l)) (ix2 r s)
      = ((if s.val ≤ r.val then ∑ x : Fin 128, q (jh h x) (n + r.val) * (Real.exp (cumL (f (jh h x)) n (r.val + 1)
          - cumL (f (jh h x)) n (s.val + 1)) * (1 - f (jh h x) (n + s.val))) else 0 : ℝ) : EReal) := by
  have yes (l : Fin 7) (hm : mk l r.val s.val = 1#1) : s.val ≤ r.val := (fac_mul (n := n) H.pos H.le1 l 0 r s hm).1
  unfold scores
  simp only [lay_at]
  rw [msk_at 6, msk_at 5, msk_at 4, msk_at 3, msk_at 2, msk_at 1, msk_at 0]
  by_cases h6 : mk 6 r.val s.val = 1#1
  · rw [if_pos h6, if_pos (yes 6 h6), level_at H h 6 r s h6]
  rw [if_neg h6]
  by_cases h5 : mk 5 r.val s.val = 1#1
  · rw [if_pos h5, if_pos (yes 5 h5), level_at H h 5 r s h5]
  rw [if_neg h5]
  by_cases h4 : mk 4 r.val s.val = 1#1
  · rw [if_pos h4, if_pos (yes 4 h4), level_at H h 4 r s h4]
  rw [if_neg h4]
  by_cases h3 : mk 3 r.val s.val = 1#1
  · rw [if_pos h3, if_pos (yes 3 h3), level_at H h 3 r s h3]
  rw [if_neg h3]
  by_cases h2 : mk 2 r.val s.val = 1#1
  · rw [if_pos h2, if_pos (yes 2 h2), level_at H h 2 r s h2]
  rw [if_neg h2]
  by_cases h1 : mk 1 r.val s.val = 1#1
  · rw [if_pos h1, if_pos (yes 1 h1), level_at H h 1 r s h1]
  rw [if_neg h1]
  by_cases h0 : mk 0 r.val s.val = 1#1
  · rw [if_pos h0, if_pos (yes 0 h0), level_at H h 0 r s h0]
  rw [if_neg h0, if_neg fun hs => ?_]
  · pointwise
    exact EReal.coe_zero.symm
  · obtain ⟨l, hl⟩ := some_kept r s hs
    match l with
    | 0 => exact h0 hl
    | 1 => exact h1 hl
    | 2 => exact h2 hl
    | 3 => exact h3 hl
    | 4 => exact h4 hl
    | 5 => exact h5 hl
    | 6 => exact h6 hl

/-- the head's output before its norm: at each row, the queries against the state just after that token -/
theorem hO_at (H : Holds x0 x1 x2 x4 x6 q f v n) (h : Fin 16) (s : Vec Ideal S1x128x128 .f32)
    (hs : ∀ y x : Fin 128, s (ix3 0 y x) = ((stH f v h x y n : ℝ) : EReal)) (r y : Fin 128) :
    hO h x0 x1 x2 x4 x6 s (ix2 r y)
      = ((∑ x : Fin 128, q (jh h x) (n + r.val) * stH f v h x y (n + r.val + 1) : ℝ) : EReal) := by
  have e : hO h x0 x1 x2 x4 x6 s (ix2 r y)
      = (∑ t : Fin 128, scores msk (fun l => sl (128 * h.val) (sls h) (qL x0 x1 x4 x6 l))
          (fun l => sl (128 * h.val) (sls h) (kL x1 x4 x6 l)) (ix2 r t) * x2 (ix2 t (jh h y)))
        + ∑ x : Fin 128, x0 (ix2 r (jh h x)) * Ideal.exp (cumV x1 x4 x6 (ix2 r (jh h x))) * s (ix3 0 y x) := by
    unfold hO outp k0_pay34 qinV k0_pay62 sl
    pointwise
  rw [e]
  simp only [scores_at H, H.v_at, H.q_at, cum_at H, hs, Ideal.exp_coe, ← EReal.coe_mul, coe_sum, ← EReal.coe_add]
  rw [EReal.coe_eq_coe_iff]
  exact chunk_out (fun x => q (jh h x) (n + r.val)) (fun x => f (jh h x)) (fun x i => 1 - f (jh h x) i) (v (jh h y))
    (fun x i => H.pos _ _) 128 n r.val r.isLt

/-- the head's outgoing state: the recurrence's, a chunk later -/
theorem hS_at (H : Holds x0 x1 x2 x4 x6 q f v n) (h : Fin 16) (s : Vec Ideal S1x128x128 .f32)
    (hs : ∀ y x : Fin 128, s (ix3 0 y x) = ((stH f v h x y n : ℝ) : EReal)) (y x : Fin 128) :
    hS h x1 x2 x4 x6 s (ix3 0 y x) = ((stH f v h x y (n + 128) : ℝ) : EReal) := by
  have e : hS h x1 x2 x4 x6 s (ix3 0 y x)
      = decV x1 x4 x6 (ix2 0 (jh h x)) * s (ix3 0 y x)
        + ∑ t : Fin 128, x2 (ix2 t (jh h y)) * kstV x1 x4 x6 (ix2 t (jh h x)) := by
    unfold hS newS k0_pay34 sl
    pointwise
  have e0 (j : Fin 2048) : lastV x1 x4 x6 (ix2 0 j) = cumV x1 x4 x6 (ix2 127 j) := by
    show extractStridedSlice S1x2048 ![127, 0] (cumV x1 x4 x6) slices_S128x2048_o127_0_S1x2048 (ix2 0 j) = _
    pointwise
  have e1 : decV x1 x4 x6 (ix2 0 (jh h x)) = Ideal.exp (cumV x1 x4 x6 (ix2 127 (jh h x))) := by
    rw [← e0]
    rfl
  have e2 (t : Fin 128) : kstV x1 x4 x6 (ix2 t (jh h x)) = kV x1 x4 (ix2 t (jh h x))
            * Ideal.exp (cumV x1 x4 x6 (ix2 127 (jh h x)) - cumV x1 x4 x6 (ix2 t (jh h x))) := by
    rw [← e0]
    unfold kstV k0_pay63
    pointwise
  rw [e, e1]
  simp only [e2]
  simp only [H.v_at, cum_at H, k_at H, hs, Ideal.exp_coe, ← EReal.coe_sub, ← EReal.coe_mul, coe_sum, ← EReal.coe_add]
  rw [EReal.coe_eq_coe_iff]
  exact chunk_state' (f (jh h x)) (fun i => 1 - f (jh h x) i) (v (jh h y)) (fun i => H.pos _ _) 128 n

end Cert.KernelIdeal.Chunk

end

end
-- ==== Proof.HeadsRun.lean ====
module

public import proofs.«01_k».proof.Proof.Heads
public import Idealize.ShloMosaic.Lib.Pipeline.ReadBack
public import Idealize.ShloMosaic.Lib.Pointwise

/-! What one grid point leaves in the state scratch and in the output block, head by head. -/

@[expose] public section

set_option maxRecDepth 16384

noncomputable section

namespace Cert.KernelIdeal.Heads

open Cert.KernelIdeal Cert.KernelIdeal.Gen Idealize.ShloMosaic Idealize.ShloMosaic.TcCoe Idealize.ShloMosaic.Tactic

variable {F : FTy → Type} [FloatOps F]
variable (m : (ℓ : Loc nD τ sig) → Buf (Elt F) ℓ)

/-- head `h`'s slab of a state -/
def slab (acc : Vec F S16x128x128 .f32) (h : Fin 16) : Vec F S1x128x128 .f32 :=
  fun i => acc (ValueIdx.ix3 h (i 1) (i 2))

/-- the state after one chunk, from the state before it -/
def stepS (x1 x2 : Vec F S128x2048 .f32) (x4 : Vec F S2x2048 .f32) (x6 : Vec F S128x384 .bf16)
    (acc : Vec F S16x128x128 .f32) : Vec F S16x128x128 .f32 :=
  fun y => hS (y 0) x1 x2 x4 x6 (slab acc (y 0)) (ValueIdx.ix3 0 (y 1) (y 2))

/-- a stored head slab is the step's value there -/
theorem stepS_piece (n : ℕ) (hn : n < 16) (x1 x2 : Vec F S128x2048 .f32) (x4 : Vec F S2x2048 .f32)
    (x6 : Vec F S128x384 .bf16) (acc : Vec F S16x128x128 .f32) (x : S1x128x128.Idx) (y : S16x128x128.Idx)
    (h0 : (y 0).val = n + (x 0).val) (h1 : (y 1).val = (x 1).val) (h2 : (y 2).val = (x 2).val)
    (P : FVec F S1x128x128 .f32) (hP : P = hS ⟨n, hn⟩ x1 x2 x4 x6 (slab acc ⟨n, hn⟩)) :
    P x = stepS x1 x2 x4 x6 acc y := by
  have hx : (x 0).val = 0 := Nat.lt_one_iff.mp (x 0).isLt
  have hy : y 0 = (⟨n, hn⟩ : Fin 16) := Fin.ext (by rw [h0, hx]; rfl)
  have hxx : x = ValueIdx.ix3 0 (y 1) (y 2) := by
    funext a; apply Fin.ext; fin_cases a
    · exact hx
    · exact h1.symm
    · exact h2.symm
  rw [hP]; unfold stepS; rw [hy, hxx]; rfl

/-- loading a head's slab from the scratch reads it -/
theorem ld_slab (n : ℕ) (hn : n < 16) (acc : Vec F S16x128x128 .f32)
    (h : ∀ i, (![n, 0, 0] : Fin 3 → ℕ) i + S1x128x128.size i ≤ S16x128x128.size i) :
    View.ld acc (Rect.unit (s := S16x128x128) ![n, 0, 0] S1x128x128.size h) = slab acc ⟨n, hn⟩ := by
  funext x
  have hx : (x 0).val = 0 := Nat.lt_one_iff.mp (x 0).isLt
  rw [View.ld_apply]
  refine congrArg acc (funext fun a => Fin.ext ?_)
  fin_cases a
  · show n + 1 * (x 0).val = n
    omega
  · show 0 + 1 * (x 1).val = (x 1).val
    omega
  · show 0 + 1 * (x 2).val = (x 2).val
    omega

/-- a middle point's scratch is one step from the scratch before it -/
theorem scratch_B (c : Dev nD) (t : Fin cfg0.N) (h0 : ¬t.val % 16 = 0) (h1 : ¬t.val % 16 = 15) :
    (outsAt0 m c t.val t.isLt).2.2 = stepS (iblk m c 1 t) (iblk m c 2 t) (iblk m c 4 t) (iblk m c 6 t)
      (outsAt0 m c (t.val - 1) (lt_of_le_of_lt (Nat.sub_le _ _) t.isLt)).2.2 := by
  rw [outsAt0_B m c t h0 h1]
  dsimp only
  frame_out
  simp only [read_unread_whole]
  funext y
  canon_tiles x h
  all_goals
    first
      | refine stepS_piece _ (by decide) _ _ _ _ _ x y h0 h1 h2 _ ?_
      | refine stepS_piece 0 (by decide) _ _ _ _ _ x y (h0.trans (Nat.zero_add _).symm) h1 h2 _ ?_
    rw [ld_slab _ (by decide)]
    rfl

/-- the last point's scratch too -/
theorem scratch_C (c : Dev nD) (t : Fin cfg0.N) (h0 : ¬t.val % 16 = 0) (h1 : t.val % 16 = 15) :
    (outsAt0 m c t.val t.isLt).2.2 = stepS (iblk m c 1 t) (iblk m c 2 t) (iblk m c 4 t) (iblk m c 6 t)
      (outsAt0 m c (t.val - 1) (lt_of_le_of_lt (Nat.sub_le _ _) t.isLt)).2.2 := by
  rw [outsAt0_C m c t h0 h1]
  dsimp only
  frame_out
  simp only [read_unread_whole]
  funext y
  canon_tiles x h
  all_goals
    first
      | refine stepS_piece _ (by decide) _ _ _ _ _ x y h0 h1 h2 _ ?_
      | refine stepS_piece 0 (by decide) _ _ _ _ _ x y (h0.trans (Nat.zero_add _).symm) h1 h2 _ ?_
    rw [ld_slab _ (by decide)]
    rfl

/-- stores that hold an index leave there what they leave over any first store -/
theorem canon_dropLast {S : Shape} {e : EltTy} (L : List (View.Piece (Elt F) S e)) (y : S.Idx)
    (hc : ∃ p ∈ L.dropLast, y ∈ p.1.set) : View.canon L y = View.canon L.dropLast y := by
  induction L with
  | nil => rfl
  | cons p L ih =>
    cases L with
    | nil => obtain ⟨q, hq, _⟩ := hc; simp at hq
    | cons p' L =>
      rw [List.dropLast_cons_cons] at hc ⊢
      by_cases hm : y ∈ p.1.set
      · obtain ⟨x, rfl⟩ := p.1.exists_idx_of_mem hm
        rw [show p.1.idx x = p.1.emb x from rfl, View.canon_cons_emb, View.canon_cons_emb]
      · rw [View.canon_cons_of_not_mem _ _ hm, View.canon_cons_of_not_mem _ _ hm]
        obtain ⟨q, hq, hyq⟩ := hc
        rcases List.mem_cons.mp hq with rfl | hq
        · exact absurd hyq hm
        · exact ih ⟨q, hq, hyq⟩

/-- the first point's scratch is one step from zero -/
theorem scratch_A (c : Dev nD) (t : Fin cfg0.N) (h0 : t.val % 16 = 0) (h1 : ¬t.val % 16 = 15) :
    (outsAt0 m c t.val t.isLt).2.2 = stepS (iblk m c 1 t) (iblk m c 2 t) (iblk m c 4 t) (iblk m c 6 t)
      (k0_pay20 (F := F)) := by
  rw [outsAt0_A m c t h0 h1]
  dsimp only
  frame_open
  simp (disch := decide) only [↓ View.readCov_skip, ↓ View.readCov_cons_toLoadRect, ↓ View.readCov_fill]
  frame_out
  funext y
  refine (canon_dropLast _ y ?_).trans ?_
  · refine View.cover_of_tiled (s := S16x128x128) _ S1x128x128.size ?_ y
    rfl
  dsimp only [List.dropLast]
  canon_tiles x h
  all_goals
    first
      | refine stepS_piece _ (by decide) _ _ _ _ _ x y h0 h1 h2 _ ?_
      | refine stepS_piece 0 (by decide) _ _ _ _ _ x y (h0.trans (Nat.zero_add _).symm) h1 h2 _ ?_
    rw [ld_slab _ (by decide)]
    rfl

/-! ### The output block -/

/-- head `h`'s lanes of the norm's scale, and of the output gate -/
def onS (x5 : Vec F S1x2048 .f32) (h : Fin 16) : Vec F S1x128 .f32 :=
  fun i => x5 (ValueIdx.ix2 0 ⟨128 * h.val + (i 1).val, by have h1 : (i 1).val < 128 := (i 1).isLt; have := h.isLt; omega⟩)
def ogS (x3 : Vec F S128x2048 .f32) (h : Fin 16) : Vec F S128x128 .f32 :=
  fun i => x3 (ValueIdx.ix2 (i 0) ⟨128 * h.val + (i 1).val, by have h1 : (i 1).val < 128 := (i 1).isLt; have := h.isLt; omega⟩)

/-- the head a column belongs to, and its lane there -/
def hd (j : Fin 2048) : Fin 16 := ⟨j.val / 128, by have := j.isLt; omega⟩
def ln (j : Fin 2048) : Fin 128 := ⟨j.val % 128, Nat.mod_lt _ (by decide)⟩

/-- the output block of one chunk, from the blocks and the state before it -/
def stepA (x0 x1 x2 x3 : Vec F S128x2048 .f32) (x4 : Vec F S2x2048 .f32) (x5 : Vec F S1x2048 .f32)
    (x6 : Vec F S128x384 .bf16) (acc : Vec F S16x128x128 .f32) : Vec F S128x2048 .bf16 :=
  fun y => hA (hd (y 1)) x0 x1 x2 x4 x6 (slab acc (hd (y 1))) (onS x5 (hd (y 1))) (ogS x3 (hd (y 1)))
    (ValueIdx.ix2 (y 0) (ln (y 1)))

/-- the head whose columns begin at `o` -/
abbrev oh (o : ℕ) (ho : o < 2048) : Fin 16 := ⟨o / 128, by omega⟩

/-- a stored head column block is the step's value there -/
theorem stepA_piece (o : ℕ) (ho : o < 2048) (hm : o % 128 = 0) (x0 x1 x2 x3 : Vec F S128x2048 .f32)
    (x4 : Vec F S2x2048 .f32) (x5 : Vec F S1x2048 .f32) (x6 : Vec F S128x384 .bf16) (acc : Vec F S16x128x128 .f32)
    (x : S128x128.Idx) (y : S128x2048.Idx)
    (h0 : (y 0).val = (x 0).val) (h1 : (y 1).val = o + (x 1).val) (P : FVec F S128x128 .bf16)
    (hP : P = hA (oh o ho) x0 x1 x2 x4 x6 (slab acc (oh o ho)) (onS x5 (oh o ho)) (ogS x3 (oh o ho))) :
    P x = stepA x0 x1 x2 x3 x4 x5 x6 acc y := by
  have hx : (x 1).val < 128 := (x 1).isLt
  have hy : hd (y 1) = oh o ho := Fin.ext (by show (y 1).val / 128 = o / 128; omega)
  have hxx : x = ValueIdx.ix2 (y 0) (ln (y 1)) := by
    funext a; apply Fin.ext; fin_cases a
    · exact h0.symm
    · show (x 1).val = (y 1).val % 128
      omega
  rw [hP]; unfold stepA; rw [hy, hxx]; rfl

/-- loading a head's lanes of the scale, and of the gate, reads them -/
theorem ld_on (o : ℕ) (ho : o < 2048) (hm : o % 128 = 0) (x5 : Vec F S1x2048 .f32)
    (h : ∀ i, (![0, o] : Fin 2 → ℕ) i + S1x128.size i ≤ S1x2048.size i) :
    View.ld x5 (Rect.unit (s := S1x2048) ![0, o] S1x128.size h) = onS x5 (oh o ho) := by
  funext x
  have hx : (x 0).val = 0 := Nat.lt_one_iff.mp (x 0).isLt
  rw [View.ld_apply]
  refine congrArg x5 (funext fun a => Fin.ext ?_)
  fin_cases a
  · show 0 + 1 * (x 0).val = 0
    omega
  · show o + 1 * (x 1).val = 128 * (o / 128) + (x 1).val
    omega

theorem ld_og (o : ℕ) (ho : o < 2048) (hm : o % 128 = 0) (x3 : Vec F S128x2048 .f32)
    (h : ∀ i, (![0, o] : Fin 2 → ℕ) i + S128x128.size i ≤ S128x2048.size i) :
    View.ld x3 (Rect.unit (s := S128x2048) ![0, o] S128x128.size h) = ogS x3 (oh o ho) := by
  funext x
  rw [View.ld_apply]
  refine congrArg x3 (funext fun a => Fin.ext ?_)
  fin_cases a
  · show 0 + 1 * (x 0).val = (x 0).val
    omega
  · show o + 1 * (x 1).val = 128 * (o / 128) + (x 1).val
    omega

/-- a middle point's output block -/
theorem out_B (c : Dev nD) (t : Fin cfg0.N) (h0 : ¬t.val % 16 = 0) (h1 : ¬t.val % 16 = 15) :
    (outsAt0 m c t.val t.isLt).1 = stepA (iblk m c 0 t) (iblk m c 1 t) (iblk m c 2 t) (iblk m c 3 t) (iblk m c 4 t)
      (iblk m c 5 t) (iblk m c 6 t) (outsAt0 m c (t.val - 1) (lt_of_le_of_lt (Nat.sub_le _ _) t.isLt)).2.2 := by
  rw [outsAt0_B m c t h0 h1]
  dsimp only
  frame_out
  simp only [read_unread_whole]
  funext y
  canon_tiles x h
  all_goals
    first
      | refine stepA_piece _ (by decide) (by decide) _ _ _ _ _ _ _ _ x y h0 h1 _ ?_
      | refine stepA_piece 0 (by decide) (by decide) _ _ _ _ _ _ _ _ x y h0 (h1.trans (Nat.zero_add _).symm) _ ?_
    rw [ld_slab _ (by decide), ld_on _ (by decide) (by decide), ld_og _ (by decide) (by decide)]
    rfl

/-- the last point's output block -/
theorem out_C (c : Dev nD) (t : Fin cfg0.N) (h0 : ¬t.val % 16 = 0) (h1 : t.val % 16 = 15) :
    (outsAt0 m c t.val t.isLt).1 = stepA (iblk m c 0 t) (iblk m c 1 t) (iblk m c 2 t) (iblk m c 3 t) (iblk m c 4 t)
      (iblk m c 5 t) (iblk m c 6 t) (outsAt0 m c (t.val - 1) (lt_of_le_of_lt (Nat.sub_le _ _) t.isLt)).2.2 := by
  rw [outsAt0_C m c t h0 h1]
  dsimp only
  frame_out
  simp only [read_unread_whole]
  funext y
  canon_tiles x h
  all_goals
    first
      | refine stepA_piece _ (by decide) (by decide) _ _ _ _ _ _ _ _ x y h0 h1 _ ?_
      | refine stepA_piece 0 (by decide) (by decide) _ _ _ _ _ _ _ _ x y h0 (h1.trans (Nat.zero_add _).symm) _ ?_
    rw [ld_slab _ (by decide), ld_on _ (by decide) (by decide), ld_og _ (by decide) (by decide)]
    rfl

/-- the first point's output block -/
theorem out_A (c : Dev nD) (t : Fin cfg0.N) (h0 : t.val % 16 = 0) (h1 : ¬t.val % 16 = 15) :
    (outsAt0 m c t.val t.isLt).1 = stepA (iblk m c 0 t) (iblk m c 1 t) (iblk m c 2 t) (iblk m c 3 t) (iblk m c 4 t)
      (iblk m c 5 t) (iblk m c 6 t) (k0_pay20 (F := F)) := by
  rw [outsAt0_A m c t h0 h1]
  dsimp only
  frame_open
  simp (disch := decide) only [↓ View.readCov_skip, ↓ View.readCov_cons_toLoadRect, ↓ View.readCov_fill]
  frame_out
  funext y
  canon_tiles x h
  all_goals
    first
      | refine stepA_piece _ (by decide) (by decide) _ _ _ _ _ _ _ _ x y h0 h1 _ ?_
      | refine stepA_piece 0 (by decide) (by decide) _ _ _ _ _ _ _ _ x y h0 (h1.trans (Nat.zero_add _).symm) _ ?_
    rw [ld_slab _ (by decide), ld_on _ (by decide) (by decide), ld_og _ (by decide) (by decide)]
    rfl

/-- a stored slab of the state block is a head of the new state, transposed -/
theorem st_piece (n : ℕ) (hn : n < 16) (x1 x2 : Vec F S128x2048 .f32) (x4 : Vec F S2x2048 .f32)
    (x6 : Vec F S128x384 .bf16) (acc : Vec F S16x128x128 .f32) (x : S1x1x128x128.Idx) (y : S1x16x128x128.Idx)
    (h1 : (y 1).val = n + (x 1).val) (h2 : (y 2).val = (x 2).val) (h3 : (y 3).val = (x 3).val)
    (P : FVec F S1x1x128x128 .f32) (hP : P = k0_pay3 (hS ⟨n, hn⟩ x1 x2 x4 x6 (slab acc ⟨n, hn⟩))) :
    P x = stepS x1 x2 x4 x6 acc (ValueIdx.ix3 (y 1) (y 3) (y 2)) := by
  have hx : (x 1).val = 0 := Nat.lt_one_iff.mp (x 1).isLt
  have hx0 : (x 0).val = 0 := Nat.lt_one_iff.mp (x 0).isLt
  have hy : y 1 = (⟨n, hn⟩ : Fin 16) := Fin.ext (by rw [h1, hx]; rfl)
  have hxx : x = ValueIdx.ix4 0 0 (y 2) (y 3) := by
    funext a; apply Fin.ext; fin_cases a
    · exact hx0
    · exact hx
    · exact h2.symm
    · exact h3.symm
  rw [hP, hxx, hy]
  unfold stepS k0_pay3
  show _ = hS (⟨n, hn⟩ : Fin 16) x1 x2 x4 x6 (slab acc ⟨n, hn⟩) (ValueIdx.ix3 0 (y 3) (y 2))
  generalize hS (⟨n, hn⟩ : Fin 16) x1 x2 x4 x6 = f
  pointwise
  rfl

/-- the last point's state block: every head of the new scratch, transposed -/
theorem st_C (c : Dev nD) (t : Fin cfg0.N) (h0 : ¬t.val % 16 = 0) (h1 : t.val % 16 = 15) :
    (outsAt0 m c t.val t.isLt).2.1 = fun y => (outsAt0 m c t.val t.isLt).2.2 (ValueIdx.ix3 (y 1) (y 3) (y 2)) := by
  rw [scratch_C m c t h0 h1, outsAt0_C m c t h0 h1]
  dsimp only
  frame_open
  simp (disch := decide) only [↓ View.readCov_skip, ↓ View.readCov_cons_toLoadRect, ↓ View.readCov_fill]
  frame_out
  simp only [read_unread_whole]
  funext y
  canon_tiles x h
  all_goals
    first
      | refine st_piece _ (by decide) _ _ _ _ _ x y h1 h2 h3 _ ?_
      | refine st_piece 0 (by decide) _ _ _ _ _ x y (h1.trans (Nat.zero_add _).symm) h2 h3 _ ?_
    rw [ld_slab _ (by decide)]
    rfl

end Cert.KernelIdeal.Heads

end

end
-- ==== Proof.Tri.lean ====
module

public import proofs.«01_k».proof.Proof.Gen.KernelIdeal.Launch

/-! The kernel's prefix-sum table: in its first 128 columns, ones up to the diagonal. -/

@[expose] public section

set_option maxRecDepth 16384

noncomputable section

namespace Cert.KernelIdeal.Fold

open Cert.KernelIdeal Cert.KernelIdeal.Gen Idealize.ShloMosaic

theorem lit_at : ∀ (r : Fin 128) (k : Fin 128), lit0 ⟨384 * r.val + k.val, by have := r.isLt; have := k.isLt; show _ < 128 * 384; omega⟩ = if k.val ≤ r.val then 0x3F80#16 else 0#16 := by
  decide +kernel

end Cert.KernelIdeal.Fold

end
-- ==== Proof.Gate.lean ====
module

public import proofs.«01_k».proof.Proof.Tokens

/-! The two results of the prompt's recurrence, in closed form: the normed and gated outputs, and the last state. -/

@[expose] public section

noncomputable section

namespace Cert.Recur

open Idealize.ShloMosaic

/-- a head's normed output lane, scaled and gated -/
def outG (o : Fin 128 → EReal) (y : Fin 128) (w g : EReal) : EReal :=
  o y * Ideal.rsqrt (Ideal.div (∑ x : Fin 128, o x * o x) (Ideal.ofBits .f32 1124073472#32) + Ideal.ofBits .f32 897988541#32) * w
    * (g * Ideal.logistic g)

variable (P : (⟨2, ![8320, 22528]⟩ : Shape).Idx → EReal) (L : (⟨2, ![2, 2048]⟩ : Shape).Idx → EReal)
  (W : (⟨2, ![16, 128]⟩ : Shape).Idx → EReal)

/-- a token's output before the norm -/
def oR (b : ℕ) (h : Fin 16) (y : Fin 128) (t : ℕ) : ℝ :=
  ∑ x : Fin 128, qR P b (jh h x) t * stH (fR P L b) (vR P b) h x y (t + 1)

/-- the first result at a row and a column -/
def resA (R : Fin 8192) (J : Fin 2048) : EReal :=
  outG (fun y => ((oR P L (R.val / 2048) ⟨J.val / 128, by have := J.isLt; omega⟩ y (R.val % 2048) : ℝ) : EReal))
    ⟨J.val % 128, Nat.mod_lt _ (by decide)⟩
    (W (ix2 ⟨J.val / 128, by have := J.isLt; omega⟩ ⟨J.val % 128, Nat.mod_lt _ (by decide)⟩))
    (P (ix2 ⟨R.val, by have := R.isLt; omega⟩ ⟨6144 + J.val, by have := J.isLt; omega⟩))

/-- the second result: the state after the whole prompt -/
def resS (b : Fin 4) (h : Fin 16) (x y : Fin 128) : EReal :=
  ((stH (fR P L b.val) (vR P b.val) h x y 2048 : ℝ) : EReal)

end Cert.Recur

end
-- ==== Proof.KerFold.lean ====
module

public import proofs.«01_k».proof.Proof.Chunk
public import proofs.«01_k».proof.Proof.HeadsRun
public import proofs.«01_k».proof.Proof.Tri
public import proofs.«01_k».proof.Proof.Gate
public import proofs.«01_k».proof.Proof.Gen.KernelIdeal.Value
public import Idealize.ShloMosaic.Lib.Pipeline.ValueKit
public import Idealize.ShloMosaic.Lib.IdealHost

/-! The kernel's grid: each point's blocks hold the real numbers of its chunk, and the carried scratch is the token
    recurrence's state. -/

@[expose] public section

set_option maxRecDepth 16384

noncomputable section

namespace Cert.KernelIdeal.Fold

open Cert.KernelIdeal Cert.KernelIdeal.Gen Idealize.ShloMosaic Idealize.ShloMosaic.TcCoe Idealize.ShloMosaic.Tactic
open Cert.KernelIdeal.Heads Cert.KernelIdeal.Chunk Cert.Recur

variable (m : (ℓ : Loc nD τ sig) → Buf (Elt Ideal) ℓ) (c : Dev nD)

/-- the blocks a grid point reads and writes -/
theorem e0 : ∀ t : Fin cfg0.N, win0_0.index t = ![t.val, 0] := (by decide +kernel : ∀ t : Fin grid0.N, win0_0.index t = ![t.val, 0])
theorem e1 : ∀ t : Fin cfg0.N, win0_1.index t = ![t.val, 1] := (by decide +kernel : ∀ t : Fin grid0.N, win0_1.index t = ![t.val, 1])
theorem e2 : ∀ t : Fin cfg0.N, win0_2.index t = ![t.val, 2] := (by decide +kernel : ∀ t : Fin grid0.N, win0_2.index t = ![t.val, 2])
theorem e3 : ∀ t : Fin cfg0.N, win0_3.index t = ![t.val, 3] := (by decide +kernel : ∀ t : Fin grid0.N, win0_3.index t = ![t.val, 3])
theorem e4 : ∀ t : Fin cfg0.N, win0_4.index t = ![0, 0] := (by decide +kernel : ∀ t : Fin grid0.N, win0_4.index t = ![0, 0])
theorem e5 : ∀ t : Fin cfg0.N, win0_5.index t = ![0, 0] := (by decide +kernel : ∀ t : Fin grid0.N, win0_5.index t = ![0, 0])
theorem e6 : ∀ t : Fin cfg0.N, win0_6.index t = ![0, 0] := (by decide +kernel : ∀ t : Fin grid0.N, win0_6.index t = ![0, 0])
theorem e7 : ∀ t : Fin cfg0.N, win0_7.index t = ![t.val, 0] := (by decide +kernel : ∀ t : Fin grid0.N, win0_7.index t = ![t.val, 0])
theorem e8 : ∀ t : Fin cfg0.N, win0_8.index t = ![t.val / 16, 0, 0, 0] := (by decide +kernel : ∀ t : Fin grid0.N, win0_8.index t = ![t.val / 16, 0, 0, 0])

abbrev A0 : FVec Ideal S8320x22528 .f32 := m ((c : Thread nD τ).loc main_arg0)
abbrev A1 : FVec Ideal S2x2048 .f32 := m ((c : Thread nD τ).loc main_arg1)
abbrev A2 : FVec Ideal S16x128 .f32 := m ((c : Thread nD τ).loc main_arg2)

theorem V_cst : V m c main_cst = (fun i => FloatOps.ofBits (F := Ideal) .bf16 (lit0 (S128x384.rowMajor i)) : FVec Ideal S128x384 .bf16) := by
  show StableHlo.after hostOps0 _ _ = _
  simp only [hostOps0]
  after_results
  rfl

theorem V_v0 : V m c main_v0 = shapeCast S1x2048 (A2 m c) shapeCasts_S16x128_S1x2048 := by
  show StableHlo.after hostOps0 _ _ = _
  simp only [hostOps0]
  after_results
  rfl

theorem b0_at (t : Fin cfg0.N) (r : Fin 128) (j : Fin 2048) (ht : t.val < 64) :
    iblk m c 0 t (ix2 r j) = A0 m c (ix2 ⟨128 * t.val + r.val, by have := r.isLt; omega⟩ ⟨j.val, by have := j.isLt; omega⟩) := by
  blk_simp [iblk]
  rw [V_main_arg0]
  refine congrArg (A0 m c) ?_
  blk_ext [e0]

theorem b1_at (t : Fin cfg0.N) (r : Fin 128) (j : Fin 2048) (ht : t.val < 64) :
    iblk m c 1 t (ix2 r j) = A0 m c (ix2 ⟨128 * t.val + r.val, by have := r.isLt; omega⟩ ⟨2048 + j.val, by have := j.isLt; omega⟩) := by
  blk_simp [iblk]
  rw [V_main_arg0]
  refine congrArg (A0 m c) ?_
  blk_ext [e1]

theorem b2_at (t : Fin cfg0.N) (r : Fin 128) (j : Fin 2048) (ht : t.val < 64) :
    iblk m c 2 t (ix2 r j) = A0 m c (ix2 ⟨128 * t.val + r.val, by have := r.isLt; omega⟩ ⟨4096 + j.val, by have := j.isLt; omega⟩) := by
  blk_simp [iblk]
  rw [V_main_arg0]
  refine congrArg (A0 m c) ?_
  blk_ext [e2]

theorem b3_at (t : Fin cfg0.N) (r : Fin 128) (j : Fin 2048) (ht : t.val < 64) :
    iblk m c 3 t (ix2 r j) = A0 m c (ix2 ⟨128 * t.val + r.val, by have := r.isLt; omega⟩ ⟨6144 + j.val, by have := j.isLt; omega⟩) := by
  blk_simp [iblk]
  rw [V_main_arg0]
  refine congrArg (A0 m c) ?_
  blk_ext [e3]

theorem b4_at (t : Fin cfg0.N) (r : Fin 2) (j : Fin 2048) : iblk m c 4 t (ix2 r j) = A1 m c (ix2 r j) := by
  blk_simp [iblk]
  rw [V_main_arg1]
  refine congrArg (A1 m c) ?_
  blk_ext [e4]

theorem b5_at (t : Fin cfg0.N) (h : Fin 16) (x : Fin 128) : iblk m c 5 t (ix2 0 (jh h x)) = A2 m c (ix2 h x) := by
  blk_simp [iblk]
  rw [V_v0]
  have e : (win0_5.blk t).view.emb (ix2 0 (jh h x)) = (ix2 0 (jh h x) : S1x2048.Idx) := by blk_ext [e5]
  rw [e]
  have hx := x.isLt
  pointwise
  congr 3
  · show (128 * h.val + x.val) / 128 = h.val
    omega
  · show (128 * h.val + x.val) % 128 = x.val
    omega

theorem b6_at (t : Fin cfg0.N) (r : Fin 128) (k : Fin 384) (hk : k.val < 128) :
    iblk m c 6 t (ix2 r k) = if k.val ≤ r.val then (1 : EReal) else 0 := by
  blk_simp [iblk]
  rw [V_cst]
  have e : (win0_6.blk t).view.emb (ix2 r k) = (ix2 r k : S128x384.Idx) := by blk_ext [e6]
  rw [e]
  have hi : S128x384.rowMajor (ix2 r k) = ⟨384 * r.val + (⟨k.val, hk⟩ : Fin 128).val, by have := r.isLt; show _ < 128 * 384; omega⟩ := by
    apply Fin.ext
    rw [Shape.rowMajor_val_two]
    show r.val * 384 + k.val = 384 * r.val + k.val
    omega
  refine (congrArg (fun n : Fin 49152 => (FloatOps.ofBits (F := Ideal) .bf16 (lit0 n) : EReal)) hi).trans ?_
  refine (congrArg (fun b : BitVec 16 => (FloatOps.ofBits (F := Ideal) .bf16 b : EReal)) (lit_at r ⟨k.val, hk⟩)).trans ?_
  dsimp only
  by_cases hc : k.val ≤ r.val
  · rw [if_pos hc, if_pos hc]
    exact Ideal.ofBits_one_bf16
  · rw [if_neg hc, if_neg hc]
    exact Ideal.ofBits_zero .bf16

/-- the gate's block at an index -/
theorem gate_at (x4 : Vec Ideal S2x2048 .f32) (x1 : Vec Ideal S128x2048 .f32) (L : (⟨2, ![2, 2048]⟩ : Shape).Idx → EReal)
    (hL : ∀ i, L i ≠ ⊤ ∧ L i ≠ ⊥) (hx : ∀ (r : Fin 2) (j : Fin 2048), x4 (ix2 r j) = L (ix2 r j)) (r : Fin 128) (j : Fin 2048) (z : ℝ) (hz : x1 (ix2 r j) = (z : EReal)) :
    k0_pay30 x4 x1 (ix2 r j) = ((lbR L j + (1 - lbR L j) * (1 + Real.exp (-z))⁻¹ : ℝ) : EReal) := by
  unfold k0_pay30
  pointwise
  simp only [hx]
  have ef := fold_coe L hL j
  have e : Ideal.div (∑ x : Fin 1, Ideal.exp (L (ix2 0 j) - Finset.fold max (Ideal.ofBits .f32 4286578688#32 : EReal) (fun x : Fin 2 => L (ix2 x j)) Finset.univ))
      (∑ x : Fin 2, Ideal.exp (L (ix2 x j) - Finset.fold max (Ideal.ofBits .f32 4286578688#32 : EReal) (fun x : Fin 2 => L (ix2 x j)) Finset.univ))
      = ((lbR L j : ℝ) : EReal) := by
    rw [ef, ← lb_coe L hL, Fin.sum_univ_one]
  rw [hz, Ideal.logistic_coe, ← gate_coe]
  exact congrArg (fun l : EReal => l + (1 - l) * (((1 + Real.exp (-z))⁻¹ : ℝ) : EReal)) e

/-- a grid point's blocks hold its chunk's real numbers -/
theorem holds (hP : ∀ i, A0 m c i ≠ ⊤ ∧ A0 m c i ≠ ⊥) (hL : ∀ i, A1 m c i ≠ ⊤ ∧ A1 m c i ≠ ⊥) (t : Fin cfg0.N) (ht : t.val < 64) :
    Holds (iblk m c 0 t) (iblk m c 1 t) (iblk m c 2 t) (iblk m c 4 t) (iblk m c 6 t) (qR (A0 m c) (t.val / 16))
      (fR (A0 m c) (A1 m c) (t.val / 16)) (vR (A0 m c) (t.val / 16)) (128 * (t.val % 16)) where
  q_at r j := by
    rw [b0_at m c t r j ht, pR_coe _ hP]
    unfold qR
    rw [show 2048 * (t.val / 16) + (128 * (t.val % 16) + r.val) = 128 * t.val + r.val by omega]
  f_at r j := by
    rw [gate_at _ _ (A1 m c) hL (b4_at m c t) r j _ ((b1_at m c t r j ht).trans (pR_coe _ hP _ _))]
    unfold fR
    rw [show 2048 * (t.val / 16) + (128 * (t.val % 16) + r.val) = 128 * t.val + r.val by omega]
  v_at r j := by
    rw [b2_at m c t r j ht, pR_coe _ hP]
    unfold vR
    rw [show 2048 * (t.val / 16) + (128 * (t.val % 16) + r.val) = 128 * t.val + r.val by omega]
  pos _ _ := fR_pos _ _ _ _ _
  le1 _ _ := fR_le _ _ _ _ _
  tri r k hk := b6_at m c t r k hk

/-- the state a grid point starts from -/
def prev (t : Fin cfg0.N) : Vec Ideal S16x128x128 .f32 :=
  if t.val % 16 = 0 then k0_pay20 (F := Ideal) else (outsAt0 m c (t.val - 1) (lt_of_le_of_lt (Nat.sub_le _ _) t.isLt)).2.2

theorem scratch_eq (t : Fin cfg0.N) : (outsAt0 m c t.val t.isLt).2.2
    = stepS (iblk m c 1 t) (iblk m c 2 t) (iblk m c 4 t) (iblk m c 6 t) (prev m c t) := by
  unfold prev
  by_cases h0 : t.val % 16 = 0
  · rw [if_pos h0, scratch_A m c t h0 (by omega)]
  · rw [if_neg h0]
    by_cases h1 : t.val % 16 = 15
    · rw [scratch_C m c t h0 h1]
    · rw [scratch_B m c t h0 h1]

theorem out_eq (t : Fin cfg0.N) : (outsAt0 m c t.val t.isLt).1
    = stepA (iblk m c 0 t) (iblk m c 1 t) (iblk m c 2 t) (iblk m c 3 t) (iblk m c 4 t) (iblk m c 5 t) (iblk m c 6 t) (prev m c t) := by
  unfold prev
  by_cases h0 : t.val % 16 = 0
  · rw [if_pos h0, out_A m c t h0 (by omega)]
  · rw [if_neg h0]
    by_cases h1 : t.val % 16 = 15
    · rw [out_C m c t h0 h1]
    · rw [out_B m c t h0 h1]

variable (hP : ∀ i, A0 m c i ≠ ⊤ ∧ A0 m c i ≠ ⊥) (hL : ∀ i, A1 m c i ≠ ⊤ ∧ A1 m c i ≠ ⊥)
include hP hL

/-- a step takes the token recurrence's state to its state a chunk later -/
theorem next_at (t : Fin cfg0.N) (ht : t.val < 64)
    (hs : ∀ (h : Fin 16) (y x : Fin 128), prev m c t (ix3 h y x)
      = ((stH (fR (A0 m c) (A1 m c) (t.val / 16)) (vR (A0 m c) (t.val / 16)) h x y (128 * (t.val % 16)) : ℝ) : EReal))
    (h : Fin 16) (y x : Fin 128) : (outsAt0 m c t.val t.isLt).2.2 (ix3 h y x)
      = ((stH (fR (A0 m c) (A1 m c) (t.val / 16)) (vR (A0 m c) (t.val / 16)) h x y (128 * (t.val % 16) + 128) : ℝ) : EReal) := by
  rw [scratch_eq]
  exact hS_at (holds m c hP hL t ht) h (slab (prev m c t) h) (fun y x => hs h y x) y x

/-- the carried scratch is the token recurrence's state -/
theorem prev_at : ∀ (n : ℕ) (hn : n < cfg0.N), n < 64 → ∀ (h : Fin 16) (y x : Fin 128), prev m c ⟨n, hn⟩ (ix3 h y x)
      = ((stH (fR (A0 m c) (A1 m c) (n / 16)) (vR (A0 m c) (n / 16)) h x y (128 * (n % 16)) : ℝ) : EReal) := by
  intro n
  induction n with
  | zero =>
    intro hn _ h y x
    unfold prev
    rw [if_pos (by rfl)]
    show Ideal.ofBits .f32 0#32 = _
    simp [stH, st]
  | succ n ih =>
    intro hn h64 h y x
    unfold prev
    dsimp only
    by_cases h0 : (n + 1) % 16 = 0
    · rw [if_pos h0, h0]
      show Ideal.ofBits .f32 0#32 = _
      simp [stH, st]
    · rw [if_neg h0]
      have := next_at m c hP hL ⟨n, by omega⟩ (by show n < 64; omega) (ih (by omega) (by omega)) h y x
      dsimp only at this
      rw [show (n + 1) / 16 = n / 16 by omega, show 128 * ((n + 1) % 16) = 128 * (n % 16) + 128 by omega]
      exact this

theorem st_at (t : Fin cfg0.N) (ht : t.val < 64) (h : Fin 16) (y x : Fin 128) : (outsAt0 m c t.val t.isLt).2.2 (ix3 h y x)
      = ((stH (fR (A0 m c) (A1 m c) (t.val / 16)) (vR (A0 m c) (t.val / 16)) h x y (128 * (t.val % 16) + 128) : ℝ) : EReal) :=
  next_at m c hP hL t ht (prev_at m c hP hL t.val t.isLt ht) h y x

/-- the output block -/
theorem out_at (t : Fin cfg0.N) (ht : t.val < 64) (r : Fin 128) (J : Fin 2048) : (outsAt0 m c t.val t.isLt).1 (ix2 r J)
      = resA (A0 m c) (A1 m c) (A2 m c) ⟨128 * t.val + r.val, by have := r.isLt; omega⟩ J := by
  have hr := r.isLt
  have hJ := J.isLt
  have eo (y : Fin 128) : hO (hd J) (iblk m c 0 t) (iblk m c 1 t) (iblk m c 2 t) (iblk m c 4 t) (iblk m c 6 t) (slab (prev m c t) (hd J)) (ix2 r y)
      = ((oR (A0 m c) (A1 m c) (t.val / 16) (hd J) y (128 * (t.val % 16) + r.val) : ℝ) : EReal) :=
    hO_at (holds m c hP hL t ht) (hd J) (slab (prev m c t) (hd J)) (fun y x => prev_at m c hP hL t.val t.isLt ht (hd J) y x) r y
  have ew : onS (iblk m c 5 t) (hd J) (ix2 0 (ln J)) = A2 m c (ix2 (hd J) (ln J)) := b5_at m c t (hd J) (ln J)
  have eg : ogS (iblk m c 3 t) (hd J) (ix2 r (ln J)) = A0 m c (ix2 ⟨128 * t.val + r.val, by omega⟩ ⟨6144 + J.val, by omega⟩) := by
    refine Eq.trans ?_ (b3_at m c t r J ht)
    refine congrArg (iblk m c 3 t) (funext fun a => Fin.ext ?_)
    fin_cases a
    · rfl
    · show 128 * (J.val / 128) + J.val % 128 = J.val
      omega
  rw [out_eq]
  show hA (hd J) (iblk m c 0 t) (iblk m c 1 t) (iblk m c 2 t) (iblk m c 4 t) (iblk m c 6 t) (slab (prev m c t) (hd J))
    (onS (iblk m c 5 t) (hd J)) (ogS (iblk m c 3 t) (hd J)) (ix2 r (ln J)) = _
  unfold hA
  generalize hO (hd J) (iblk m c 0 t) (iblk m c 1 t) (iblk m c 2 t) (iblk m c 4 t) (iblk m c 6 t) (slab (prev m c t) (hd J)) = o at *
  generalize onS (iblk m c 5 t) (hd J) = w at *
  generalize ogS (iblk m c 3 t) (hd J) = g at *
  unfold gated
  pointwise
  rw [ew, eg]
  simp only [eo]
  unfold resA outG
  dsimp only
  rw [show (128 * t.val + r.val) / 2048 = t.val / 16 by omega, show (128 * t.val + r.val) % 2048 = 128 * (t.val % 16) + r.val by omega]
  rfl

/-- the first result -/
theorem final7 : (dats m 0 c).arrAt 7 cfg0.N = fun i => resA (A0 m c) (A1 m c) (A2 m c) (i 0) (i 1) := by
  refine (dats m 0 c).arrAt_eq_of_covers 7 _ (by decide +kernel) fun t hf y => ?_
  have ht : t.val < 64 := lt_of_lt_of_eq t.isLt (show cfg0.N = 64 from N_0)
  blk_simp
  rw [after0_7]
  obtain ⟨r, j, rfl⟩ : ∃ (r : Fin 128) (j : Fin 2048), y = ix2 r j := ⟨y 0, y 1, by funext a; fin_cases a <;> rfl⟩
  refine (out_at m c hP hL t ht r j).trans ?_
  have e : (win0_7.blk t).view.emb (ix2 r j) = (ix2 ⟨128 * t.val + r.val, by have := r.isLt; omega⟩ j : S8192x2048.Idx) := by blk_ext [e7]
  rw [e]
  rfl

omit hP hL in
theorem fl8 : ∀ t : Fin cfg0.N, (cfg0.win 8).flush t = true → t.val % 16 = 15 :=
  (by decide +kernel : ∀ t : Fin grid0.N, win0_8.flush t = true → t.val % 16 = 15)

/-- the second result -/
theorem final8 : (dats m 0 c).arrAt 8 cfg0.N = fun i => resS (A0 m c) (A1 m c) (i 0) (i 1) (i 2) (i 3) := by
  refine (dats m 0 c).arrAt_eq_of_covers 8 _ (by decide +kernel) fun t hf y => ?_
  have ht : t.val < 64 := lt_of_lt_of_eq t.isLt (show cfg0.N = 64 from N_0)
  have h15 := fl8 t hf
  blk_simp
  rw [after0_8, st_C m c t (by omega) h15]
  obtain ⟨a, h, x, v, rfl⟩ : ∃ (a : Fin 1) (h : Fin 16) (x v : Fin 128), y = ix4 a h x v := ⟨y 0, y 1, y 2, y 3, by funext a; fin_cases a <;> rfl⟩
  refine (st_at m c hP hL t ht h v x).trans ?_
  have e : (win0_8.blk t).view.emb (ix4 a h x v) = (ix4 ⟨t.val / 16, by omega⟩ h x v : S4x16x128x128.Idx) := by
    have ha : a.val = 0 := by omega
    blk_ext [e8]
  rw [e, h15]
  rfl

end Cert.KernelIdeal.Fold

end
-- ==== Proof.RefTrip.lean ====
module

public import proofs.«01_k».proof.Proof.Tokens
public import proofs.«01_k».proof.Proof.Gen.ReferenceIdeal.Run

/-! One trip of the reference's loop over chunks of 64 tokens, as a step of the token recurrence. -/

@[expose] public section

set_option maxRecDepth 16384

noncomputable section

namespace Cert.ReferenceIdeal.Trip

open Cert.ReferenceIdeal Cert.ReferenceIdeal.Gen Cert.ReferenceIdeal.Value
open Idealize.ShloMosaic Idealize.ShloMosaic.TcCoe Idealize.ShloMosaic.Tactic
open Cert.Recur

theorem coe_sum {ι : Type} (s : Finset ι) (a : ι → ℝ) : ∑ i ∈ s, ((a i : ℝ) : EReal) = ((∑ i ∈ s, a i : ℝ) : EReal) := by
  induction s using Finset.cons_induction with
  | empty => simp
  | cons i s h ih => rw [Finset.sum_cons, Finset.sum_cons, ih, EReal.coe_add]

theorem foldl_sum (N : ℕ) (g : Fin N → EReal) (v : EReal) :
    (List.finRange N).foldl (fun r n => r + g n) v = v + ∑ n, g n := by
  have h (l : List (Fin N)) (v : EReal) : l.foldl (fun r n => r + g n) v = v + (l.map g).sum := by
    induction l generalizing v with
    | nil => simp
    | cons a l ih => rw [List.foldl_cons, ih, List.map_cons, List.sum_cons, add_assoc]
  rw [h, Fin.sum_univ_def]

/-- the window's index along the summed axis -/
theorem win_row : ∀ n : Fin (⟨4, ![1, 64, 1, 1]⟩ : Shape).numel,
    ((⟨4, ![1, 64, 1, 1]⟩ : Shape).rowMajor.symm n 0).val = 0 ∧ ((⟨4, ![1, 64, 1, 1]⟩ : Shape).rowMajor.symm n 1).val = n.val
      ∧ ((⟨4, ![1, 64, 1, 1]⟩ : Shape).rowMajor.symm n 2).val = 0 ∧ ((⟨4, ![1, 64, 1, 1]⟩ : Shape).rowMajor.symm n 3).val = 0 := by
  decide +kernel

/-- a sum over a window that ends at a row is the sum up to that row -/
theorem sum_window (r : ℕ) (hr : r < 64) (X : ℕ → EReal) :
    (∑ n : Fin 64, if 63 ≤ r + n.val then X (r + n.val - 63) else 0) = ∑ s ∈ Finset.range (r + 1), X s := by
  rw [Fin.sum_univ_eq_sum_range (fun n => if 63 ≤ r + n then X (r + n - 63) else 0) 64,
    show 64 = (63 - r) + (r + 1) by omega, Finset.sum_range_add, Finset.sum_eq_zero, zero_add]
  · refine Finset.sum_congr rfl fun s _ => ?_
    rw [if_pos (by omega)]
    congr 1; omega
  · intro s hs
    rw [Finset.mem_range] at hs
    rw [if_neg (by omega)]

theorem cumsum_at (x : FVec Ideal S4x64x16x128 .f32) (z : FVec Ideal S_ .f32) (hz : ∀ i, z i = 0) (X : ℕ → EReal)
    (b : Fin 4) (r : Fin 64) (h : Fin 16) (k : Fin 128) (hX : ∀ s : Fin 64, x (ix4 b s h k) = X s.val) :
    Host.reduceWindowAdd ![1, 64, 1, 1] ![1, 1, 1, 1] ![0, 63, 0, 0] ![0, 0, 0, 0] x z
      reduceWindows_S4x64x16x128_S4x64x16x128_w1s1p0_0_w64s1p63_0_w1s1p0_0_w1s1p0_0 h_S_ (ix4 b r h k)
      = ∑ s ∈ Finset.range (r.val + 1), X s := by
  rw [← sum_window r.val r.isLt X]
  unfold Host.reduceWindowAdd
  rw [Ideal.hostReduceWindowAdd_def]
  unfold Ideal.hostReduceWindowAdd Host.reduceWindow
  dsimp only
  rw [foldl_sum, hz, zero_add]
  refine Finset.sum_congr rfl fun n _ => ?_
  obtain ⟨w0, w1, w2, w3⟩ := win_row n
  have hn : n.val < 64 := n.isLt
  have hr := r.isLt
  by_cases hc : 63 ≤ r.val + n.val
  · rw [if_pos hc, dif_pos]
    · rw [← hX ⟨r.val + n.val - 63, by omega⟩]
      refine congrArg x (funext fun a => Fin.ext ?_)
      fin_cases a
      · show b.val * 1 + ((⟨4, ![1, 64, 1, 1]⟩ : Shape).rowMajor.symm n 0).val - 0 = b.val
        rw [w0]; omega
      · show r.val * 1 + ((⟨4, ![1, 64, 1, 1]⟩ : Shape).rowMajor.symm n 1).val - 63 = r.val + n.val - 63
        rw [w1]; omega
      · show h.val * 1 + ((⟨4, ![1, 64, 1, 1]⟩ : Shape).rowMajor.symm n 2).val - 0 = h.val
        rw [w2]; omega
      · show k.val * 1 + ((⟨4, ![1, 64, 1, 1]⟩ : Shape).rowMajor.symm n 3).val - 0 = k.val
        rw [w3]; omega
    · intro a
      have := b.isLt; have := h.isLt; have := k.isLt
      fin_cases a
      · show 0 ≤ b.val * 1 + ((⟨4, ![1, 64, 1, 1]⟩ : Shape).rowMajor.symm n 0).val ∧ b.val * 1 + ((⟨4, ![1, 64, 1, 1]⟩ : Shape).rowMajor.symm n 0).val - 0 < 4
        rw [w0]; omega
      · show 63 ≤ r.val * 1 + ((⟨4, ![1, 64, 1, 1]⟩ : Shape).rowMajor.symm n 1).val ∧ r.val * 1 + ((⟨4, ![1, 64, 1, 1]⟩ : Shape).rowMajor.symm n 1).val - 63 < 64
        rw [w1]; omega
      · show 0 ≤ h.val * 1 + ((⟨4, ![1, 64, 1, 1]⟩ : Shape).rowMajor.symm n 2).val ∧ h.val * 1 + ((⟨4, ![1, 64, 1, 1]⟩ : Shape).rowMajor.symm n 2).val - 0 < 16
        rw [w2]; omega
      · show 0 ≤ k.val * 1 + ((⟨4, ![1, 64, 1, 1]⟩ : Shape).rowMajor.symm n 3).val ∧ k.val * 1 + ((⟨4, ![1, 64, 1, 1]⟩ : Shape).rowMajor.symm n 3).val - 0 < 128
        rw [w3]; omega
  · rw [if_neg hc, dif_neg]
    intro hin
    have := (hin 1).1
    have e : r.val * 1 + ((⟨4, ![1, 64, 1, 1]⟩ : Shape).rowMajor.symm n 1).val < 63 := by rw [w1]; omega
    exact absurd this (not_le.mpr e)

/-- what the carried buffers hold before trip `n` -/
structure At (V : Valuation τ sig (Elt Ideal)) (q f v : Fin 4 → Fin 2048 → ℕ → ℝ) (n : ℕ) : Prop where
  ctr : V (Proc.devRef .tc main_v59_5) = fun _ => BitVec.ofNat 32 n
  q_at : ∀ (i : Fin 32) (b : Fin 4) (r : Fin 64) (h : Fin 16) (k : Fin 128),
    V (Proc.devRef .tc main_v59_0) (ix5 i b r h k) = ((q b (jh h k) (64 * i.val + r.val) : ℝ) : EReal)
  g_at : ∀ (i : Fin 32) (b : Fin 4) (r : Fin 64) (h : Fin 16) (k : Fin 128),
    V (Proc.devRef .tc main_v59_1) (ix5 i b r h k) = ((Real.log (f b (jh h k) (64 * i.val + r.val)) : ℝ) : EReal)
  k_at : ∀ (i : Fin 32) (b : Fin 4) (r : Fin 64) (h : Fin 16) (k : Fin 128),
    V (Proc.devRef .tc main_v59_2) (ix5 i b r h k) = ((1 - f b (jh h k) (64 * i.val + r.val) : ℝ) : EReal)
  v_at : ∀ (i : Fin 32) (b : Fin 4) (r : Fin 64) (h : Fin 16) (k : Fin 128),
    V (Proc.devRef .tc main_v59_3) (ix5 i b r h k) = ((v b (jh h k) (64 * i.val + r.val) : ℝ) : EReal)
  mask_at : ∀ t s : Fin 64, V (Proc.devRef .tc main_v59_4) (ix5 0 t s 0 0) = if s.val ≤ t.val then 1#1 else 0#1
  st_at : ∀ (b : Fin 4) (h : Fin 16) (x y : Fin 128),
    V (Proc.devRef .tc main_v59_6) (ix4 b h x y) = ((stH (f b) (v b) h x y (64 * n) : ℝ) : EReal)
  out_at : ∀ (i : Fin 32), i.val < n → ∀ (b : Fin 4) (r : Fin 64) (h : Fin 16) (y : Fin 128),
    V (Proc.devRef .tc main_v59_7) (ix5 i b r h y)
      = ((∑ x : Fin 128, q b (jh h x) (64 * i.val + r.val) * stH (f b) (v b) h x y (64 * i.val + r.val + 1) : ℝ) : EReal)

/-- the chunk a trip reads out of a carried array -/
theorem chunk_at {α : Type} (x : S32x4x64x16x128.Idx → α) (V : Valuation τ sig (Elt Ideal)) (n : Fin 32)
    (hc : V (Proc.devRef .tc main_v59_5) = fun _ => BitVec.ofNat 32 n.val) (b : Fin 4) (r : Fin 64) (h : Fin 16) (k : Fin 128) :
    shapeCast S4x64x16x128 (Host.dynamicSlice S1x4x64x16x128 x (fun k => (((![V (Proc.devRef .tc main_v59_5), constantI S_ 32 0#32, constantI S_ 32 0#32, constantI S_ 32 0#32, constantI S_ 32 0#32] : Fin 5 → (⟨S_, .i32⟩ : BufTy).Contents (Elt Ideal))) k (Shape.Idx.first h_S_)).toInt) sliceFits_S32x4x64x16x128_S1x4x64x16x128) shapeCasts_S1x4x64x16x128_S4x64x16x128
      (ix4 b r h k) = x (ix5 n b r h k) := by
  have hn := n.isLt
  have e : (BitVec.ofNat 32 n.val).toInt = n.val := by
    rw [BitVec.toInt_eq_toNat_of_lt] <;> simp only [BitVec.toNat_ofNat] <;> omega
  pointwise
  refine congrArg x (funext fun a => Fin.ext ?_)
  have := b.isLt; have := r.isLt; have := h.isLt; have := k.isLt
  fin_cases a
  · show (min (max (V (Proc.devRef .tc main_v59_5) (Shape.Idx.first h_S_)).toInt 0) ((32 - 1 : ℕ) : ℤ)).toNat = n.val
    rw [hc, e]; omega
  · show 0 + b.val = b.val
    omega
  · show 0 + r.val = r.val
    omega
  · show 0 + h.val = h.val
    omega
  · show 0 + k.val = k.val
    omega

/-- the array a trip writes into, at an index -/
theorem dus_at {α : Type} (x : S32x4x64x16x128.Idx → α) (u : S1x4x64x16x128.Idx → α) (V : Valuation τ sig (Elt Ideal)) (n : Fin 32)
    (hc : V (Proc.devRef .tc main_v59_5) = fun _ => BitVec.ofNat 32 n.val) (i : Fin 32) (b : Fin 4) (r : Fin 64) (h : Fin 16) (k : Fin 128) :
    Host.dynamicUpdateSlice x u (fun k => (((![V (Proc.devRef .tc main_v59_5), constantI S_ 32 0#32, constantI S_ 32 0#32, constantI S_ 32 0#32, constantI S_ 32 0#32] : Fin 5 → (⟨S_, .i32⟩ : BufTy).Contents (Elt Ideal))) k (Shape.Idx.first h_S_)).toInt) updateFits_S32x4x64x16x128_S1x4x64x16x128
      (ix5 i b r h k) = if i = n then u (ix5 0 b r h k) else x (ix5 i b r h k) := by
  have hn := n.isLt
  have e : (BitVec.ofNat 32 n.val).toInt = n.val := by
    rw [BitVec.toInt_eq_toNat_of_lt] <;> simp only [BitVec.toNat_ofNat] <;> omega
  have e0 : (min (max (V (Proc.devRef .tc main_v59_5) (Shape.Idx.first h_S_)).toInt 0) ((32 - 1 : ℕ) : ℤ)).toNat = n.val := by
    rw [hc, e]; omega
  have := b.isLt; have := r.isLt; have := h.isLt; have := k.isLt
  unfold Host.dynamicUpdateSlice updateSlice
  dsimp only
  by_cases hi : i = n
  · rw [if_pos hi, dif_pos]
    · refine congrArg u (funext fun a => Fin.ext ?_)
      fin_cases a
      · show i.val - (min (max (V (Proc.devRef .tc main_v59_5) (Shape.Idx.first h_S_)).toInt 0) ((32 - 1 : ℕ) : ℤ)).toNat = 0
        rw [e0, hi]; omega
      · show b.val - 0 = b.val
        omega
      · show r.val - 0 = r.val
        omega
      · show h.val - 0 = h.val
        omega
      · show k.val - 0 = k.val
        omega
    · intro a
      fin_cases a
      · show (min (max (V (Proc.devRef .tc main_v59_5) (Shape.Idx.first h_S_)).toInt 0) ((32 - 1 : ℕ) : ℤ)).toNat ≤ i.val
          ∧ i.val < (min (max (V (Proc.devRef .tc main_v59_5) (Shape.Idx.first h_S_)).toInt 0) ((32 - 1 : ℕ) : ℤ)).toNat + 1
        rw [e0, hi]; omega
      · show 0 ≤ b.val ∧ b.val < 0 + 4
        omega
      · show 0 ≤ r.val ∧ r.val < 0 + 64
        omega
      · show 0 ≤ h.val ∧ h.val < 0 + 16
        omega
      · show 0 ≤ k.val ∧ k.val < 0 + 128
        omega
  · rw [if_neg hi, dif_neg]
    intro hin
    have h0 : (min (max (V (Proc.devRef .tc main_v59_5) (Shape.Idx.first h_S_)).toInt 0) ((32 - 1 : ℕ) : ℤ)).toNat ≤ i.val
          ∧ i.val < (min (max (V (Proc.devRef .tc main_v59_5) (Shape.Idx.first h_S_)).toInt 0) ((32 - 1 : ℕ) : ℤ)).toNat + 1 := hin 0
    rw [e0] at h0
    exact hi (Fin.ext (by omega))

variable {V : Valuation τ sig (Elt Ideal)} {q f v : Fin 4 → Fin 2048 → ℕ → ℝ} {n : Fin 32}

theorem v91_at (H : At V q f v n.val) (b : Fin 4) (r : Fin 64) (h : Fin 16) (k : Fin 128) :
    res_main_while0b_v91 V (ix4 b r h k) = ((q b (jh h k) (64 * n.val + r.val) : ℝ) : EReal) :=
  (chunk_at (α := EReal) _ V n H.ctr b r h k).trans (H.q_at n b r h k)

theorem v93_at (H : At V q f v n.val) (b : Fin 4) (r : Fin 64) (h : Fin 16) (k : Fin 128) :
    res_main_while0b_v93 V (ix4 b r h k) = ((1 - f b (jh h k) (64 * n.val + r.val) : ℝ) : EReal) :=
  (chunk_at (α := EReal) _ V n H.ctr b r h k).trans (H.k_at n b r h k)

theorem v94_at (H : At V q f v n.val) (b : Fin 4) (r : Fin 64) (h : Fin 16) (k : Fin 128) :
    res_main_while0b_v94 V (ix4 b r h k) = ((v b (jh h k) (64 * n.val + r.val) : ℝ) : EReal) :=
  (chunk_at (α := EReal) _ V n H.ctr b r h k).trans (H.v_at n b r h k)

theorem v95_at (H : At V q f v n.val) (b : Fin 4) (r : Fin 64) (h : Fin 16) (k : Fin 128) :
    res_main_while0b_v95 V (ix4 b r h k) = ((cumL (f b (jh h k)) (64 * n.val) (r.val + 1) : ℝ) : EReal) := by
  refine (cumsum_at _ _ (fun i => ?_) (fun s => ((Real.log (f b (jh h k) (64 * n.val + s)) : ℝ) : EReal)) b r h k
    fun s => (chunk_at (α := EReal) _ V n H.ctr b s h k).trans (H.g_at n b s h k)).trans ?_
  · show Ideal.ofBits .f32 0#32 = 0
    exact Ideal.ofBits_zero _
  · rw [coe_sum]; rfl

theorem v115_at (H : At V q f v n.val) (b : Fin 4) (h : Fin 16) (k : Fin 128) :
    res_main_while0b_v115 V (ix3 b h k) = ((cumL (f b (jh h k)) (64 * n.val) 64 : ℝ) : EReal) := by
  refine Eq.trans ?_ (v95_at H b 63 h k)
  unfold res_main_while0b_v115
  pointwise

theorem step6_at (H : At V q f v n.val) (hf : ∀ b j t, 0 < f b j t) (b : Fin 4) (h : Fin 16) (x y : Fin 128) :
    step_main_v59_6 V (ix4 b h x y) = ((stH (f b) (v b) h x y (64 * (n.val + 1)) : ℝ) : EReal) := by
  unfold step_main_v59_6
  rw [id_eq]
  pointwise
  rw [H.st_at, v115_at H]
  simp only [v93_at H, v94_at H, v95_at H, Ideal.exp_coe, ← EReal.coe_sub, ← EReal.coe_mul, coe_sum, ← EReal.coe_add]
  rw [EReal.coe_eq_coe_iff]
  exact chunk_state (f b (jh h x)) (fun i => 1 - f b (jh h x) i) (v b (jh h y)) (hf _ _) 64 (64 * n.val)

theorem step7_at (H : At V q f v n.val) (hf : ∀ b j t, 0 < f b j t) (i : Fin 32) (hi : i.val < n.val + 1) (b : Fin 4)
    (r : Fin 64) (h : Fin 16) (y : Fin 128) :
    step_main_v59_7 V (ix5 i b r h y)
      = ((∑ x : Fin 128, q b (jh h x) (64 * i.val + r.val) * stH (f b) (v b) h x y (64 * i.val + r.val + 1) : ℝ) : EReal) := by
  unfold step_main_v59_7
  rw [id_eq]
  refine (dus_at (α := EReal) _ _ V n H.ctr i b r h y).trans ?_
  by_cases hn : i = n
  · rw [if_pos hn, hn]
    pointwise
    simp only [v91_at H, v93_at H, v94_at H, v95_at H, H.st_at, H.mask_at]
    have e (s : Fin 64) : (∑ x : Fin 128, ((q b (jh h x) (64 * n.val + r.val) : ℝ) : EReal) *
        (Ideal.exp (Scalar.select (if s.val ≤ r.val then 1#1 else 0#1)
          (((cumL (f b (jh h x)) (64 * n.val) (r.val + 1) : ℝ) : EReal) - ((cumL (f b (jh h x)) (64 * n.val) (s.val + 1) : ℝ) : EReal))
            (id (constant (F := Ideal) S_ .f32 4286578688#32) ix0)) * ((1 - f b (jh h x) (64 * n.val + s.val) : ℝ) : EReal)))
        = ((if s.val ≤ r.val then ∑ x : Fin 128, q b (jh h x) (64 * n.val + r.val) * (Real.exp (cumL (f b (jh h x)) (64 * n.val) (r.val + 1)
            - cumL (f b (jh h x)) (64 * n.val) (s.val + 1)) * (1 - f b (jh h x) (64 * n.val + s.val))) else 0 : ℝ) : EReal) := by
      by_cases hs : s.val ≤ r.val
      · rw [if_pos hs, if_pos hs, ← coe_sum]
        refine Finset.sum_congr rfl fun x _ => ?_
        rw [EReal.coe_mul, EReal.coe_mul, ← Ideal.exp_coe, EReal.coe_sub]
        rfl
      · rw [if_neg hs, if_neg hs, EReal.coe_zero]
        refine Finset.sum_eq_zero fun x _ => ?_
        have e1 : (id (constant (F := Ideal) S_ .f32 4286578688#32) ix0 : EReal) = ⊥ := by
          show Ideal.ofBits .f32 4286578688#32 = ⊥
          simp [Ideal.ofBits, Ideal.ieee]
        rw [show Scalar.select (0#1) (((cumL (f b (jh h x)) (64 * n.val) (r.val + 1) : ℝ) : EReal) - ((cumL (f b (jh h x)) (64 * n.val) (s.val + 1) : ℝ) : EReal))
            (id (constant (F := Ideal) S_ .f32 4286578688#32) ix0) = ⊥ from e1]
        rw [Ideal.exp_bot, zero_mul, mul_zero]
    simp only [e, Ideal.exp_coe, ← EReal.coe_mul, coe_sum, ← EReal.coe_add]
    rw [EReal.coe_eq_coe_iff]
    refine Eq.trans ?_ (chunk_out (fun x => q b (jh h x) (64 * n.val + r.val)) (fun x => f b (jh h x))
      (fun x i => 1 - f b (jh h x) i) (v b (jh h y)) (fun x i => hf b _ _) 64 (64 * n.val) r.val r.isLt)
    refine congrArg₂ (· + ·) (Finset.sum_congr rfl fun s _ => mul_comm _ _) (Finset.sum_congr rfl fun x _ => mul_comm _ _)
  · rw [if_neg hn]
    exact H.out_at i (by have : i.val ≠ n.val := fun e => hn (Fin.ext e); omega) b r h y

theorem step_at (H : At V q f v n.val) (hf : ∀ b j t, 0 < f b j t) : At (STEP V) q f v (n.val + 1) where
  ctr := by
    rw [STEP_main_v59_5]
    unfold step_main_v59_5
    rw [id_eq, H.ctr]
    funext i
    show BitVec.ofNat 32 n.val + 1#32 = _
    rw [BitVec.ofNat_add_ofNat]
  q_at := by rw [STEP_main_v59_0]; exact H.q_at
  g_at := by rw [STEP_main_v59_1]; exact H.g_at
  k_at := by rw [STEP_main_v59_2]; exact H.k_at
  v_at := by rw [STEP_main_v59_3]; exact H.v_at
  mask_at := by rw [STEP_main_v59_4]; exact H.mask_at
  st_at := by rw [STEP_main_v59_6]; exact step6_at H hf
  out_at := by rw [STEP_main_v59_7]; exact step7_at H hf

/-- all thirty-two trips -/
theorem iter_at (V : Valuation τ sig (Elt Ideal)) (H : At V q f v 0) (hf : ∀ b j t, 0 < f b j t) :
    ∀ k : ℕ, k ≤ 32 → At (STEP^[k] V) q f v k
  | 0, _ => H
  | k + 1, hk => by
    rw [Function.iterate_succ_apply']
    exact step_at (n := ⟨k, by omega⟩) (iter_at V H hf k (by omega)) hf

end Cert.ReferenceIdeal.Trip

end
-- ==== Proof.RefEntry.lean ====
module

public import proofs.«01_k».proof.Proof.RefTrip

/-! What the reference's loop starts from, at an index: the operations before it, composed. -/

@[expose] public section

set_option maxRecDepth 16384

noncomputable section

namespace Cert.ReferenceIdeal.Trip

open Cert.ReferenceIdeal Cert.ReferenceIdeal.Gen Cert.ReferenceIdeal.Value
open Idealize.ShloMosaic Idealize.ShloMosaic.TcCoe Idealize.ShloMosaic.Tactic Idealize.ShloMosaic.StableHlo
open Cert.Recur

/-- the combined projection's prompt rows, a group of 2048 columns by heads -/
def grp (A : FVec Ideal S8320x22528 .f32) (o : ℕ) (h : S4x2048x22528.Slices ![0, 0, o] S4x2048x2048) : FVec Ideal S4x2048x16x128 .f32 :=
  shapeCast S4x2048x16x128 (extractStridedSlice S4x2048x2048 ![0, 0, o] (shapeCast S4x2048x22528
    (extractStridedSlice S8192x22528 ![0, 0] A slices_S8320x22528_S8192x22528_0_0) shapeCasts_S8192x22528_S4x2048x22528) h)
    shapeCasts_S4x2048x2048_S4x2048x16x128

/-- the softmax over the two rows -/
def smx (L : FVec Ideal S2x2048 .f32) : FVec Ideal S2x2048 .f32 :=
  Host.divf (Host.exp (subf L (broadcastInDim S2x2048 ![0, 1] bcast_S1x2048_S2x2048_0_1 (broadcastInDim S1x2048 ![1] bcast_S2048_S1x2048_1
      (maximumf (broadcastInDim S2048 ![] bcast_S_S2048 (constant S_ .f32 0xFF800000#32))
        (Host.reduce FloatOps.maximumf L (constant S_ .f32 0xFF800000#32) reducesTo_S2x2048_S2048_d0 h_S_))))))
    (broadcastInDim S2x2048 ![0, 1] bcast_S1x2048_S2x2048_0_1 (broadcastInDim S1x2048 ![1] bcast_S2048_S1x2048_1
      (Host.reduceAdd (Host.exp (subf L (broadcastInDim S2x2048 ![0, 1] bcast_S1x2048_S2x2048_0_1 (broadcastInDim S1x2048 ![1] bcast_S2048_S1x2048_1
      (maximumf (broadcastInDim S2048 ![] bcast_S_S2048 (constant S_ .f32 0xFF800000#32))
        (Host.reduce FloatOps.maximumf L (constant S_ .f32 0xFF800000#32) reducesTo_S2x2048_S2048_d0 h_S_)))))) (constant S_ .f32 0x00000000#32)
        reducesTo_S2x2048_S2048_d0 h_S_)))

/-- its running sum over the rows -/
def csm (L : FVec Ideal S2x2048 .f32) : FVec Ideal S2x2048 .f32 :=
  Host.reduceWindowAdd ![2, 1] ![1, 1] ![1, 0] ![0, 0] (smx L) (broadcastInDim S_ ![] bcast_S_S_ (constant S_ .f32 0x00000000#32))
    reduceWindows_S2x2048_S2x2048_w2s1p1_0_w1s1p0_0 h_S_

/-- the lower bound by heads -/
def lbV (L : FVec Ideal S2x2048 .f32) : FVec Ideal S16x128 .f32 :=
  shapeCast S16x128 (shapeCast S2048 (extractStridedSlice S1x2048 ![0, 0] (csm L) slices_S2x2048_S1x2048_0_0) shapeCasts_S1x2048_S2048)
    shapeCasts_S2048_S16x128

/-- the gates -/
def gat (A : FVec Ideal S8320x22528 .f32) (L : FVec Ideal S2x2048 .f32) : FVec Ideal S4x2048x16x128 .f32 :=
  addf (broadcastInDim S4x2048x16x128 ![0, 1, 2, 3] bcast_S1x1x16x128_S4x2048x16x128_0_1_2_3
      (broadcastInDim S1x1x16x128 ![2, 3] bcast_S16x128_S1x1x16x128_2_3 (lbV L)))
    (mulf (broadcastInDim S4x2048x16x128 ![0, 1, 2, 3] bcast_S1x1x16x128_S4x2048x16x128_0_1_2_3
      (broadcastInDim S1x1x16x128 ![2, 3] bcast_S16x128_S1x1x16x128_2_3
        (subf (broadcastInDim S16x128 ![] bcast_S_S16x128 (constant S_ .f32 0x3F800000#32)) (lbV L))))
      (Host.divf (broadcastInDim S4x2048x16x128 ![] bcast_S_S4x2048x16x128 (constant S_ .f32 0x3F800000#32))
        (addf (broadcastInDim S4x2048x16x128 ![] bcast_S_S4x2048x16x128 (constant S_ .f32 0x3F800000#32))
          (Host.exp (Host.negf (grp A 2048 slices_S4x2048x22528_S4x2048x2048_0_0_2048))))))

/-- an array of tokens in chunks -/
def chs (x : FVec Ideal S4x2048x16x128 .f32) : FVec Ideal S32x4x64x16x128 .f32 :=
  transpose S32x4x64x16x128 [1, 0, 2, 3, 4] (shapeCast S4x32x64x16x128 x shapeCasts_S4x2048x16x128_S4x32x64x16x128)
    transposes_S4x32x64x16x128_S32x4x64x16x128_1_0_2_3_4

variable (m : (ℓ : Loc nD τ sig) → Buf (Elt Ideal) ℓ) (c : Dev nD)

abbrev A0 : FVec Ideal S8320x22528 .f32 := m ((c : Thread nD τ).loc main_arg0)
abbrev A1 : FVec Ideal S2x2048 .f32 := m ((c : Thread nD τ).loc main_arg1)

set_option maxHeartbeats 4000000 in
theorem e0 : entryContents preI m c (Proc.devRef .tc main_v59_0) = chs (grp (A0 m c) 0 slices_S4x2048x22528_S4x2048x2048_0_0_0) := by
  simp only [entryContents, afterL_cons, afterL_nil]
  after_reads_simp
  rfl

set_option maxHeartbeats 4000000 in
theorem e1 : entryContents preI m c (Proc.devRef .tc main_v59_1) = chs (Host.log (gat (A0 m c) (A1 m c))) := by
  simp only [entryContents, afterL_cons, afterL_nil]
  after_reads_simp
  rfl

set_option maxHeartbeats 4000000 in
theorem e2 : entryContents preI m c (Proc.devRef .tc main_v59_2)
    = chs (subf (broadcastInDim S4x2048x16x128 ![] bcast_S_S4x2048x16x128 (constant S_ .f32 0x3F800000#32)) (gat (A0 m c) (A1 m c))) := by
  simp only [entryContents, afterL_cons, afterL_nil]
  after_reads_simp
  rfl

set_option maxHeartbeats 4000000 in
theorem e3 : entryContents preI m c (Proc.devRef .tc main_v59_3) = chs (grp (A0 m c) 4096 slices_S4x2048x22528_S4x2048x2048_0_0_4096) := by
  simp only [entryContents, afterL_cons, afterL_nil]
  after_reads_simp
  rfl

set_option maxHeartbeats 4000000 in
theorem e4 (t s : Fin 64) : entryContents preI m c (Proc.devRef .tc main_v59_4) (ix5 0 t s 0 0) = if s.val ≤ t.val then 1#1 else 0#1 := by
  simp only [entryContents, afterL_cons, afterL_nil]
  after_reads_simp
  show broadcastInDim S1x64x64x1x1 ![1, 2] bcast_S64x64_S1x64x64x1x1_1_2 (select (cmpi .sge (addi (iotaInDim S64x64 32 0)
    (broadcastInDim S64x64 ![] bcast_S_S64x64 (constantI S_ 32 0#32))) (iotaInDim S64x64 32 1))
    (broadcastInDim S64x64 ![] bcast_S_S64x64 (constantI S_ 1 1#1)) (broadcastInDim S64x64 ![] bcast_S_S64x64 (constantI S_ 1 0#1))) (ix5 0 t s 0 0) = _
  pointwise
  have ht := t.isLt
  have hs := s.isLt
  have et : (IntOp.addi (BitVec.ofNat 32 t.val) 0#32).toInt = t.val := by
    show (BitVec.ofNat 32 t.val + 0#32).toInt = _
    rw [BitVec.add_zero, BitVec.toInt_eq_toNat_of_lt] <;> simp only [BitVec.toNat_ofNat] <;> omega
  have es : (BitVec.ofNat 32 s.val).toInt = s.val := by
    rw [BitVec.toInt_eq_toNat_of_lt] <;> simp only [BitVec.toNat_ofNat] <;> omega
  unfold IntOp.cmpi Scalar.select
  simp only [BitVec.sle, et, es]
  by_cases hc : s.val ≤ t.val
  · simp [hc]
  · simp [hc]

set_option maxHeartbeats 4000000 in
theorem e6 (b : Fin 4) (h : Fin 16) (x y : Fin 128) : entryContents preI m c (Proc.devRef .tc main_v59_6) (ix4 b h x y) = (0 : EReal) := by
  simp only [entryContents, afterL_cons, afterL_nil]
  after_reads_simp
  show Ideal.ofBits .f32 0#32 = 0
  exact Ideal.ofBits_zero _

theorem win_row2 : ∀ n : Fin (⟨2, ![2, 1]⟩ : Shape).numel,
    ((⟨2, ![2, 1]⟩ : Shape).rowMajor.symm n 0).val = n.val ∧ ((⟨2, ![2, 1]⟩ : Shape).rowMajor.symm n 1).val = 0 := by
  decide +kernel

/-- the running sum's first row is the softmax's -/
theorem csm_at (L : FVec Ideal S2x2048 .f32) (j : Fin 2048) : csm L (ix2 0 j) = smx L (ix2 0 j) := by
  unfold csm
  generalize smx L = x
  unfold Host.reduceWindowAdd
  rw [Ideal.hostReduceWindowAdd_def]
  unfold Ideal.hostReduceWindowAdd Host.reduceWindow
  dsimp only
  have hz : (broadcastInDim S_ ![] bcast_S_S_ (constant (F := Ideal) S_ .f32 0x00000000#32)) (Shape.Idx.first h_S_) = (0 : EReal) :=
    Ideal.ofBits_zero .f32
  rw [foldl_sum, hz, zero_add]
  refine (Fin.sum_univ_two (_ : Fin 2 → EReal)).trans ?_
  obtain ⟨w0, w1⟩ := win_row2 (0 : Fin 2)
  obtain ⟨u0, u1⟩ := win_row2 (1 : Fin 2)
  have hj := j.isLt
  rw [dif_neg, dif_pos, zero_add]
  · refine congrArg x (funext fun a => Fin.ext ?_)
    fin_cases a
    · show 0 * 1 + ((⟨2, ![2, 1]⟩ : Shape).rowMajor.symm (1 : Fin 2) 0).val - 1 = 0
      rw [u0]; rfl
    · show j.val * 1 + ((⟨2, ![2, 1]⟩ : Shape).rowMajor.symm (1 : Fin 2) 1).val - 0 = j.val
      rw [u1]; omega
  · intro a
    fin_cases a
    · show 1 ≤ 0 * 1 + ((⟨2, ![2, 1]⟩ : Shape).rowMajor.symm (1 : Fin 2) 0).val ∧ 0 * 1 + ((⟨2, ![2, 1]⟩ : Shape).rowMajor.symm (1 : Fin 2) 0).val - 1 < 2
      rw [u0]; decide
    · show 0 ≤ j.val * 1 + ((⟨2, ![2, 1]⟩ : Shape).rowMajor.symm (1 : Fin 2) 1).val ∧ j.val * 1 + ((⟨2, ![2, 1]⟩ : Shape).rowMajor.symm (1 : Fin 2) 1).val - 0 < 2048
      rw [u1]; omega
  · intro hin
    have := (hin 0).1
    have e : 0 * 1 + ((⟨2, ![2, 1]⟩ : Shape).rowMajor.symm (0 : Fin 2) 0).val < 1 := by rw [w0]; decide
    exact absurd this (not_le.mpr e)

theorem smx_at (L : FVec Ideal S2x2048 .f32) (hL : ∀ i, L i ≠ ⊤ ∧ L i ≠ ⊥) (j : Fin 2048) : smx L (ix2 0 j) = ((lbR L j : ℝ) : EReal) := by
  unfold smx
  pointwise
  refine Eq.trans ?_ (lb_coe L hL j)
  have e : max (Ideal.ofBits .f32 4286578688#32 : EReal) (Finset.fold max (Ideal.ofBits .f32 4286578688#32 : EReal) (fun x : Fin 2 => L (ix2 x j)) Finset.univ)
      = ((max (L (ix2 0 j)).toReal (L (ix2 1 j)).toReal : ℝ) : EReal) := by
    rw [fold_coe L hL, show (Ideal.ofBits .f32 4286578688#32 : EReal) = ⊥ by simp [Ideal.ofBits, Ideal.ieee], max_bot_left]
  exact congrArg (fun M : EReal => Ideal.div (Ideal.exp (L (ix2 0 j) - M)) (∑ x : Fin 2, Ideal.exp (L (ix2 x j) - M))) e

theorem lbV_at (L : FVec Ideal S2x2048 .f32) (hL : ∀ i, L i ≠ ⊤ ∧ L i ≠ ⊥) (h : Fin 16) (k : Fin 128) :
    lbV L (ix2 h k) = ((lbR L (jh h k) : ℝ) : EReal) := by
  rw [← smx_at L hL, ← csm_at]
  unfold lbV
  pointwise
  rw [show (⟨h.val * 128 + k.val, by have := h.isLt; have := k.isLt; omega⟩ : Fin 2048) = jh h k from Fin.ext (by show h.val * 128 + k.val = 128 * h.val + k.val; omega)]

theorem grp_at (A : FVec Ideal S8320x22528 .f32) (o : ℕ) (ho : o < 8192) (hs : S4x2048x22528.Slices ![0, 0, o] S4x2048x2048) (b : Fin 4) (t : Fin 2048) (h : Fin 16) (k : Fin 128) :
    grp A o hs (ix4 b t h k) = A (ix2 ⟨2048 * b.val + t.val, by have := b.isLt; have := t.isLt; omega⟩ ⟨o + (jh h k).val, by have := (jh h k).isLt; omega⟩) := by
  unfold grp
  pointwise
  congr 3
  · omega
  · show o + (h.val * 128 + k.val) = o + (128 * h.val + k.val)
    omega

theorem chs_at (x : FVec Ideal S4x2048x16x128 .f32) (i : Fin 32) (b : Fin 4) (r : Fin 64) (h : Fin 16) (k : Fin 128) :
    chs x (ix5 i b r h k) = x (ix4 b ⟨64 * i.val + r.val, by have := i.isLt; have := r.isLt; omega⟩ h k) := by
  unfold chs
  pointwise
  congr 3
  omega

theorem gat_at (A : FVec Ideal S8320x22528 .f32) (L : FVec Ideal S2x2048 .f32) (hA : ∀ i, A i ≠ ⊤ ∧ A i ≠ ⊥) (hL : ∀ i, L i ≠ ⊤ ∧ L i ≠ ⊥)
    (b : Fin 4) (t : Fin 2048) (h : Fin 16) (k : Fin 128) :
    gat A L (ix4 b t h k) = ((fR A L b.val (jh h k) t.val : ℝ) : EReal) := by
  unfold gat
  pointwise
  rw [lbV_at L hL, grp_at A 2048 (by omega), pR_coe A hA]
  unfold fR
  rw [← gate_coe, ← EReal.coe_neg, Ideal.exp_coe, ← EReal.coe_one, ← EReal.coe_add, div_coe _ _ (by positivity), one_div]

/-- the loop starts from the real queries, gates and values and from the zero state -/
theorem entry_at (hA : ∀ i, A0 m c i ≠ ⊤ ∧ A0 m c i ≠ ⊥) (hL : ∀ i, A1 m c i ≠ ⊤ ∧ A1 m c i ≠ ⊥) :
    At (entryContents preI m c) (fun b => qR (A0 m c) b.val) (fun b => fR (A0 m c) (A1 m c) b.val) (fun b => vR (A0 m c) b.val) 0 where
  ctr := ctr_entry m c
  q_at i b r h k := by
    rw [e0, chs_at, grp_at _ 0 (by omega), pR_coe _ hA]
    unfold qR
    simp only [zero_add]
  g_at i b r h k := by
    rw [e1, chs_at]
    refine (congrArg Ideal.log (gat_at _ _ hA hL b _ h k)).trans ?_
    rw [Ideal.log_coe, if_neg (not_le.mpr (fR_pos _ _ _ _ _))]
  k_at i b r h k := by
    rw [e2, chs_at, EReal.coe_sub, EReal.coe_one, ← gat_at (A0 m c) (A1 m c) hA hL b ⟨64 * i.val + r.val, by have := i.isLt; have := r.isLt; omega⟩ h k]
    pointwise
  v_at i b r h k := by
    rw [e3, chs_at, grp_at _ 4096 (by omega), pR_coe _ hA]
    rfl
  mask_at := e4 m c
  st_at b h x y := by
    rw [e6]
    unfold stH
    simp [st]
  out_at i hi := absurd hi (Nat.not_lt_zero _)

end Cert.ReferenceIdeal.Trip

end
-- ==== Proof.RefOut.lean ====
module

public import proofs.«01_k».proof.Proof.RefEntry
public import proofs.«01_k».proof.Proof.Gate

/-! What the reference's two results hold: the normed and gated outputs, and the last state. -/

@[expose] public section

set_option maxRecDepth 16384

noncomputable section

namespace Cert.ReferenceIdeal.Trip

open Cert.ReferenceIdeal Cert.ReferenceIdeal.Gen Cert.ReferenceIdeal.Value
open Idealize.ShloMosaic Idealize.ShloMosaic.TcCoe Idealize.ShloMosaic.Tactic Idealize.ShloMosaic.StableHlo
open Cert.Recur

theorem out_raw (V : Valuation τ sig (Elt Ideal)) (R : Fin 8192) (J : Fin 2048) (o : Fin 128 → EReal) (w g : EReal)
    (ho : ∀ y : Fin 128, V (Proc.devRef .tc main_v59_7) (ix5 ⟨R.val % 2048 / 64, by omega⟩ ⟨R.val / 2048, by have := R.isLt; omega⟩
      ⟨R.val % 2048 % 64, by omega⟩ ⟨J.val / 128, by have := J.isLt; omega⟩ y) = o y)
    (hw : V (Proc.devRef .tc main_arg2) (ix2 ⟨J.val / 128, by have := J.isLt; omega⟩ ⟨J.val % 128, Nat.mod_lt _ (by decide)⟩) = w)
    (hg : V (Proc.devRef .tc main_arg0) (ix2 ⟨R.val, by have := R.isLt; omega⟩ ⟨6144 + J.val, by have := J.isLt; omega⟩) = g) :
    out_main_v90 V (ix2 R J) = o ⟨J.val % 128, Nat.mod_lt _ (by decide)⟩
      * Ideal.rsqrt (Ideal.div (∑ x : Fin 128, o x * o x) (Ideal.ofBits .f32 1124073472#32) + Ideal.ofBits .f32 897988541#32) * w
      * (g * Ideal.div 1 (1 + Ideal.exp (-g))) := by
  unfold out_main_v90
  pointwise
  simp only [ho]
  rw [hw, hg]

theorem gate_div (z : ℝ) : Ideal.div 1 (1 + Ideal.exp (-(z : EReal))) = Ideal.logistic (z : EReal) := by
  rw [Ideal.logistic_coe, ← EReal.coe_neg, Ideal.exp_coe, ← EReal.coe_one, ← EReal.coe_add, div_coe _ _ (by positivity), one_div]

theorem out_v90 (P : FVec Ideal S8320x22528 .f32) (L : FVec Ideal S2x2048 .f32) (W : FVec Ideal S16x128 .f32)
    (V : Valuation τ sig (Elt Ideal)) (hP : ∀ i, P i ≠ ⊤ ∧ P i ≠ ⊥)
    (H : At V (fun b => qR P b.val) (fun b => fR P L b.val) (fun b => vR P b.val) 32)
    (h0 : V (Proc.devRef .tc main_arg0) = P) (h2 : V (Proc.devRef .tc main_arg2) = W) (R : Fin 8192) (J : Fin 2048) :
    out_main_v90 V (ix2 R J) = resA P L W R J := by
  have hR := R.isLt
  have hJ := J.isLt
  refine (out_raw V R J (fun y => ((oR P L (R.val / 2048) ⟨J.val / 128, by omega⟩ y (R.val % 2048) : ℝ) : EReal)) _ _ (fun y => ?_)
    (congrFun h2 _) (congrFun h0 _)).trans ?_
  · rw [H.out_at _ (by show R.val % 2048 / 64 < 32; omega)]
    dsimp only
    rw [show 64 * (R.val % 2048 / 64) + R.val % 2048 % 64 = R.val % 2048 by omega]
    unfold oR
    rfl
  · unfold resA outG
    rw [pR_coe P hP, gate_div]

theorem out_st (P : FVec Ideal S8320x22528 .f32) (L : FVec Ideal S2x2048 .f32)
    (V : Valuation τ sig (Elt Ideal)) (H : At V (fun b => qR P b.val) (fun b => fR P L b.val) (fun b => vR P b.val) 32)
    (b : Fin 4) (h : Fin 16) (x y : Fin 128) : V (Proc.devRef .tc main_v59_6) (ix4 b h x y) = resS P L b h x y :=
  H.st_at b h x y

variable (m : (ℓ : Loc nD τ sig) → Buf (Elt Ideal) ℓ) (c : Dev nD)

/-- after the loop -/
theorem last_at (hA : ∀ i, A0 m c i ≠ ⊤ ∧ A0 m c i ≠ ⊥) (hL : ∀ i, A1 m c i ≠ ⊤ ∧ A1 m c i ≠ ⊥) :
    At (STEP^[32] (entryContents preI m c)) (fun b => qR (A0 m c) b.val) (fun b => fR (A0 m c) (A1 m c) b.val) (fun b => vR (A0 m c) b.val) 32 :=
  iter_at _ (entry_at m c hA hL) (fun _ _ _ => fR_pos _ _ _ _ _) 32 le_rfl

end Cert.ReferenceIdeal.Trip

end
-- ==== Proof.Finite.lean ====
module

public import proofs.«01_k».proof.Defs
public import Idealize.ShloMosaic.Lib.ReduceAll
public import Idealize.ShloMosaic.Lib.Pointwise

/-! What the precondition says: every entry of the projection and of the lower bound's logits is a real number. -/

@[expose] public section

set_option maxRecDepth 16384

noncomputable section

namespace Cert.Pre_inputs_finite

open Idealize.ShloMosaic

/-- the shape facts the precondition's operations take -/
theorem facts : Facts where
  bcast_S_S8320x22528 := by decide
  reducesTo_S8320x22528_S_d0_1 := by decide
  h_S_ := by decide
  bcast_S_S2x2048 := by decide
  reducesTo_S2x2048_S_d0_1 := by decide

theorem andi_one (a b : BitVec 1) (h : IntOp.andi a b = 1#1) : a = 1#1 ∧ b = 1#1 := by
  revert a b; decide

instance : Subsingleton S_.Idx := ⟨fun a b => funext fun i => i.elim0⟩

/-- an absolute value below infinity is a real number's -/
theorem real_of_lt (x : EReal) (h : FloatOps.cmpf (F := Ideal) (φ := .f32) .olt (FloatOps.absf (F := Ideal) (φ := .f32) x) (Ideal.ofBits .f32 0x7F800000#32) = 1#1) :
    x ≠ ⊤ ∧ x ≠ ⊥ := by
  have e : (Ideal.ofBits .f32 0x7F800000#32 : EReal) = ⊤ := by simp [Ideal.ofBits, Ideal.ieee]
  rw [e] at h
  have h' : max x (-x) < ⊤ := by
    by_contra hc
    have : FloatOps.cmpf (F := Ideal) (φ := .f32) .olt (FloatOps.absf (F := Ideal) (φ := .f32) x) (⊤ : EReal) = BitVec.ofBool (decide (max x (-x) < (⊤ : EReal))) := rfl
    rw [this, decide_eq_false hc] at h
    exact absurd h (by decide)
  constructor
  · rintro rfl; simp at h'
  · rintro rfl; simp at h'

theorem real [hF : Facts] (a0 : FVec Ideal S8320x22528 .f32) (a1 : FVec Ideal S2x2048 .f32) (a2 : FVec Ideal S16x128 .f32)
    (h : fn (F := Ideal) a0 a1 a2 = fun _ => 1#1) : (∀ i, a0 i ≠ ⊤ ∧ a0 i ≠ ⊥) ∧ (∀ i, a1 i ≠ ⊤ ∧ a1 i ≠ ⊥) := by
  have h' := congrFun h (fun i => i.elim0)
  obtain ⟨p, q⟩ := andi_one _ _ h'
  exact ⟨fun i => real_of_lt _ (Host.reduce_andi_all _ _ _ _ _ p i), fun i => real_of_lt _ (Host.reduce_andi_all _ _ _ _ _ q i)⟩

end Cert.Pre_inputs_finite

end
-- ==== Proof.HgrnPrompt.lean ====
module

public import proofs.«01_k».proof.Proof.KerFold
public import proofs.«01_k».proof.Proof.RefOut
public import proofs.«01_k».proof.Proof.Finite

/-! The prompt's recurrence: the kernel's two results are the reference's, over real projections and logits. -/

@[expose] public section

noncomputable section

namespace Cert.KernelIdeal.HgrnPrompt

open Idealize.ShloMosaic Idealize.SL.Sem Cert.Recur

theorem algebraic : Cert.algebraic_KernelIdeal_ReferenceIdeal_pre_inputs_finite (hKernelIdeal := Cert.KernelIdeal.Gen.facts)
    (hReferenceIdeal := Cert.ReferenceIdeal.Gen.facts) (hPre_inputs_finite := Cert.Pre_inputs_finite.facts) := by
  intro m g m' g' hp ha
  have hR (c : Dev Cert.KernelIdeal.nD) := Cert.Pre_inputs_finite.real (hF := Cert.Pre_inputs_finite.facts) _ _ _ (hp c)
  refine ⟨fun c i => resA (Cert.KernelIdeal.Fold.A0 m c) (Cert.KernelIdeal.Fold.A1 m c) (Cert.KernelIdeal.Fold.A2 m c) (i 0) (i 1),
    fun c i => resS (Cert.KernelIdeal.Fold.A0 m c) (Cert.KernelIdeal.Fold.A1 m c) (i 0) (i 1) (i 2) (i 3), ?_, ?_⟩
  · refine (θ_run _ _ _).mono (fun r h c => ?_) (Cert.KernelIdeal.Value.run_blocks m g)
    obtain ⟨h7, h8, hk⟩ := h c
    exact ⟨h7.trans (Cert.KernelIdeal.Fold.final7 m c (hR c).1 (hR c).2), h8.trans (Cert.KernelIdeal.Fold.final8 m c (hR c).1 (hR c).2), hk⟩
  · refine (θ_run _ _ _).mono (fun r h c => ?_) (Cert.ReferenceIdeal.Value.run m' g')
    obtain ⟨h0, h1, hk⟩ := h c
    obtain ⟨a0, a1, a2⟩ := ha c
    have e0 : Cert.ReferenceIdeal.Trip.A0 m' c = Cert.KernelIdeal.Fold.A0 m c := a0
    have e1 : Cert.ReferenceIdeal.Trip.A1 m' c = Cert.KernelIdeal.Fold.A1 m c := a1
    have H := Cert.ReferenceIdeal.Trip.last_at m' c (by rw [e0]; exact (hR c).1) (by rw [e1]; exact (hR c).2)
    rw [e0, e1] at H
    refine ⟨h0.trans (funext fun i => ?_), h1.trans (funext fun i => ?_), hk⟩
    · obtain ⟨r, j, rfl⟩ : ∃ (r : Fin 8192) (j : Fin 2048), i = ix2 r j := ⟨i 0, i 1, by funext a; fin_cases a <;> rfl⟩
      exact Cert.ReferenceIdeal.Trip.out_v90 (Cert.KernelIdeal.Fold.A0 m c) (Cert.KernelIdeal.Fold.A1 m c) (Cert.KernelIdeal.Fold.A2 m c) _ (hR c).1 H
        ((Cert.ReferenceIdeal.Value.iter_main_arg0 m' c 32).trans a0) ((Cert.ReferenceIdeal.Value.iter_main_arg2 m' c 32).trans a2) r j
    · obtain ⟨b, h, x, y, rfl⟩ : ∃ (b : Fin 4) (h : Fin 16) (x y : Fin 128), i = ix4 b h x y := ⟨i 0, i 1, i 2, i 3, by funext a; fin_cases a <;> rfl⟩
      exact Cert.ReferenceIdeal.Trip.out_st _ _ _ H b h x y

end Cert.KernelIdeal.HgrnPrompt

end
-- ==== Proof.InProj.lean ====
/- The input projection: the 640 × 1024 blocks' products are the whole product, and the six weights that ride
   along are the same weights cast. -/
module

public import proofs.«01_k».proof.Proof.Gen.Kernel2Ideal.Value
public import proofs.«01_k».proof.Proof.Gen.Reference2Ideal.Run
public import Idealize.ShloMosaic.Lib.Pointwise
public import Idealize.ShloMosaic.Lib.Pipeline.ValueKit
public import proofs.«01_k».proof.Defs

@[expose] public section

set_option maxRecDepth 16384

noncomputable section

namespace Cert.Kernel2Ideal.InProj

open Cert.Kernel2Ideal Cert.Kernel2Ideal.Gen Idealize.ShloMosaic Idealize.ShloMosaic.TcCoe Idealize.ShloMosaic.Tactic
open Idealize.SL.Sem ValueIdx

/-- the reference's first result: the product, over reals, of the activations and the weights -/
def G (a : FVec Ideal S8320x4096 .bf16) (w : FVec Ideal S4096x22528 .f32) : FVec Ideal S8320x22528 .f32 :=
  Host.dotGeneral Cert.Reference2Ideal.dot_S8320x4096_S4096x22528_S8320x22528_1_0_0_1_n_n none
    (extf .f32 a Cert.Reference2Ideal.Gen.bitsLt_bf16_f32) w

/-- a weight cast -/
def cst {s : Shape} (w : FVec Ideal s .f32) : FVec Ideal s .bf16 :=
  truncf .bf16 w Cert.Reference2Ideal.Gen.bitsLt_bf16_f32

variable (m : (ℓ : Loc nD τ sig) → Buf (Elt Ideal) ℓ)

/-- the blocks of the product that a grid point reads and writes -/
theorem e0 : ∀ t : Fin cfg0.N, win0_0.index t = ![(grid0.coords t 0).val, 0] :=
  (by decide +kernel : ∀ t : Fin grid0.N, win0_0.index t = ![(grid0.coords t 0).val, 0])
theorem e1 : ∀ t : Fin cfg0.N, win0_1.index t = ![0, (grid0.coords t 1).val] :=
  (by decide +kernel : ∀ t : Fin grid0.N, win0_1.index t = ![0, (grid0.coords t 1).val])
theorem e8 : ∀ t : Fin cfg0.N, win0_8.index t = ![(grid0.coords t 0).val, (grid0.coords t 1).val] :=
  (by decide +kernel : ∀ t : Fin grid0.N, win0_8.index t = ![(grid0.coords t 0).val, (grid0.coords t 1).val])

/-- the host's cast of the weights is the identity over the reals -/
theorem V_w (c : Dev nD) : V m c main_v0 = m ((c : Thread nD τ).loc main_arg1) := by
  show StableHlo.after hostOps0 (fun b => m (c, b)) main_v0 = _
  simp only [hostOps0]
  after_results
  rfl

/-- one block's product at an index is the whole product there -/
theorem point (c : Dev nD) (t : Fin cfg0.N) (y : S640x1024.Idx) :
    k0_pay7 (iblk m c 0 t) (iblk m c 1 t) y = G (m ((c : Thread nD τ).loc main_arg0)) (m ((c : Thread nD τ).loc main_arg1))
      ((win0_8.blk t).view.emb y) := by
  unfold G k0_pay7
  pointwise
  blk_simp [iblk]
  rw [V_main_arg0, V_w]
  refine Finset.sum_congr rfl fun k _ => congrArg₂ (· * ·) (congrArg _ ?_) (congrArg _ ?_)
  · blk_ext [e0, e8]
  · blk_ext [e1, e8]

/-- the product's array -/
theorem final8 (c : Dev nD) : (dats m 0 c).arrAt 8 cfg0.N
    = G (m ((c : Thread nD τ).loc main_arg0)) (m ((c : Thread nD τ).loc main_arg1)) := by
  refine (dats m 0 c).arrAt_eq_of_covers 8 _ (by decide +kernel) fun t hf y => ?_
  blk_simp
  rw [after0_8]
  frame_out
  exact point m c t y

/-- the cast weight `main_arg2` -/
theorem final9 (c : Dev nD) : (dats m 0 c).arrAt 9 cfg0.N
    = cst (s := S16384x4096) (m ((c : Thread nD τ).loc main_arg2)) := by
  refine (dats m 0 c).arrAt_eq_of_covers 9 _ (by decide +kernel) fun t hf y => ?_
  blk_simp
  rw [after0_9]
  frame_out
  unfold k0_pay1 cst
  pointwise
  blk_simp [iblk]
  rw [V_main_arg2]
  rfl

/-- the cast weight `main_arg3` -/
theorem final10 (c : Dev nD) : (dats m 0 c).arrAt 10 cfg0.N
    = cst (s := S16384x4096) (m ((c : Thread nD τ).loc main_arg3)) := by
  refine (dats m 0 c).arrAt_eq_of_covers 10 _ (by decide +kernel) fun t hf y => ?_
  blk_simp
  rw [after0_10]
  frame_out
  unfold k0_pay2 cst
  pointwise
  blk_simp [iblk]
  rw [V_main_arg3]
  rfl

/-- the cast weight `main_arg4` -/
theorem final11 (c : Dev nD) : (dats m 0 c).arrAt 11 cfg0.N
    = cst (s := S4096x4096) (m ((c : Thread nD τ).loc main_arg4)) := by
  refine (dats m 0 c).arrAt_eq_of_covers 11 _ (by decide +kernel) fun t hf y => ?_
  blk_simp
  rw [after0_11]
  frame_out
  unfold k0_pay3 cst
  pointwise
  blk_simp [iblk]
  rw [V_main_arg4]
  rfl

/-- the cast weight `main_arg5` -/
theorem final12 (c : Dev nD) : (dats m 0 c).arrAt 12 cfg0.N
    = cst (s := S2048x4096) (m ((c : Thread nD τ).loc main_arg5)) := by
  refine (dats m 0 c).arrAt_eq_of_covers 12 _ (by decide +kernel) fun t hf y => ?_
  blk_simp
  rw [after0_12]
  frame_out
  unfold k0_pay4 cst
  pointwise
  blk_simp [iblk]
  rw [V_main_arg5]
  rfl

/-- the cast weight `main_arg6` -/
theorem final13 (c : Dev nD) : (dats m 0 c).arrAt 13 cfg0.N
    = cst (s := S2048x4096) (m ((c : Thread nD τ).loc main_arg6)) := by
  refine (dats m 0 c).arrAt_eq_of_covers 13 _ (by decide +kernel) fun t hf y => ?_
  blk_simp
  rw [after0_13]
  frame_out
  unfold k0_pay5 cst
  pointwise
  blk_simp [iblk]
  rw [V_main_arg6]
  rfl

/-- the cast weight `main_arg7` -/
theorem final14 (c : Dev nD) : (dats m 0 c).arrAt 14 cfg0.N
    = cst (s := S4096x2048) (m ((c : Thread nD τ).loc main_arg7)) := by
  refine (dats m 0 c).arrAt_eq_of_covers 14 _ (by decide +kernel) fun t hf y => ?_
  blk_simp
  rw [after0_14]
  frame_out
  unfold k0_pay6 cst
  pointwise
  blk_simp [iblk]
  rw [V_main_arg7]
  rfl

/-- the input projection and its casts compute what the reference does -/
theorem algebraic : Cert.algebraic_Kernel2Ideal_Reference2Ideal
    (hKernel2Ideal := Cert.Kernel2Ideal.Gen.facts) (hReference2Ideal := Cert.Reference2Ideal.Gen.facts) := by
  intro m g m' g' _ ha
  refine ⟨fun c => G (m ((c : Thread nD τ).loc main_arg0)) (m ((c : Thread nD τ).loc main_arg1)),
    fun c => cst (s := S16384x4096) (m ((c : Thread nD τ).loc main_arg2)), fun c => cst (s := S16384x4096) (m ((c : Thread nD τ).loc main_arg3)),
    fun c => cst (s := S4096x4096) (m ((c : Thread nD τ).loc main_arg4)), fun c => cst (s := S2048x4096) (m ((c : Thread nD τ).loc main_arg5)),
    fun c => cst (s := S2048x4096) (m ((c : Thread nD τ).loc main_arg6)), fun c => cst (s := S4096x2048) (m ((c : Thread nD τ).loc main_arg7)), ?_, ?_⟩
  · refine (θ_run _ _ _).mono (fun r h c => ?_) (Value.run_blocks m g)
    obtain ⟨h0, h1, h2, h3, h4, h5, h6, hk⟩ := h c
    exact ⟨h0.trans (final8 m c), h1.trans (final9 m c), h2.trans (final10 m c), h3.trans (final11 m c),
      h4.trans (final12 m c), h5.trans (final13 m c), h6.trans (final14 m c), hk⟩
  · refine (θ_run _ _ _).mono (fun r h c => ?_) (Cert.Reference2Ideal.Value.run m' g')
    obtain ⟨h0, h1, h2, h3, h4, h5, h6, hk⟩ := h c
    obtain ⟨a0, a1, a2, a3, a4, a5, a6, a7⟩ := ha c
    refine ⟨h0.trans ?_, h1.trans ?_, h2.trans ?_, h3.trans ?_, h4.trans ?_, h5.trans ?_, h6.trans ?_, hk⟩
    · rw [a0, a1]; rfl
    · rw [a2]; rfl
    · rw [a3]; rfl
    · rw [a4]; rfl
    · rw [a5]; rfl
    · rw [a6]; rfl
    · rw [a7]; rfl

end Cert.Kernel2Ideal.InProj

end

end
-- ==== Proof.SampleRun.lean ====
module

public import proofs.«01_k».proof.Proof.Gen.Kernel3Ideal.Value
public import Idealize.ShloMosaic.Lib.Pipeline.ValueKit
public import Idealize.ShloMosaic.Lib.Pipeline.ReadBack
public import Idealize.ShloMosaic.Lib.Pointwise

/-! One step of the sample group's recurrence: what a grid point leaves in its blocks, as one function of the sample
    and the head; the printed body's 128 stores are this function at eight samples and sixteen heads. -/

@[expose] public section

set_option maxRecDepth 16384

noncomputable section

namespace Cert.Kernel3Ideal.Sample

open Cert.Kernel3Ideal Cert.Kernel3Ideal.Gen Idealize.ShloMosaic Idealize.ShloMosaic.TcCoe Idealize.ShloMosaic.Tactic

variable {F : FTy → Type} [FloatOps F]
variable (m : (ℓ : Loc nD τ sig) → Buf (Elt F) ℓ)

/-- every sample's lanes of a head are inside the row block, and every sample's row inside the doubled queries -/
theorem sls (b : Fin 8) (h : Fin 16) : S8x2048.Slices ![b.val, 128 * h.val] S1x128 := by revert b h; decide
theorem slr (b : Fin 8) : S16x128.Slices ![b.val, 0] S1x128 := by revert b; decide

/-- the forget gates of a block of samples -/
abbrev fV (x1 : Vec F S8x2048 .f32) (x4 : Vec F S2x2048 .f32) : FVec F S8x2048 .f32 := k0_pay3 x4 x1

/-- a head's gates of one sample as a column: the diagonal of ones picks them from the row -/
def col (b : Fin 8) (h : Fin 16) (f : FVec F S8x2048 .f32) : FVec F S128x1 .f32 :=
  shapeCast S128x1 (multiReduction .add [1] S128 (mulf (k0_pay2 (F := F)) (broadcastTo S128x128
    (extractStridedSlice S1x128 ![b.val, 128 * h.val] f (sls b h)) broadcasts_S1x128_S128x128)) 0x00000000#32
    reduces_S128x128_S128 (.inl rfl) rfl) shapeCasts_S128_S128x1

/-- the new state of one sample's head -/
def newS (fc : FVec F S128x1 .f32) (s : Vec F S1x1x128x128 .f32) (v : Vec F S1x128 .f32) : FVec F S128x128 .f32 :=
  addf (mulf (broadcastTo S128x128 fc broadcasts_S128x1_S128x128) (shapeCast S128x128 s shapeCasts_S1x1x128x128_S128x128))
    (mulf (broadcastTo S128x128 (subf (broadcast S128x1 (Scalar.ofBits .f32 0x3F800000#32)) fc) broadcasts_S128x1_S128x128)
      (broadcastTo S128x128 v broadcasts_S1x128_S128x128))

/-- the output row of one sample's head: its row of the doubled queries' product with the state -/
def rowO (b : Fin 8) (q : Vec F S8x128 .f32) (S : FVec F S128x128 .f32) : FVec F S1x128 .f32 :=
  shapeCast S1x128 (extractStridedSlice S1x128 ![b.val, 0] (matmul dot_S16x128_S128x128_S16x128_1_0_0_1_n_n none
    (truncf .bf16 (concatenate S16x128 0 [⟨S8x128, q⟩, ⟨S8x128, q⟩] concatenates_S8x128_S8x128_S16x128_d0) bitsLt_bf16_f32)
    (truncf .bf16 S bitsLt_bf16_f32) (constant S16x128 .f32 0x00000000#32)) (slr b)) shapeCasts_S1x128_S1x128

/-- a sample's head of the state block, its lanes of a row block, and a head's lanes of all samples -/
def slab (x6 : Vec F S8x16x128x128 .f32) (b : Fin 8) (h : Fin 16) : Vec F S1x1x128x128 .f32 :=
  fun i => x6 (ValueIdx.ix4 b h (i 2) (i 3))
def lane (x : Vec F S8x2048 .f32) (b : Fin 8) (h : Fin 16) : Vec F S1x128 .f32 :=
  fun i => x (ValueIdx.ix2 b ⟨128 * h.val + (i 1).val, by have h1 : (i 1).val < 128 := (i 1).isLt; have := h.isLt; omega⟩)
def lanes (x : Vec F S8x2048 .f32) (h : Fin 16) : Vec F S8x128 .f32 :=
  fun i => x (ValueIdx.ix2 (i 0) ⟨128 * h.val + (i 1).val, by have h1 : (i 1).val < 128 := (i 1).isLt; have := h.isLt; omega⟩)
def lane1 (x : Vec F S1x2048 .f32) (h : Fin 16) : Vec F S1x128 .f32 :=
  fun i => x (ValueIdx.ix2 0 ⟨128 * h.val + (i 1).val, by have h1 : (i 1).val < 128 := (i 1).isLt; have := h.isLt; omega⟩)

/-- the new state of one sample's head, from the blocks -/
def cell (b : Fin 8) (h : Fin 16) (x1 x2 : Vec F S8x2048 .f32) (x4 : Vec F S2x2048 .f32) (x6 : Vec F S8x16x128x128 .f32) :
    FVec F S128x128 .f32 :=
  newS (col b h (fV x1 x4)) (slab x6 b h) (lane x2 b h)

/-- the new state block -/
def stepS (x1 x2 : Vec F S8x2048 .f32) (x4 : Vec F S2x2048 .f32) (x6 : Vec F S8x16x128x128 .f32) : Vec F S8x16x128x128 .f32 :=
  fun y => cell (y 0) (y 1) x1 x2 x4 x6 (ValueIdx.ix2 (y 2) (y 3))

/-- a stored state is the step's value there -/
theorem stepS_piece (b n : ℕ) (hb : b < 8) (hn : n < 16) (x1 x2 : Vec F S8x2048 .f32) (x4 : Vec F S2x2048 .f32)
    (x6 : Vec F S8x16x128x128 .f32) (x : S1x1x128x128.Idx) (y : S8x16x128x128.Idx)
    (h0 : (y 0).val = b + (x 0).val) (h1 : (y 1).val = n + (x 1).val) (h2 : (y 2).val = (x 2).val) (h3 : (y 3).val = (x 3).val)
    (P : FVec F S1x1x128x128 .f32)
    (hP : P = shapeCast S1x1x128x128 (cell ⟨b, hb⟩ ⟨n, hn⟩ x1 x2 x4 x6) shapeCasts_S128x128_S1x1x128x128) :
    P x = stepS x1 x2 x4 x6 y := by
  have hx0 : (x 0).val = 0 := Nat.lt_one_iff.mp (x 0).isLt
  have hx1 : (x 1).val = 0 := Nat.lt_one_iff.mp (x 1).isLt
  have e0 : y 0 = (⟨b, hb⟩ : Fin 8) := Fin.ext (by rw [h0, hx0]; rfl)
  have e1 : y 1 = (⟨n, hn⟩ : Fin 16) := Fin.ext (by rw [h1, hx1]; rfl)
  have hxx : x = ValueIdx.ix4 0 0 (y 2) (y 3) := by
    funext a; apply Fin.ext; fin_cases a
    · exact hx0
    · exact hx1
    · exact h2.symm
    · exact h3.symm
  rw [hP, hxx]
  unfold stepS
  rw [e0, e1]
  generalize cell (⟨b, hb⟩ : Fin 8) (⟨n, hn⟩ : Fin 16) x1 x2 x4 x6 = f
  pointwise
  rfl

/-- loading a sample's head of the state block reads it -/
theorem ld_slab (b n : ℕ) (hb : b < 8) (hn : n < 16) (x6 : Vec F S8x16x128x128 .f32)
    (h : ∀ i, (![b, n, 0, 0] : Fin 4 → ℕ) i + S1x1x128x128.size i ≤ S8x16x128x128.size i) :
    View.ld x6 (Rect.unit (s := S8x16x128x128) ![b, n, 0, 0] S1x1x128x128.size h) = slab x6 ⟨b, hb⟩ ⟨n, hn⟩ := by
  funext x
  have hx0 : (x 0).val = 0 := Nat.lt_one_iff.mp (x 0).isLt
  have hx1 : (x 1).val = 0 := Nat.lt_one_iff.mp (x 1).isLt
  rw [View.ld_apply]
  refine congrArg x6 (funext fun a => Fin.ext ?_)
  fin_cases a
  · show b + 1 * (x 0).val = b
    omega
  · show n + 1 * (x 1).val = n
    omega
  · show 0 + 1 * (x 2).val = (x 2).val
    omega
  · show 0 + 1 * (x 3).val = (x 3).val
    omega

/-- the head whose columns begin at `o` -/
abbrev oh (o : ℕ) (ho : o < 2048) : Fin 16 := ⟨o / 128, by omega⟩

theorem ld_lane (b o : ℕ) (hb : b < 8) (ho : o < 2048) (hm : o % 128 = 0) (X : Vec F S8x2048 .f32)
    (h : ∀ i, (![b, o] : Fin 2 → ℕ) i + S1x128.size i ≤ S8x2048.size i) :
    View.ld X (Rect.unit (s := S8x2048) ![b, o] S1x128.size h) = lane X ⟨b, hb⟩ (oh o ho) := by
  funext x
  have hx : (x 0).val = 0 := Nat.lt_one_iff.mp (x 0).isLt
  rw [View.ld_apply]
  refine congrArg X (funext fun a => Fin.ext ?_)
  fin_cases a
  · show b + 1 * (x 0).val = b
    omega
  · show o + 1 * (x 1).val = 128 * (o / 128) + (x 1).val
    omega

theorem ld_lanes (o : ℕ) (ho : o < 2048) (hm : o % 128 = 0) (X : Vec F S8x2048 .f32)
    (h : ∀ i, (![0, o] : Fin 2 → ℕ) i + S8x128.size i ≤ S8x2048.size i) :
    View.ld X (Rect.unit (s := S8x2048) ![0, o] S8x128.size h) = lanes X (oh o ho) := by
  funext x
  rw [View.ld_apply]
  refine congrArg X (funext fun a => Fin.ext ?_)
  fin_cases a
  · show 0 + 1 * (x 0).val = (x 0).val
    omega
  · show o + 1 * (x 1).val = 128 * (o / 128) + (x 1).val
    omega

theorem ld_lane1 (o : ℕ) (ho : o < 2048) (hm : o % 128 = 0) (X : Vec F S1x2048 .f32)
    (h : ∀ i, (![0, o] : Fin 2 → ℕ) i + S1x128.size i ≤ S1x2048.size i) :
    View.ld X (Rect.unit (s := S1x2048) ![0, o] S1x128.size h) = lane1 X (oh o ho) := by
  funext x
  have hx : (x 0).val = 0 := Nat.lt_one_iff.mp (x 0).isLt
  rw [View.ld_apply]
  refine congrArg X (funext fun a => Fin.ext ?_)
  fin_cases a
  · show 0 + 1 * (x 0).val = 0
    omega
  · show o + 1 * (x 1).val = 128 * (o / 128) + (x 1).val
    omega

set_option maxHeartbeats 8000000 in
/-- a point's new state block -/
theorem out8 (c : Dev nD) (t : Fin cfg0.N) :
    (outsAt0 m c t).2 = stepS (iblk m c 1 t) (iblk m c 2 t) (iblk m c 4 t) (iblk m c 6 t) := by
  frame_out
  funext y
  canon_tiles x h
  all_goals
    first
      | refine stepS_piece _ _ (by decide) (by decide) _ _ _ _ x y h0 h1 h2 h3 _ ?_
      | refine stepS_piece 0 _ (by decide) (by decide) _ _ _ _ x y (h0.trans (Nat.zero_add _).symm) h1 h2 h3 _ ?_
      | refine stepS_piece _ 0 (by decide) (by decide) _ _ _ _ x y h0 (h1.trans (Nat.zero_add _).symm) h2 h3 _ ?_
      | refine stepS_piece 0 0 (by decide) (by decide) _ _ _ _ x y (h0.trans (Nat.zero_add _).symm) (h1.trans (Nat.zero_add _).symm) h2 h3 _ ?_
    rw [ld_slab _ _ (by decide) (by decide), ld_lane _ _ (by decide) (by decide) (by decide)]
    rfl

/-- the lane of a column inside its head -/
abbrev ol (o : ℕ) : Fin 128 := ⟨o % 128, Nat.mod_lt _ (by decide)⟩

/-- the rows kept for the output: every sample's query times its new state -/
def stepO (x0 x1 x2 : Vec F S8x2048 .f32) (x4 : Vec F S2x2048 .f32) (x6 : Vec F S8x16x128x128 .f32) : Vec F S8x2048 .f32 :=
  fun y => rowO (y 0) (lanes x0 (oh (y 1).val (y 1).isLt)) (cell (y 0) (oh (y 1).val (y 1).isLt) x1 x2 x4 x6) (ValueIdx.ix2 0 (ol (y 1).val))

/-- the output block: each head's rows normalised, scaled and gated -/
def stepG (O x3 : Vec F S8x2048 .f32) (x5 : Vec F S1x2048 .f32) : Vec F S8x2048 .f32 :=
  fun y => k0_pay1 (lanes O (oh (y 1).val (y 1).isLt)) (lane1 x5 (oh (y 1).val (y 1).isLt)) (lanes x3 (oh (y 1).val (y 1).isLt))
    (ValueIdx.ix2 (y 0) (ol (y 1).val))

/-- a stored row is `stepO` there -/
theorem stepO_piece (b o : ℕ) (hb : b < 8) (ho : o < 2048) (hm : o % 128 = 0) (x0 x1 x2 : Vec F S8x2048 .f32) (x4 : Vec F S2x2048 .f32)
    (x6 : Vec F S8x16x128x128 .f32) (x : S1x128.Idx) (y : S8x2048.Idx)
    (h0 : (y 0).val = b + (x 0).val) (h1 : (y 1).val = o + (x 1).val) (P : FVec F S1x128 .f32)
    (hP : P = rowO ⟨b, hb⟩ (lanes x0 (oh o ho)) (cell ⟨b, hb⟩ (oh o ho) x1 x2 x4 x6)) :
    P x = stepO x0 x1 x2 x4 x6 y := by
  have hx0 : (x 0).val = 0 := Nat.lt_one_iff.mp (x 0).isLt
  have hx1 : (x 1).val < 128 := (x 1).isLt
  have e0 : y 0 = (⟨b, hb⟩ : Fin 8) := Fin.ext (by rw [h0, hx0]; rfl)
  have e1 : oh (y 1).val (y 1).isLt = oh o ho := Fin.ext (by show (y 1).val / 128 = o / 128; omega)
  have e2 : ol (y 1).val = x 1 := Fin.ext (by show (y 1).val % 128 = (x 1).val; omega)
  rw [hP]
  unfold stepO
  rw [e0, e1, e2]
  refine congrArg _ (funext fun a => Fin.ext ?_)
  fin_cases a
  · exact hx0
  · rfl

/-- a stored block of a head is `stepG` there -/
theorem stepG_piece (o : ℕ) (ho : o < 2048) (hm : o % 128 = 0) (O x3 : Vec F S8x2048 .f32) (x5 : Vec F S1x2048 .f32)
    (x : S8x128.Idx) (y : S8x2048.Idx) (h0 : (y 0).val = (x 0).val) (h1 : (y 1).val = o + (x 1).val) (P : FVec F S8x128 .f32)
    (hP : P = k0_pay1 (lanes O (oh o ho)) (lane1 x5 (oh o ho)) (lanes x3 (oh o ho))) :
    P x = stepG O x3 x5 y := by
  have hx1 : (x 1).val < 128 := (x 1).isLt
  have e0 : y 0 = x 0 := Fin.ext h0
  have e1 : oh (y 1).val (y 1).isLt = oh o ho := Fin.ext (by show (y 1).val / 128 = o / 128; omega)
  have e2 : ol (y 1).val = x 1 := Fin.ext (by show (y 1).val % 128 = (x 1).val; omega)
  rw [hP]
  unfold stepG
  rw [e0, e1, e2]
  refine congrArg _ (funext fun a => Fin.ext ?_)
  fin_cases a <;> rfl

theorem idx_lanes (o : ℕ) (ho : o < 2048) (hm : o % 128 = 0) (X : Vec F S8x2048 .f32)
    (h : ∀ i, (![0, o] : Fin 2 → ℕ) i + S8x128.size i ≤ S8x2048.size i) :
    (fun j => X ((Rect.unit (s := S8x2048) ![0, o] S8x128.size h).toLoadRect.idx j)) = lanes X (oh o ho) :=
  ld_lanes o ho hm X h

set_option maxHeartbeats 8000000 in
/-- the kept rows, as the run left them -/
theorem scr (c : Dev nD) (i : grid0.Coords) (arg1 : Memref sig .tc .vmem S8x2048 .f32) (harg1 : arg1.IsWhole) (arg2 : Memref sig .tc .vmem S8x2048 .f32) (harg2 : arg2.IsWhole) (arg3 : Memref sig .tc .vmem S8x2048 .f32) (harg3 : arg3.IsWhole) (arg4 : Memref sig .tc .vmem S8x2048 .f32) (harg4 : arg4.IsWhole) (arg5 : Memref sig .tc .vmem S2x2048 .f32) (harg5 : arg5.IsWhole)
    (arg6 : Memref sig .tc .vmem S1x2048 .f32) (harg6 : arg6.IsWhole) (arg7 : Memref sig .tc .vmem S8x16x128x128 .f32) (harg7 : arg7.IsWhole) (arg8 : Memref sig .tc .vmem S8x2048 .f32) (harg8 : arg8.IsWhole) (arg9 : Memref sig .tc .vmem S8x16x128x128 .f32) (harg9 : arg9.IsWhole) (arg10 : Memref sig .tc .vmem S8x2048 .f32) (harg10 : arg10.IsWhole)
    (x0 x1 x2 x3 : Vec F S8x2048 .f32) (x4 : Vec F S2x2048 .f32) (x5 : Vec F S1x2048 .f32) (x6 : Vec F S8x16x128x128 .f32) :
    View.canon (kernelRun0_A c i arg1 harg1 arg2 harg2 arg3 harg3 arg4 harg4 arg5 harg5 arg6 harg6 arg7 harg7 arg8 harg8 arg9 harg9 arg10 harg10 x0 x1 x2 x3 x4 x5 x6).2.2.1 = stepO x0 x1 x2 x4 x6 := by
  frame_out
  funext y
  canon_tiles x h
  all_goals
    first
      | refine stepO_piece _ _ (by decide) (by decide) (by decide) _ _ _ _ _ x y h0 h1 _ ?_
      | refine stepO_piece 0 _ (by decide) (by decide) (by decide) _ _ _ _ _ x y (h0.trans (Nat.zero_add _).symm) h1 _ ?_
      | refine stepO_piece _ 0 (by decide) (by decide) (by decide) _ _ _ _ _ x y h0 (h1.trans (Nat.zero_add _).symm) _ ?_
      | refine stepO_piece 0 0 (by decide) (by decide) (by decide) _ _ _ _ _ x y (h0.trans (Nat.zero_add _).symm) (h1.trans (Nat.zero_add _).symm) _ ?_
    rw [ld_slab _ _ (by decide) (by decide), ld_lane _ _ (by decide) (by decide) (by decide), ld_lanes _ (by decide) (by decide)]
    rfl

set_option maxHeartbeats 8000000 in
/-- a point's output block -/
theorem out7 (c : Dev nD) (t : Fin cfg0.N) :
    (outsAt0 m c t).1 = stepG (stepO (iblk m c 0 t) (iblk m c 1 t) (iblk m c 2 t) (iblk m c 4 t) (iblk m c 6 t)) (iblk m c 3 t) (iblk m c 5 t) := by
  have hs := scr c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _)
    (iblk m c 0 t) (iblk m c 1 t) (iblk m c 2 t) (iblk m c 3 t) (iblk m c 4 t) (iblk m c 5 t) (iblk m c 6 t)
  frame_out at hs
  frame_out
  simp only [View.readCov_eq_canon', hs]
  clear hs
  funext y
  canon_tiles x h
  all_goals
    first
      | refine stepG_piece _ (by decide) (by decide) _ _ _ x y h0 h1 _ ?_
      | refine stepG_piece 0 (by decide) (by decide) _ _ _ x y h0 (h1.trans (Nat.zero_add _).symm) _ ?_
    rw [ld_lanes _ (by decide) (by decide), ld_lane1 _ (by decide) (by decide), idx_lanes _ (by decide) (by decide)]
    try rfl

end Cert.Kernel3Ideal.Sample

end

end
-- ==== Proof.SampleGate.lean ====
module

public import proofs.«01_k».proof.Proof.Gate

/-! The two results of the sample group's step in closed form: each sample has one token, and starts from its own state. -/

@[expose] public section

noncomputable section

namespace Cert.Recur.Sample

open Idealize.ShloMosaic Cert.Recur

variable (P : (⟨2, ![8320, 22528]⟩ : Shape).Idx → EReal) (L : (⟨2, ![2, 2048]⟩ : Shape).Idx → EReal)
  (W : (⟨2, ![16, 128]⟩ : Shape).Idx → EReal) (S : (⟨4, ![128, 16, 128, 128]⟩ : Shape).Idx → EReal)

/-- a sample's entry of the projection: the samples' rows follow the prompt's 8192 -/
def pS (n : Fin 128) (o : ℕ) (ho : o ≤ 6144) (j : Fin 2048) : EReal :=
  P (ix2 ⟨8192 + n.val, by have := n.isLt; omega⟩ ⟨o + j.val, by have := j.isLt; omega⟩)

/-- a sample's forget gate -/
def fS (n : Fin 128) (j : Fin 2048) : EReal :=
  ((lbR L j : ℝ) : EReal) + (1 - ((lbR L j : ℝ) : EReal)) * Ideal.logistic (pS P n 2048 (by decide) j)

/-- a sample's new state -/
def nS (n : Fin 128) (h : Fin 16) (x y : Fin 128) : EReal :=
  fS P L n (jh h x) * S (ix4 n h x y) + (1 - fS P L n (jh h x)) * pS P n 4096 (by decide) (jh h y)

/-- a sample's output before the norm -/
def oS (n : Fin 128) (h : Fin 16) (y : Fin 128) : EReal :=
  ∑ x : Fin 128, pS P n 0 (by decide) (jh h x) * nS P L S n h x y

/-- a sample's output -/
def resA (n : Fin 128) (J : Fin 2048) : EReal :=
  outG (fun y => oS P L S n ⟨J.val / 128, by have := J.isLt; omega⟩ y) ⟨J.val % 128, Nat.mod_lt _ (by decide)⟩
    (W (ix2 ⟨J.val / 128, by have := J.isLt; omega⟩ ⟨J.val % 128, Nat.mod_lt _ (by decide)⟩)) (pS P n 6144 (by decide) J)

theorem logistic_real (z : EReal) : ∃ s : ℝ, 0 ≤ s ∧ s ≤ 1 ∧ Ideal.logistic z = (s : EReal) := by
  induction z using EReal.rec with
  | bot => exact ⟨0, le_refl _, zero_le_one, by simp⟩
  | top => exact ⟨1, zero_le_one, le_refl _, by simp⟩
  | coe r =>
    have hp := Real.exp_pos (-r)
    exact ⟨(1 + Real.exp (-r))⁻¹, by positivity, inv_le_one_of_one_le₀ (by linarith), Ideal.logistic_coe r⟩

/-- the gate is a positive real whatever the projection holds -/
theorem fS_real (n : Fin 128) (j : Fin 2048) : ∃ f : ℝ, 0 < f ∧ fS P L n j = (f : EReal) := by
  obtain ⟨s, h0, h1, hs⟩ := logistic_real (pS P n 2048 (by decide) j)
  have hl := lbR_pos L j
  have hl1 := lbR_le L j
  refine ⟨lbR L j + (1 - lbR L j) * s, ?_, ?_⟩
  · have := mul_nonneg (sub_nonneg.mpr hl1) h0
    linarith
  · unfold fS
    rw [hs, EReal.coe_add, EReal.coe_mul, EReal.coe_sub, EReal.coe_one]

/-- the decay that the reference takes, the exponential of the gate's logarithm, is the gate -/
theorem exp_log (n : Fin 128) (j : Fin 2048) : Ideal.exp (Ideal.log (fS P L n j)) = fS P L n j := by
  obtain ⟨f, h, e⟩ := fS_real P L n j
  rw [e, Ideal.log_coe, if_neg (not_le.mpr h), Ideal.exp_coe, Real.exp_log h]

end Cert.Recur.Sample

end
-- ==== Proof.SampleKer.lean ====
module

public import proofs.«01_k».proof.Proof.SampleRun
public import proofs.«01_k».proof.Proof.SampleGate
public import Idealize.ShloMosaic.Lib.IdealHost

/-! The sample kernel's grid over the extended reals: eight samples a point, each by the closed form. -/

@[expose] public section

set_option maxRecDepth 16384

noncomputable section

namespace Cert.Kernel3Ideal.Sample

open Cert.Kernel3Ideal Cert.Kernel3Ideal.Gen Idealize.ShloMosaic Idealize.ShloMosaic.TcCoe Idealize.ShloMosaic.Tactic
open Cert.Recur Cert.Recur.Sample

/-- the gate's block at an index -/
theorem gate_at (x4 : Vec Ideal S2x2048 .f32) (x1 : Vec Ideal S8x2048 .f32) (L : (⟨2, ![2, 2048]⟩ : Shape).Idx → EReal)
    (hL : ∀ i, L i ≠ ⊤ ∧ L i ≠ ⊥) (hx : ∀ (r : Fin 2) (j : Fin 2048), x4 (ix2 r j) = L (ix2 r j)) (b : Fin 8) (j : Fin 2048) :
    fV x1 x4 (ix2 b j) = ((lbR L j : ℝ) : EReal) + (1 - ((lbR L j : ℝ) : EReal)) * Ideal.logistic (x1 (ix2 b j)) := by
  show k0_pay3 x4 x1 (ix2 b j) = _
  unfold k0_pay3
  pointwise
  simp only [hx]
  have ef := fold_coe L hL j
  have e : Ideal.div (∑ x : Fin 1, Ideal.exp (L (ix2 0 j) - Finset.fold max (Ideal.ofBits .f32 4286578688#32 : EReal) (fun x : Fin 2 => L (ix2 x j)) Finset.univ))
      (∑ x : Fin 2, Ideal.exp (L (ix2 x j) - Finset.fold max (Ideal.ofBits .f32 4286578688#32 : EReal) (fun x : Fin 2 => L (ix2 x j)) Finset.univ))
      = ((lbR L j : ℝ) : EReal) := by
    rw [ef, ← lb_coe L hL, Fin.sum_univ_one]
  exact congrArg (fun l : EReal => l + (1 - l) * Ideal.logistic (x1 (ix2 b j))) e

/-- the diagonal of ones -/
theorem eye_at (x k : Fin 128) : k0_pay2 (F := Ideal) (ix2 x k) = if x = k then (1 : EReal) else 0 := by
  unfold k0_pay2
  pointwise
  have hx := x.isLt
  have hk := k.isLt
  by_cases e : x = k
  · subst e
    rw [if_pos rfl, show IntOp.cmpi CmpIPredicate.eq (BitVec.ofNat 32 x.val) (BitVec.ofNat 32 x.val) = 1#1 by simp [IntOp.cmpi]]
    show (((BitVec.setWidth 32 1#1).toInt : ℝ) : EReal) = 1
    rw [show (BitVec.setWidth 32 1#1).toInt = 1 by decide]
    norm_num
  · rw [if_neg e, show IntOp.cmpi CmpIPredicate.eq (BitVec.ofNat 32 x.val) (BitVec.ofNat 32 k.val) = 0#1 by
      have hne : BitVec.ofNat 32 x.val ≠ BitVec.ofNat 32 k.val := fun h => e (Fin.ext (by
        have := congrArg BitVec.toNat h
        simp only [BitVec.toNat_ofNat] at this
        omega))
      show BitVec.ofBool (BitVec.ofNat 32 x.val == BitVec.ofNat 32 k.val) = 0#1
      rw [beq_eq_false_iff_ne.mpr hne]
      rfl]
    show (((BitVec.setWidth 32 0#1).toInt : ℝ) : EReal) = 0
    rw [show (BitVec.setWidth 32 0#1).toInt = 0 by decide]
    norm_num

/-- the column of a head's gates: only the diagonal's term counts -/
theorem col_at (b : Fin 8) (h : Fin 16) (f : FVec Ideal S8x2048 .f32) (x : Fin 128) : col b h f (ix2 x 0) = f (ix2 b (jh h x)) := by
  unfold col
  pointwise
  simp only [eye_at, ite_mul, one_mul, zero_mul, Finset.sum_ite_eq, Finset.mem_univ, if_true]

theorem newS_at (fc : FVec Ideal S128x1 .f32) (s : Vec Ideal S1x1x128x128 .f32) (v : Vec Ideal S1x128 .f32) (x y : Fin 128) :
    newS fc s v (ix2 x y) = fc (ix2 x 0) * s (ix4 0 0 x y) + (1 - fc (ix2 x 0)) * v (ix2 0 y) := by
  unfold newS
  pointwise

theorem rowO_at (b : Fin 8) (q : Vec Ideal S8x128 .f32) (S : FVec Ideal S128x128 .f32) (y : Fin 128) :
    rowO b q S (ix2 0 y) = ∑ x : Fin 128, q (ix2 b x) * S (ix2 x y) := by
  unfold rowO
  pointwise

theorem pay1_at (o : Vec Ideal S8x128 .f32) (w : Vec Ideal S1x128 .f32) (g : Vec Ideal S8x128 .f32) (b : Fin 8) (y : Fin 128) :
    k0_pay1 o w g (ix2 b y) = outG (fun x => o (ix2 b x)) y (w (ix2 0 y)) (g (ix2 b y)) := by
  unfold k0_pay1 outG
  pointwise

variable (m : (ℓ : Loc nD τ sig) → Buf (Elt Ideal) ℓ) (c : Dev nD)

theorem e0 : ∀ t : Fin cfg0.N, win0_0.index t = ![1024 + t.val, 0] := (by decide +kernel : ∀ t : Fin grid0.N, win0_0.index t = ![1024 + t.val, 0])
theorem e1 : ∀ t : Fin cfg0.N, win0_1.index t = ![1024 + t.val, 1] := (by decide +kernel : ∀ t : Fin grid0.N, win0_1.index t = ![1024 + t.val, 1])
theorem e2 : ∀ t : Fin cfg0.N, win0_2.index t = ![1024 + t.val, 2] := (by decide +kernel : ∀ t : Fin grid0.N, win0_2.index t = ![1024 + t.val, 2])
theorem e3 : ∀ t : Fin cfg0.N, win0_3.index t = ![1024 + t.val, 3] := (by decide +kernel : ∀ t : Fin grid0.N, win0_3.index t = ![1024 + t.val, 3])
theorem e4 : ∀ t : Fin cfg0.N, win0_4.index t = ![0, 0] := (by decide +kernel : ∀ t : Fin grid0.N, win0_4.index t = ![0, 0])
theorem e5 : ∀ t : Fin cfg0.N, win0_5.index t = ![0, 0] := (by decide +kernel : ∀ t : Fin grid0.N, win0_5.index t = ![0, 0])
theorem e6 : ∀ t : Fin cfg0.N, win0_6.index t = ![t.val, 0, 0, 0] := (by decide +kernel : ∀ t : Fin grid0.N, win0_6.index t = ![t.val, 0, 0, 0])
theorem e7 : ∀ t : Fin cfg0.N, win0_7.index t = ![t.val, 0] := (by decide +kernel : ∀ t : Fin grid0.N, win0_7.index t = ![t.val, 0])
theorem e8 : ∀ t : Fin cfg0.N, win0_8.index t = ![t.val, 0, 0, 0] := (by decide +kernel : ∀ t : Fin grid0.N, win0_8.index t = ![t.val, 0, 0, 0])

abbrev A0 : FVec Ideal S8320x22528 .f32 := m ((c : Thread nD τ).loc main_arg0)
abbrev A1 : FVec Ideal S2x2048 .f32 := m ((c : Thread nD τ).loc main_arg1)
abbrev A2 : FVec Ideal S16x128 .f32 := m ((c : Thread nD τ).loc main_arg2)
abbrev A3 : FVec Ideal S128x16x128x128 .f32 := m ((c : Thread nD τ).loc main_arg3)

theorem V_v0 : V m c main_v0 = shapeCast S1x2048 (A2 m c) shapeCasts_S16x128_S1x2048 := by
  show StableHlo.after hostOps0 _ _ = _
  simp only [hostOps0]
  after_results
  rfl

/-- the sample that row `b` of a point's blocks holds -/
abbrev sm (t : Fin cfg0.N) (ht : t.val < 16) (b : Fin 8) : Fin 128 := ⟨8 * t.val + b.val, by have := b.isLt; omega⟩

theorem b0_at (t : Fin cfg0.N) (ht : t.val < 16) (b : Fin 8) (j : Fin 2048) :
    iblk m c 0 t (ix2 b j) = pS (A0 m c) (sm t ht b) 0 (by decide) j := by
  blk_simp [iblk]
  rw [V_main_arg0]
  refine congrArg (A0 m c) ?_
  blk_ext [e0]

theorem b1_at (t : Fin cfg0.N) (ht : t.val < 16) (b : Fin 8) (j : Fin 2048) :
    iblk m c 1 t (ix2 b j) = pS (A0 m c) (sm t ht b) 2048 (by decide) j := by
  blk_simp [iblk]
  rw [V_main_arg0]
  refine congrArg (A0 m c) ?_
  blk_ext [e1]

theorem b2_at (t : Fin cfg0.N) (ht : t.val < 16) (b : Fin 8) (j : Fin 2048) :
    iblk m c 2 t (ix2 b j) = pS (A0 m c) (sm t ht b) 4096 (by decide) j := by
  blk_simp [iblk]
  rw [V_main_arg0]
  refine congrArg (A0 m c) ?_
  blk_ext [e2]

theorem b3_at (t : Fin cfg0.N) (ht : t.val < 16) (b : Fin 8) (j : Fin 2048) :
    iblk m c 3 t (ix2 b j) = pS (A0 m c) (sm t ht b) 6144 (by decide) j := by
  blk_simp [iblk]
  rw [V_main_arg0]
  refine congrArg (A0 m c) ?_
  blk_ext [e3]

theorem b4_at (t : Fin cfg0.N) (r : Fin 2) (j : Fin 2048) : iblk m c 4 t (ix2 r j) = A1 m c (ix2 r j) := by
  blk_simp [iblk]
  rw [V_main_arg1]
  refine congrArg (A1 m c) ?_
  blk_ext [e4]

theorem b5_at (t : Fin cfg0.N) (h : Fin 16) (x : Fin 128) : iblk m c 5 t (ix2 0 (jh h x)) = A2 m c (ix2 h x) := by
  blk_simp [iblk]
  rw [V_v0]
  have e : (win0_5.blk t).view.emb (ix2 0 (jh h x)) = (ix2 0 (jh h x) : S1x2048.Idx) := by blk_ext [e5]
  rw [e]
  have hx := x.isLt
  pointwise
  congr 3
  · show (128 * h.val + x.val) / 128 = h.val
    omega
  · show (128 * h.val + x.val) % 128 = x.val
    omega

theorem b6_at (t : Fin cfg0.N) (ht : t.val < 16) (b : Fin 8) (h : Fin 16) (x y : Fin 128) :
    iblk m c 6 t (ix4 b h x y) = A3 m c (ix4 (sm t ht b) h x y) := by
  blk_simp [iblk]
  rw [V_main_arg3]
  refine congrArg (A3 m c) ?_
  blk_ext [e6]

variable (hL : ∀ i, A1 m c i ≠ ⊤ ∧ A1 m c i ≠ ⊥)
include hL

/-- a sample's head of the new state -/
theorem cell_at (t : Fin cfg0.N) (ht : t.val < 16) (b : Fin 8) (h : Fin 16) (x y : Fin 128) :
    cell b h (iblk m c 1 t) (iblk m c 2 t) (iblk m c 4 t) (iblk m c 6 t) (ix2 x y) = nS (A0 m c) (A1 m c) (A3 m c) (sm t ht b) h x y := by
  have ef : col b h (fV (iblk m c 1 t) (iblk m c 4 t)) (ix2 x 0) = fS (A0 m c) (A1 m c) (sm t ht b) (jh h x) := by
    rw [col_at, gate_at _ _ (A1 m c) hL (b4_at m c t), b1_at m c t ht]
    rfl
  have es : slab (iblk m c 6 t) b h (ix4 0 0 x y) = A3 m c (ix4 (sm t ht b) h x y) := b6_at m c t ht b h x y
  have ev : lane (iblk m c 2 t) b h (ix2 0 y) = pS (A0 m c) (sm t ht b) 4096 (by decide) (jh h y) := b2_at m c t ht b (jh h y)
  unfold cell
  rw [newS_at, ef, es, ev]
  rfl

theorem stepO_at (t : Fin cfg0.N) (ht : t.val < 16) (b : Fin 8) (h : Fin 16) (y : Fin 128) :
    stepO (iblk m c 0 t) (iblk m c 1 t) (iblk m c 2 t) (iblk m c 4 t) (iblk m c 6 t) (ix2 b (jh h y))
      = oS (A0 m c) (A1 m c) (A3 m c) (sm t ht b) h y := by
  have hh := h.isLt
  have hy := y.isLt
  have eh : oh (jh h y).val (jh h y).isLt = h := Fin.ext (by show (128 * h.val + y.val) / 128 = h.val; omega)
  have el : ol (jh h y).val = y := Fin.ext (by show (128 * h.val + y.val) % 128 = y.val; omega)
  show rowO b (lanes (iblk m c 0 t) (oh (jh h y).val (jh h y).isLt))
    (cell b (oh (jh h y).val (jh h y).isLt) (iblk m c 1 t) (iblk m c 2 t) (iblk m c 4 t) (iblk m c 6 t)) (ix2 0 (ol (jh h y).val)) = _
  rw [eh, el, rowO_at]
  unfold oS
  refine Finset.sum_congr rfl fun x _ => ?_
  rw [cell_at m c hL t ht]
  exact congrArg (· * _) (b0_at m c t ht b (jh h x))

/-- the first result -/
theorem final7 : (dats m 0 c).arrAt 7 cfg0.N = fun i => Cert.Recur.Sample.resA (A0 m c) (A1 m c) (A2 m c) (A3 m c) (i 0) (i 1) := by
  refine (dats m 0 c).arrAt_eq_of_covers 7 _ (by decide +kernel) fun t hf y => ?_
  have ht : t.val < 16 := lt_of_lt_of_eq t.isLt (show cfg0.N = 16 from N_0)
  blk_simp
  rw [after0_7, out7]
  obtain ⟨b, J, rfl⟩ : ∃ (b : Fin 8) (J : Fin 2048), y = ix2 b J := ⟨y 0, y 1, by funext a; fin_cases a <;> rfl⟩
  have hJ := J.isLt
  have e : (win0_7.blk t).view.emb (ix2 b J) = (ix2 (sm t ht b) J : S128x2048.Idx) := by blk_ext [e7]
  rw [e]
  have ej : (jh (oh J.val J.isLt) (ol J.val)) = J := Fin.ext (by show 128 * (J.val / 128) + J.val % 128 = J.val; omega)
  show k0_pay1 (lanes _ (oh J.val J.isLt)) (lane1 (iblk m c 5 t) (oh J.val J.isLt)) (lanes (iblk m c 3 t) (oh J.val J.isLt)) (ix2 b (ol J.val))
    = Cert.Recur.Sample.resA (A0 m c) (A1 m c) (A2 m c) (A3 m c) (sm t ht b) J
  rw [pay1_at]
  unfold Cert.Recur.Sample.resA
  have ew : lane1 (iblk m c 5 t) (oh J.val J.isLt) (ix2 0 (ol J.val)) = A2 m c (ix2 (oh J.val J.isLt) (ol J.val)) :=
    b5_at m c t (oh J.val J.isLt) (ol J.val)
  have eg : lanes (iblk m c 3 t) (oh J.val J.isLt) (ix2 b (ol J.val)) = pS (A0 m c) (sm t ht b) 6144 (by decide) J :=
    (b3_at m c t ht b (jh (oh J.val J.isLt) (ol J.val))).trans (by rw [ej])
  rw [ew, eg]
  refine congrArg (fun o => outG o _ _ _) (funext fun y => ?_)
  exact stepO_at m c hL t ht b (oh J.val J.isLt) y

/-- the second result -/
theorem final8 : (dats m 0 c).arrAt 8 cfg0.N = fun i => nS (A0 m c) (A1 m c) (A3 m c) (i 0) (i 1) (i 2) (i 3) := by
  refine (dats m 0 c).arrAt_eq_of_covers 8 _ (by decide +kernel) fun t hf y => ?_
  have ht : t.val < 16 := lt_of_lt_of_eq t.isLt (show cfg0.N = 16 from N_0)
  blk_simp
  rw [after0_8, out8]
  obtain ⟨b, h, x, v, rfl⟩ : ∃ (b : Fin 8) (h : Fin 16) (x v : Fin 128), y = ix4 b h x v := ⟨y 0, y 1, y 2, y 3, by funext a; fin_cases a <;> rfl⟩
  have e : (win0_8.blk t).view.emb (ix4 b h x v) = (ix4 (sm t ht b) h x v : S128x16x128x128.Idx) := by blk_ext [e8]
  rw [e]
  exact cell_at m c hL t ht b h x v

end Cert.Kernel3Ideal.Sample

end
-- ==== Proof.SampleRef.lean ====
module

public import proofs.«01_k».proof.Proof.RefEntry
public import proofs.«01_k».proof.Proof.SampleGate
public import proofs.«01_k».proof.Proof.Gen.Reference3Ideal.Run

/-! The reference's loop on the sample group: a single trip, over each sample's one token. -/

@[expose] public section

set_option maxRecDepth 16384

noncomputable section

namespace Cert.Reference3Ideal.Sample

open Cert.Reference3Ideal Cert.Reference3Ideal.Gen Cert.Reference3Ideal.Value
open Idealize.ShloMosaic Idealize.ShloMosaic.TcCoe Idealize.ShloMosaic.Tactic Idealize.ShloMosaic.StableHlo
open Cert.Recur Cert.Recur.Sample

/-- the combined projection's sample rows, a group of 2048 columns by heads -/
def grp (A : FVec Ideal S8320x22528 .f32) (o : ℕ) (h : S128x1x22528.Slices ![0, 0, o] S128x1x2048) : FVec Ideal S128x1x16x128 .f32 :=
  shapeCast S128x1x16x128 (extractStridedSlice S128x1x2048 ![0, 0, o] (shapeCast S128x1x22528
    (extractStridedSlice S128x22528 ![8192, 0] A slices_S8320x22528_S128x22528_8192_0) shapeCasts_S128x22528_S128x1x22528) h)
    shapeCasts_S128x1x2048_S128x1x16x128

/-- the lower bound by heads, as in the prompt's program -/
abbrev lbV (L : FVec Ideal S2x2048 .f32) : FVec Ideal S16x128 .f32 := Cert.ReferenceIdeal.Trip.lbV L

/-- the gates -/
def gat (A : FVec Ideal S8320x22528 .f32) (L : FVec Ideal S2x2048 .f32) : FVec Ideal S128x1x16x128 .f32 :=
  addf (broadcastInDim S128x1x16x128 ![0, 1, 2, 3] bcast_S1x1x16x128_S128x1x16x128_0_1_2_3
      (broadcastInDim S1x1x16x128 ![2, 3] bcast_S16x128_S1x1x16x128_2_3 (lbV L)))
    (mulf (broadcastInDim S128x1x16x128 ![0, 1, 2, 3] bcast_S1x1x16x128_S128x1x16x128_0_1_2_3
      (broadcastInDim S1x1x16x128 ![2, 3] bcast_S16x128_S1x1x16x128_2_3
        (subf (broadcastInDim S16x128 ![] bcast_S_S16x128 (constant S_ .f32 0x3F800000#32)) (lbV L))))
      (Host.divf (broadcastInDim S128x1x16x128 ![] bcast_S_S128x1x16x128 (constant S_ .f32 0x3F800000#32))
        (addf (broadcastInDim S128x1x16x128 ![] bcast_S_S128x1x16x128 (constant S_ .f32 0x3F800000#32))
          (Host.exp (Host.negf (grp A 2048 slices_S128x1x22528_S128x1x2048_0_0_2048))))))

/-- an array of the samples with the token's axis first -/
def frt (x : FVec Ideal S128x1x16x128 .f32) : FVec Ideal S1x128x16x128 .f32 :=
  transpose S1x128x16x128 [1, 0, 2, 3] x transposes_S128x1x16x128_S1x128x16x128_1_0_2_3

variable (m : (ℓ : Loc nD τ sig) → Buf (Elt Ideal) ℓ) (c : Dev nD)

abbrev A0 : FVec Ideal S8320x22528 .f32 := m ((c : Thread nD τ).loc main_arg0)
abbrev A1 : FVec Ideal S2x2048 .f32 := m ((c : Thread nD τ).loc main_arg1)
abbrev A2 : FVec Ideal S16x128 .f32 := m ((c : Thread nD τ).loc main_arg2)
abbrev A3 : FVec Ideal S128x16x128x128 .f32 := m ((c : Thread nD τ).loc main_arg3)

set_option maxHeartbeats 4000000 in
theorem e0 : entryContents preI m c (Proc.devRef .tc main_v51_0) = frt (grp (A0 m c) 0 slices_S128x1x22528_S128x1x2048_0_0_0) := by
  simp only [entryContents, afterL_cons, afterL_nil]
  after_reads_simp
  rfl

set_option maxHeartbeats 4000000 in
theorem e1 : entryContents preI m c (Proc.devRef .tc main_v51_1) = frt (Host.log (gat (A0 m c) (A1 m c))) := by
  simp only [entryContents, afterL_cons, afterL_nil]
  after_reads_simp
  rfl

set_option maxHeartbeats 4000000 in
theorem e2 : entryContents preI m c (Proc.devRef .tc main_v51_2)
    = frt (subf (broadcastInDim S128x1x16x128 ![] bcast_S_S128x1x16x128 (constant S_ .f32 0x3F800000#32)) (gat (A0 m c) (A1 m c))) := by
  simp only [entryContents, afterL_cons, afterL_nil]
  after_reads_simp
  rfl

set_option maxHeartbeats 4000000 in
theorem e3 : entryContents preI m c (Proc.devRef .tc main_v51_3) = frt (grp (A0 m c) 4096 slices_S128x1x22528_S128x1x2048_0_0_4096) := by
  simp only [entryContents, afterL_cons, afterL_nil]
  after_reads_simp
  rfl

set_option maxHeartbeats 4000000 in
theorem e5 : entryContents preI m c (Proc.devRef .tc main_v51_5) = A3 m c := by
  simp only [entryContents, afterL_cons, afterL_nil]
  after_reads_simp
  rfl

theorem grp_at (A : FVec Ideal S8320x22528 .f32) (o : ℕ) (ho : o ≤ 6144) (hs : S128x1x22528.Slices ![0, 0, o] S128x1x2048) (n : Fin 128) (h : Fin 16) (k : Fin 128) :
    grp A o hs (ix4 n 0 h k) = pS A n o ho (jh h k) := by
  unfold grp pS
  pointwise
  congr 3
  show o + (h.val * 128 + k.val) = o + (128 * h.val + k.val)
  omega

theorem frt_at (x : FVec Ideal S128x1x16x128 .f32) (n : Fin 128) (h : Fin 16) (k : Fin 128) : frt x (ix4 0 n h k) = x (ix4 n 0 h k) := by
  unfold frt
  pointwise

theorem gat_at (A : FVec Ideal S8320x22528 .f32) (L : FVec Ideal S2x2048 .f32) (hL : ∀ i, L i ≠ ⊤ ∧ L i ≠ ⊥) (n : Fin 128) (h : Fin 16) (k : Fin 128) :
    gat A L (ix4 n 0 h k) = fS A L n (jh h k) := by
  unfold gat
  pointwise
  rw [show lbV L (ix2 h k) = ((lbR L (jh h k) : ℝ) : EReal) from Cert.ReferenceIdeal.Trip.lbV_at L hL h k, grp_at A 2048 (by decide)]
  rfl

/-- the token that the trip reads: there is only one -/
theorem row_at (x : S1x128x16x128.Idx → EReal) (st : Fin 4 → ℤ) (n : Fin 128) (h : Fin 16) (k : Fin 128) :
    shapeCast S128x16x128 (Host.dynamicSlice S1x128x16x128 x st sliceFits_S1x128x16x128_S1x128x16x128) shapeCasts_S1x128x16x128_S128x16x128 (ix3 n h k)
      = x (ix4 0 n h k) := by
  pointwise
  refine congrArg x (funext fun a => Fin.ext ?_)
  have := n.isLt; have := h.isLt; have := k.isLt
  fin_cases a
  · show (min (max (st 0) 0) ((1 - 1 : ℕ) : ℤ)).toNat + 0 = 0
    omega
  · show (min (max (st 1) 0) ((128 - 128 : ℕ) : ℤ)).toNat + n.val = n.val
    omega
  · show (min (max (st 2) 0) ((16 - 16 : ℕ) : ℤ)).toNat + h.val = h.val
    omega
  · show (min (max (st 3) 0) ((128 - 128 : ℕ) : ℤ)).toNat + k.val = k.val
    omega

/-- the array that the trip writes -/
theorem dus_at (x u : S1x128x16x128.Idx → EReal) (st : Fin 4 → ℤ) (n : Fin 128) (h : Fin 16) (k : Fin 128) :
    Host.dynamicUpdateSlice x u st updateFits_S1x128x16x128_S1x128x16x128 (ix4 0 n h k) = u (ix4 0 n h k) := by
  have z0 : (min (max (st 0) 0) ((1 - 1 : ℕ) : ℤ)).toNat = 0 := by omega
  have z1 : (min (max (st 1) 0) ((128 - 128 : ℕ) : ℤ)).toNat = 0 := by omega
  have z2 : (min (max (st 2) 0) ((16 - 16 : ℕ) : ℤ)).toNat = 0 := by omega
  have z3 : (min (max (st 3) 0) ((128 - 128 : ℕ) : ℤ)).toNat = 0 := by omega
  have := n.isLt; have := h.isLt; have := k.isLt
  unfold Host.dynamicUpdateSlice updateSlice
  dsimp only
  rw [dif_pos]
  · refine congrArg u (funext fun a => Fin.ext ?_)
    fin_cases a
    · show 0 - (min (max (st 0) 0) ((1 - 1 : ℕ) : ℤ)).toNat = 0
      omega
    · show n.val - (min (max (st 1) 0) ((128 - 128 : ℕ) : ℤ)).toNat = n.val
      omega
    · show h.val - (min (max (st 2) 0) ((16 - 16 : ℕ) : ℤ)).toNat = h.val
      omega
    · show k.val - (min (max (st 3) 0) ((128 - 128 : ℕ) : ℤ)).toNat = k.val
      omega
  · intro a
    fin_cases a
    · show (min (max (st 0) 0) ((1 - 1 : ℕ) : ℤ)).toNat ≤ 0 ∧ 0 < (min (max (st 0) 0) ((1 - 1 : ℕ) : ℤ)).toNat + 1
      omega
    · show (min (max (st 1) 0) ((128 - 128 : ℕ) : ℤ)).toNat ≤ n.val ∧ n.val < (min (max (st 1) 0) ((128 - 128 : ℕ) : ℤ)).toNat + 128
      omega
    · show (min (max (st 2) 0) ((16 - 16 : ℕ) : ℤ)).toNat ≤ h.val ∧ h.val < (min (max (st 2) 0) ((16 - 16 : ℕ) : ℤ)).toNat + 16
      omega
    · show (min (max (st 3) 0) ((128 - 128 : ℕ) : ℤ)).toNat ≤ k.val ∧ k.val < (min (max (st 3) 0) ((128 - 128 : ℕ) : ℤ)).toNat + 128
      omega

/-- the step on the state, of the token's gates, keys and values -/
def stepN (g k v : FVec Ideal S128x16x128 .f32) (S : FVec Ideal S128x16x128x128 .f32) : FVec Ideal S128x16x128x128 .f32 :=
  addf (mulf (broadcastInDim S128x16x128x128 ![0, 1, 2, 3] bcast_S128x16x128x1_S128x16x128x128_0_1_2_3
      (broadcastInDim S128x16x128x1 ![0, 1, 2] bcast_S128x16x128_S128x16x128x1_0_1_2 (Host.exp g))) S)
    (mulf (broadcastInDim S128x16x128x128 ![0, 1, 2, 3] bcast_S128x16x128x1_S128x16x128x128_0_1_2_3
      (broadcastInDim S128x16x128x1 ![0, 1, 2] bcast_S128x16x128_S128x16x128x1_0_1_2 k))
      (broadcastInDim S128x16x128x128 ![0, 1, 2, 3] bcast_S128x16x1x128_S128x16x128x128_0_1_2_3
        (broadcastInDim S128x16x1x128 ![0, 1, 3] bcast_S128x16x128_S128x16x1x128_0_1_3 v)))

theorem stepN_at (g k v : FVec Ideal S128x16x128 .f32) (S : FVec Ideal S128x16x128x128 .f32) (n : Fin 128) (h : Fin 16) (x y : Fin 128) :
    stepN g k v S (ix4 n h x y) = Ideal.exp (g (ix3 n h x)) * S (ix4 n h x y) + k (ix3 n h x) * v (ix3 n h y) := by
  unfold stepN
  pointwise

/-- the token's output, of its query and the new state -/
def outN (q : FVec Ideal S128x16x128 .f32) (S : FVec Ideal S128x16x128x128 .f32) : FVec Ideal S1x128x16x128 .f32 :=
  broadcastInDim S1x128x16x128 ![1, 2, 3] bcast_S128x16x128_S1x128x16x128_1_2_3
    (Host.dotGeneral dot_S128x16x128_S128x16x128x128_S128x16x128_2_2_n_3_01_01 none q S)

theorem outN_at (q : FVec Ideal S128x16x128 .f32) (S : FVec Ideal S128x16x128x128 .f32) (n : Fin 128) (h : Fin 16) (y : Fin 128) :
    outN q S (ix4 0 n h y) = ∑ x : Fin 128, q (ix3 n h x) * S (ix4 n h x y) := by
  unfold outN
  pointwise

variable (hL : ∀ i, A1 m c i ≠ ⊤ ∧ A1 m c i ≠ ⊥)
include hL

/-- the new state -/
theorem v94_at (n : Fin 128) (h : Fin 16) (x y : Fin 128) :
    res_main_while0b_v94 (entryContents preI m c) (ix4 n h x y) = nS (A0 m c) (A1 m c) (A3 m c) n h x y := by
  refine (stepN_at _ _ _ _ n h x y).trans ?_
  rw [row_at, row_at, row_at, e1, e2, e3, e5, frt_at, frt_at, frt_at, grp_at _ 4096 (by decide)]
  have eg := gat_at (A0 m c) (A1 m c) hL n h x
  have el : Host.log (gat (A0 m c) (A1 m c)) (ix4 n 0 h x) = Ideal.log (fS (A0 m c) (A1 m c) n (jh h x)) := congrArg Ideal.log eg
  have ek : subf (broadcastInDim S128x1x16x128 ![] bcast_S_S128x1x16x128 (constant S_ .f32 0x3F800000#32)) (gat (A0 m c) (A1 m c)) (ix4 n 0 h x)
      = 1 - fS (A0 m c) (A1 m c) n (jh h x) := by
    rw [← eg]
    pointwise
  rw [el, ek, exp_log]
  rfl

/-- the outputs before the norm -/
theorem v51_6_at (n : Fin 128) (h : Fin 16) (y : Fin 128) :
    step_main_v51_6 (entryContents preI m c) (ix4 0 n h y) = oS (A0 m c) (A1 m c) (A3 m c) n h y := by
  refine (dus_at _ _ _ n h y).trans ?_
  refine (outN_at _ _ n h y).trans ?_
  unfold oS
  refine Finset.sum_congr rfl fun x _ => ?_
  rw [row_at, e0, frt_at, grp_at _ 0 (by decide), v94_at m c hL]

omit hL in
theorem out_raw (V : Valuation τ sig (Elt Ideal)) (n : Fin 128) (J : Fin 2048) (o : Fin 128 → EReal) (w g : EReal)
    (ho : ∀ y : Fin 128, V (Proc.devRef .tc main_v51_6) (ix4 0 n ⟨J.val / 128, by have := J.isLt; omega⟩ y) = o y)
    (hw : V (Proc.devRef .tc main_arg2) (ix2 ⟨J.val / 128, by have := J.isLt; omega⟩ ⟨J.val % 128, Nat.mod_lt _ (by decide)⟩) = w)
    (hg : V (Proc.devRef .tc main_arg0) (ix2 ⟨8192 + n.val, by have := n.isLt; omega⟩ ⟨6144 + J.val, by have := J.isLt; omega⟩) = g) :
    out_main_v80 V (ix2 n J) = outG o ⟨J.val % 128, Nat.mod_lt _ (by decide)⟩ w g := by
  unfold out_main_v80 outG
  pointwise
  simp only [ho]
  rw [hw, hg]
  rfl

/-- the first result -/
theorem out_v80 (n : Fin 128) (J : Fin 2048) :
    out_main_v80 (STEP^[1] (entryContents preI m c)) (ix2 n J) = Cert.Recur.Sample.resA (A0 m c) (A1 m c) (A2 m c) (A3 m c) n J := by
  unfold Cert.Recur.Sample.resA
  refine out_raw _ n J _ _ _ (fun y => ?_) (congrFun (iter_main_arg2 m c 1) _) (congrFun (iter_main_arg0 m c 1) _)
  rw [Function.iterate_one, STEP_main_v51_6]
  exact v51_6_at m c hL n _ y

/-- the second result -/
theorem out_v51_5 (n : Fin 128) (h : Fin 16) (x y : Fin 128) :
    (STEP^[1] (entryContents preI m c)) (Proc.devRef .tc main_v51_5) (ix4 n h x y) = nS (A0 m c) (A1 m c) (A3 m c) n h x y := by
  rw [Function.iterate_one, STEP_main_v51_5]
  exact v94_at m c hL n h x y

end Cert.Reference3Ideal.Sample

end
-- ==== Proof.Bounds.lean ====
module

public import proofs.«01_k».proof.Proof.Finite

/-! What the precondition of the sample group's claim says: every logit of the lower bound is a real number. -/

@[expose] public section

set_option maxRecDepth 16384

noncomputable section

namespace Cert.Pre_bounds_finite

open Idealize.ShloMosaic

/-- the shape facts the precondition's operations take -/
theorem facts : Facts where
  bcast_S_S2x2048 := by decide
  reducesTo_S2x2048_S_d0_1 := by decide
  h_S_ := by decide

instance : Subsingleton S_.Idx := ⟨fun a b => funext fun i => i.elim0⟩

theorem real [hF : Facts] (a0 : FVec Ideal S8320x22528 .f32) (a1 : FVec Ideal S2x2048 .f32) (a2 : FVec Ideal S16x128 .f32)
    (a3 : FVec Ideal S128x16x128x128 .f32) (h : fn (F := Ideal) a0 a1 a2 a3 = fun _ => 1#1) : ∀ i, a1 i ≠ ⊤ ∧ a1 i ≠ ⊥ :=
  fun i => Cert.Pre_inputs_finite.real_of_lt _ (Host.reduce_andi_all _ _ _ _ _ (congrFun h (fun i => i.elim0)) i)

end Cert.Pre_bounds_finite

end
-- ==== Proof.HgrnSample.lean ====
module

public import proofs.«01_k».proof.Proof.SampleKer
public import proofs.«01_k».proof.Proof.SampleRef
public import proofs.«01_k».proof.Proof.Bounds

/-! The sample group's step of the recurrence: the kernel's two results are the reference's, over real logits. -/

@[expose] public section

noncomputable section

namespace Cert.Kernel3Ideal.HgrnSample

open Idealize.ShloMosaic Idealize.SL.Sem Cert.Recur.Sample

theorem algebraic : Cert.algebraic_Kernel3Ideal_Reference3Ideal_pre_bounds_finite (hKernel3Ideal := Cert.Kernel3Ideal.Gen.facts)
    (hReference3Ideal := Cert.Reference3Ideal.Gen.facts) (hPre_bounds_finite := Cert.Pre_bounds_finite.facts) := by
  intro m g m' g' hp ha
  have hR (c : Dev Cert.Kernel3Ideal.nD) := Cert.Pre_bounds_finite.real (hF := Cert.Pre_bounds_finite.facts) _ _ _ _ (hp c)
  refine ⟨fun c i => resA (Cert.Kernel3Ideal.Sample.A0 m c) (Cert.Kernel3Ideal.Sample.A1 m c) (Cert.Kernel3Ideal.Sample.A2 m c)
      (Cert.Kernel3Ideal.Sample.A3 m c) (i 0) (i 1),
    fun c i => nS (Cert.Kernel3Ideal.Sample.A0 m c) (Cert.Kernel3Ideal.Sample.A1 m c) (Cert.Kernel3Ideal.Sample.A3 m c) (i 0) (i 1) (i 2) (i 3), ?_, ?_⟩
  · refine (θ_run _ _ _).mono (fun r h c => ?_) (Cert.Kernel3Ideal.Value.run_blocks m g)
    obtain ⟨h7, h8, hk⟩ := h c
    exact ⟨h7.trans (Cert.Kernel3Ideal.Sample.final7 m c (hR c)), h8.trans (Cert.Kernel3Ideal.Sample.final8 m c (hR c)), hk⟩
  · refine (θ_run _ _ _).mono (fun r h c => ?_) (Cert.Reference3Ideal.Value.run m' g')
    obtain ⟨h0, h1, hk⟩ := h c
    obtain ⟨a0, a1, a2, a3⟩ := ha c
    have e0 : Cert.Reference3Ideal.Sample.A0 m' c = Cert.Kernel3Ideal.Sample.A0 m c := a0
    have e1 : Cert.Reference3Ideal.Sample.A1 m' c = Cert.Kernel3Ideal.Sample.A1 m c := a1
    have e2 : Cert.Reference3Ideal.Sample.A2 m' c = Cert.Kernel3Ideal.Sample.A2 m c := a2
    have e3 : Cert.Reference3Ideal.Sample.A3 m' c = Cert.Kernel3Ideal.Sample.A3 m c := a3
    have hL : ∀ i, Cert.Reference3Ideal.Sample.A1 m' c i ≠ ⊤ ∧ Cert.Reference3Ideal.Sample.A1 m' c i ≠ ⊥ := by rw [e1]; exact hR c
    refine ⟨h0.trans (funext fun i => ?_), h1.trans (funext fun i => ?_), hk⟩
    · obtain ⟨n, J, rfl⟩ : ∃ (n : Fin 128) (J : Fin 2048), i = ix2 n J := ⟨i 0, i 1, by funext a; fin_cases a <;> rfl⟩
      refine (Cert.Reference3Ideal.Sample.out_v80 m' c hL n J).trans ?_
      rw [e0, e1, e2, e3]
      rfl
    · obtain ⟨n, h, x, y, rfl⟩ : ∃ (n : Fin 128) (h : Fin 16) (x y : Fin 128), i = ix4 n h x y := ⟨i 0, i 1, i 2, i 3, by funext a; fin_cases a <;> rfl⟩
      refine (Cert.Reference3Ideal.Sample.out_v51_5 m' c hL n h x y).trans ?_
      rw [e0, e1, e3]
      rfl

end Cert.Kernel3Ideal.HgrnSample

end
-- ==== Proof.ConvPrompt.lean ====
module

public import proofs.«01_k».proof.Proof.Gen.Kernel4Ideal.Value
public import proofs.«01_k».proof.Proof.Gen.Reference4Ideal.Run
public import Idealize.ShloMosaic.Lib.Pointwise
public import Idealize.ShloMosaic.Lib.Pipeline.ValueKit
public import Idealize.ShloMosaic.Lib.WordCmp
public import proofs.«01_k».proof.Defs

/-! The prompts' gated short convolution: each block the kernel writes is the reference's result there.
The kernel turns the rows by one and by two and clears the rows that came round; the reference puts two rows
of zeros before the sequence. -/

@[expose] public section

set_option maxRecDepth 16384

noncomputable section

namespace Cert.Kernel4Ideal.ConvPrompt

open Cert.Kernel4Ideal Cert.Kernel4Ideal.Gen Idealize.ShloMosaic Idealize.ShloMosaic.TcCoe Idealize.ShloMosaic.Tactic
open Idealize.SL.Sem

/-- the row of the stacked sequences a sequence's row is -/
abbrev gr (b : Fin 4) (l : Fin 2048) : Fin 8320 := ⟨2048 * b.val + l.val, by omega⟩

/-- a sequence's convolution input -/
def inp (a : FVec Ideal S8320x22528 .f32) (b : Fin 4) (l : Fin 2048) (j : Fin 2048) : EReal :=
  a (ix2 (gr b l) ⟨12288 + j.val, by omega⟩) * a (ix2 (gr b l) ⟨8192 + j.val, by omega⟩)

/-- the input some rows back, zero before the sequence begins -/
def back (a : FVec Ideal S8320x22528 .f32) (k : ℕ) (b : Fin 4) (l : Fin 2048) (j : Fin 2048) : EReal :=
  if k ≤ l.val then inp a b ⟨l.val - k, by omega⟩ j else 0

/-- the gated convolution of a row and the two before it -/
def gat (a : FVec Ideal S8320x22528 .f32) (w : FVec Ideal S3x2048 .f32) (b : Fin 4) (l : Fin 2048) (j : Fin 2048) : EReal :=
  a (ix2 (gr b l) ⟨10240 + j.val, by omega⟩)
    * (back a 2 b l j * w (ix2 0 j) + back a 1 b l j * w (ix2 1 j) + inp a b l j * w (ix2 2 j))

/-- the gated convolutions of all rows -/
def res (a : FVec Ideal S8320x22528 .f32) (w : FVec Ideal S3x2048 .f32) : FVec Ideal S8192x2048 .bf16 := fun i =>
  gat a w ⟨(i 0).val / 2048, by have : (i 0).val < 8192 := (i 0).isLt; omega⟩ ⟨(i 0).val % 2048, by omega⟩ (i 1)

/-- the two last inputs of each sequence -/
def last (a : FVec Ideal S8320x22528 .f32) : FVec Ideal S4x2x2048 .f32 := fun i =>
  inp a (i 0) ⟨2046 + (i 1).val, by have : (i 1).val < 2 := (i 1).isLt; omega⟩ (i 2)

theorem res_at (a : FVec Ideal S8320x22528 .f32) (w : FVec Ideal S3x2048 .f32) (b : Fin 4) (l j : Fin 2048) :
    res a w (ix2 ⟨2048 * b.val + l.val, by omega⟩ j) = gat a w b l j := by
  show gat a w ⟨(2048 * b.val + l.val) / 2048, _⟩ ⟨(2048 * b.val + l.val) % 2048, _⟩ j = _
  congr 1 <;> exact Fin.ext (by dsimp only; omega)

/-- a choice by row against a small number -/
theorem sel (r : Fin 2048) (k : ℕ) (hk : k < 2048) (x y : EReal) :
    Scalar.select (IntOp.cmpi CmpIPredicate.sge (BitVec.ofNat 32 r.val) (BitVec.ofNat 32 k)) x y = if k ≤ r.val then x else y := by
  have hr := r.isLt
  unfold Scalar.select
  exact if_congr (WordCmp.cmpi_sge_ofNat_eq_one_iff (by omega) (by omega)) rfl rfl

/-- a product taken at the turned row, cleared at the rows that came round -/
theorem turned (a : FVec Ideal S8320x22528 .f32) (k : ℕ) (hk : k < 2048) (b : Fin 4) (l j : Fin 2048) (w : EReal) :
    (if k ≤ l.val then a (ix2 (gr b ⟨(l.val + 2048 - k) % 2048, by omega⟩) ⟨12288 + j.val, by omega⟩)
        * a (ix2 (gr b ⟨(l.val + 2048 - k) % 2048, by omega⟩) ⟨8192 + j.val, by omega⟩) * w else 0) = back a k b l j * w := by
  unfold back
  by_cases h : k ≤ l.val
  · rw [if_pos h, if_pos h]
    have e : (⟨(l.val + 2048 - k) % 2048, by omega⟩ : Fin 2048) = ⟨l.val - k, by omega⟩ := Fin.ext (by dsimp only; omega)
    rw [e]
    rfl
  · rw [if_neg h, if_neg h, zero_mul]

variable (m : (ℓ : Loc nD τ sig) → Buf (Elt Ideal) ℓ) (c : Dev nD)

abbrev A0 : FVec Ideal S8320x22528 .f32 := m ((c : Thread nD τ).loc main_arg0)
abbrev A1 : FVec Ideal S3x2048 .f32 := m ((c : Thread nD τ).loc main_arg1)

/-- the blocks a grid point reads and writes -/
theorem e0 : ∀ t : Fin cfg0.N, win0_0.index t = ![t.val / 8, 32 + t.val % 8] := (by decide +kernel : ∀ t : Fin grid0.N, win0_0.index t = ![t.val / 8, 32 + t.val % 8])
theorem e1 : ∀ t : Fin cfg0.N, win0_1.index t = ![t.val / 8, 40 + t.val % 8] := (by decide +kernel : ∀ t : Fin grid0.N, win0_1.index t = ![t.val / 8, 40 + t.val % 8])
theorem e2 : ∀ t : Fin cfg0.N, win0_2.index t = ![t.val / 8, 48 + t.val % 8] := (by decide +kernel : ∀ t : Fin grid0.N, win0_2.index t = ![t.val / 8, 48 + t.val % 8])
theorem e3 : ∀ t : Fin cfg0.N, win0_3.index t = ![0, t.val % 8] := (by decide +kernel : ∀ t : Fin grid0.N, win0_3.index t = ![0, t.val % 8])
theorem e4 : ∀ t : Fin cfg0.N, win0_4.index t = ![t.val / 8, t.val % 8] := (by decide +kernel : ∀ t : Fin grid0.N, win0_4.index t = ![t.val / 8, t.val % 8])
theorem e5 : ∀ t : Fin cfg0.N, win0_5.index t = ![t.val / 8, 0, t.val % 8] := (by decide +kernel : ∀ t : Fin grid0.N, win0_5.index t = ![t.val / 8, 0, t.val % 8])

section

/-- the blocks read, as arrays of numbers -/
def B0 (t : Fin cfg0.N) : FVec Ideal S2048x256 .f32 := X0_0 m c t
def B1 (t : Fin cfg0.N) : FVec Ideal S2048x256 .f32 := X0_1 m c t
def B2 (t : Fin cfg0.N) : FVec Ideal S2048x256 .f32 := X0_2 m c t
def B3 (t : Fin cfg0.N) : FVec Ideal S3x256 .f32 := iblk m c 3 t

variable (t : Fin cfg0.N) (ht : t.val < 32) (r : Fin 2048) (j : Fin 256)

/-- the sequence and the column of a block -/
abbrev sq : Fin 4 := ⟨t.val / 8, by omega⟩
abbrev cl : Fin 2048 := ⟨256 * (t.val % 8) + j.val, by omega⟩

theorem b0_at : B0 m c t (ix2 r j) = A0 m c (ix2 (gr (sq t ht) r) ⟨8192 + (cl t j).val, by omega⟩) := by
  unfold B0 X0_0 Pipeline.Window.fill
  rw [dif_pos (moved0_0 t _)]
  blk_simp [iblk]
  rw [V_main_arg0]
  refine congrArg (A0 m c) ?_
  blk_ext [e0]

theorem b1_at : B1 m c t (ix2 r j) = A0 m c (ix2 (gr (sq t ht) r) ⟨10240 + (cl t j).val, by omega⟩) := by
  unfold B1 X0_1 Pipeline.Window.fill
  rw [dif_pos (moved0_1 t _)]
  blk_simp [iblk]
  rw [V_main_arg0]
  refine congrArg (A0 m c) ?_
  blk_ext [e1]

theorem b2_at : B2 m c t (ix2 r j) = A0 m c (ix2 (gr (sq t ht) r) ⟨12288 + (cl t j).val, by omega⟩) := by
  unfold B2 X0_2 Pipeline.Window.fill
  rw [dif_pos (moved0_2 t _)]
  blk_simp [iblk]
  rw [V_main_arg0]
  refine congrArg (A0 m c) ?_
  blk_ext [e2]

theorem b3_at (k : Fin 3) : B3 m c t (ix2 k j) = A1 m c (ix2 k (cl t j)) := by
  unfold B3
  blk_simp [iblk]
  rw [V_main_arg1]
  refine congrArg (A1 m c) ?_
  blk_ext [e3]

end

theorem final4 : (dats m 0 c).arrAt 4 cfg0.N = res (A0 m c) (A1 m c) := by
  refine (dats m 0 c).arrAt_eq_of_covers 4 _ (by decide +kernel) fun t hf y => ?_
  have ht : t.val < 32 := t.isLt
  obtain ⟨r, j, rfl⟩ : ∃ (r : Fin 2048) (j : Fin 256), y = ix2 r j := ⟨y 0, y 1, by funext a; fin_cases a <;> rfl⟩
  blk_simp
  rw [after0_4]
  unfold outsAt0
  frame_out
  have e : (win0_4.blk t).view.emb (ix2 r j) = (ix2 ⟨2048 * (t.val / 8) + r.val, by omega⟩ (cl t j) : S8192x2048.Idx) := by blk_ext [e4]
  rw [e]
  unfold k0_pay2 k0_pay1
  refine Eq.trans ?_ (res_at (A0 m c) (A1 m c) (sq t ht) r (cl t j)).symm
  pointwise
  have e2 : (Scalar.select (IntOp.cmpi CmpIPredicate.sge (BitVec.ofNat 32 r.val) 2#32)
      (B2 m c t (ix2 ⟨(r.val + 2048 - 2) % 2048, by omega⟩ j) * B0 m c t (ix2 ⟨(r.val + 2048 - 2) % 2048, by omega⟩ j) * B3 m c t (ix2 0 j)) 0 : EReal)
      = back (A0 m c) 2 (sq t ht) r (cl t j) * A1 m c (ix2 0 (cl t j)) := by
    rw [sel r 2 (by decide), b0_at m c t ht, b2_at m c t ht, b3_at m c t]
    exact turned (A0 m c) 2 (by decide) (sq t ht) r (cl t j) _
  have e1 : (Scalar.select (IntOp.cmpi CmpIPredicate.sge (BitVec.ofNat 32 r.val) 1#32)
      (B2 m c t (ix2 ⟨(r.val + 2048 - 1) % 2048, by omega⟩ j) * B0 m c t (ix2 ⟨(r.val + 2048 - 1) % 2048, by omega⟩ j) * B3 m c t (ix2 1 j)) 0 : EReal)
      = back (A0 m c) 1 (sq t ht) r (cl t j) * A1 m c (ix2 1 (cl t j)) := by
    rw [sel r 1 (by decide), b0_at m c t ht, b2_at m c t ht, b3_at m c t]
    exact turned (A0 m c) 1 (by decide) (sq t ht) r (cl t j) _
  exact congrArg₂ (· * ·) (b1_at m c t ht r j) (congrArg₂ (· + ·) (congrArg₂ (· + ·) e2 e1)
    (congrArg₂ (· * ·) (congrArg₂ (· * ·) (b2_at m c t ht r j) (b0_at m c t ht r j)) (b3_at m c t j 2)))

theorem final5 : (dats m 0 c).arrAt 5 cfg0.N = last (A0 m c) := by
  refine (dats m 0 c).arrAt_eq_of_covers 5 _ (by decide +kernel) fun t hf y => ?_
  have ht : t.val < 32 := t.isLt
  obtain ⟨u, r, j, rfl⟩ : ∃ (u : Fin 1) (r : Fin 2) (j : Fin 256), y = ix3 u r j := ⟨y 0, y 1, y 2, by funext a; fin_cases a <;> rfl⟩
  blk_simp
  rw [after0_5]
  unfold outsAt0
  frame_out
  have e : (win0_5.blk t).view.emb (ix3 u r j) = (ix3 (sq t ht) r (cl t j) : S4x2x2048.Idx) := by blk_ext [e5]
  rw [e]
  unfold k0_pay3 k0_pay1
  pointwise
  exact congrArg₂ (· * ·) (b2_at m c t ht _ j) (b0_at m c t ht _ j)

theorem algebraic : Cert.algebraic_Kernel4Ideal_Reference4Ideal (hKernel4Ideal := Cert.Kernel4Ideal.Gen.facts)
    (hReference4Ideal := Cert.Reference4Ideal.Gen.facts) := by
  intro m g m' g' _ ha
  refine ⟨fun c => res (A0 m c) (A1 m c),
    fun c => last (A0 m c), ?_, ?_⟩
  · refine (θ_run _ _ _).mono (fun r h c => ?_) (Value.run_blocks m g)
    obtain ⟨h4, h5, hk⟩ := h c
    exact ⟨h4.trans (final4 m c), h5.trans (final5 m c), hk⟩
  · refine (θ_run _ _ _).mono (fun r h c => ?_) (Cert.Reference4Ideal.Value.run m' g')
    obtain ⟨h0, h1, hk⟩ := h c
    obtain ⟨a0, a1⟩ := ha c
    refine ⟨h0.trans (funext fun i => ?_), h1.trans (funext fun i => ?_), hk⟩
    · rw [a0, a1]
      obtain ⟨b, l, j, rfl⟩ : ∃ (b : Fin 4) (l j : Fin 2048), i = ix2 ⟨2048 * b.val + l.val, by omega⟩ j := by
        have hi : (i 0).val < 8192 := (i 0).isLt
        refine ⟨⟨(i 0).val / 2048, by omega⟩, ⟨(i 0).val % 2048, by omega⟩, i 1, ?_⟩
        funext a
        fin_cases a
        · exact Fin.ext (by show (i 0).val = 2048 * ((i 0).val / 2048) + (i 0).val % 2048; omega)
        · rfl
      refine Eq.trans ?_ (res_at (A0 m c) (A1 m c) b l j).symm
      clear h0 h1 hk
      pointwise
      have e0 : (⟨b.val * 2048 + l.val, by omega⟩ : Fin 8320) = gr b l := Fin.ext (by dsimp only; omega)
      refine congrArg₂ (· * ·) (congrArg (fun n : Fin 8320 => A0 m c (ix2 n ⟨10240 + j.val, by omega⟩)) e0) (congrArg₂ (· + ·) (congrArg₂ (· + ·) (congrArg (· * _) ?_) (congrArg (· * _) ?_)) (congrArg (· * _) (congrArg (fun n : Fin 8320 => A0 m c (ix2 n ⟨12288 + j.val, by omega⟩) * A0 m c (ix2 n ⟨8192 + j.val, by omega⟩)) e0)))
      · unfold back
        by_cases h : l.val < 2
        · exact (dif_pos h).trans (if_neg (by omega)).symm
        · refine (dif_neg h).trans (Eq.trans ?_ (if_pos (by omega)).symm)
          have e : (⟨b.val * 2048 + (l.val - 2), by omega⟩ : Fin 8320) = gr b ⟨l.val - 2, by omega⟩ := Fin.ext (by dsimp only; omega)
          exact congrArg (fun n : Fin 8320 => A0 m c (ix2 n ⟨12288 + j.val, by omega⟩) * A0 m c (ix2 n ⟨8192 + j.val, by omega⟩)) e
      · unfold back
        by_cases h : 1 + l.val < 2
        · exact (dif_pos h).trans (if_neg (by omega)).symm
        · refine (dif_neg h).trans (Eq.trans ?_ (if_pos (by omega)).symm)
          have e : (⟨b.val * 2048 + (1 + l.val - 2), by omega⟩ : Fin 8320) = gr b ⟨l.val - 1, by omega⟩ := Fin.ext (by dsimp only; omega)
          exact congrArg (fun n : Fin 8320 => A0 m c (ix2 n ⟨12288 + j.val, by omega⟩) * A0 m c (ix2 n ⟨8192 + j.val, by omega⟩)) e
    · rw [a0]
      obtain ⟨u, r, j, rfl⟩ : ∃ (u : Fin 4) (r : Fin 2) (j : Fin 2048), i = ix3 u r j := ⟨i 0, i 1, i 2, by funext a; fin_cases a <;> rfl⟩
      pointwise
      rw [dif_neg (by omega)]
      have e : (⟨u.val * 2048 + (2048 + r.val - 2), by omega⟩ : Fin 8320) = gr u ⟨2046 + r.val, by omega⟩ := Fin.ext (by dsimp only; omega)
      simp only [e]
      rfl

end Cert.Kernel4Ideal.ConvPrompt

end
-- ==== Proof.ConvSample.lean ====
module

public import proofs.«01_k».proof.Proof.Gen.Kernel5Ideal.Value
public import proofs.«01_k».proof.Proof.Gen.Reference5Ideal.Run
public import Idealize.ShloMosaic.Lib.Pointwise
public import Idealize.ShloMosaic.Lib.Pipeline.ValueKit
public import proofs.«01_k».proof.Defs

/-! The samples' gated short convolution: each block the kernel writes is the reference's result there. -/

@[expose] public section

set_option maxRecDepth 16384

noncomputable section

namespace Cert.Kernel5Ideal.ConvSample

open Cert.Kernel5Ideal Cert.Kernel5Ideal.Gen Idealize.ShloMosaic Idealize.ShloMosaic.TcCoe Idealize.ShloMosaic.Tactic
open Idealize.SL.Sem

/-- a sample's convolution input -/
def inp (a : FVec Ideal S8320x22528 .f32) (r : Fin 128) (j : Fin 2048) : EReal :=
  a (ix2 ⟨8192 + r.val, by omega⟩ ⟨12288 + j.val, by omega⟩) * a (ix2 ⟨8192 + r.val, by omega⟩ ⟨8192 + j.val, by omega⟩)

/-- the gated convolution of the two rows before and the input -/
def gat (a : FVec Ideal S8320x22528 .f32) (w : FVec Ideal S3x2048 .f32) (s : FVec Ideal S128x2x2048 .f32) (r : Fin 128) (j : Fin 2048) : EReal :=
  a (ix2 ⟨8192 + r.val, by omega⟩ ⟨10240 + j.val, by omega⟩)
    * (s (ix3 r 0 j) * w (ix2 0 j) + s (ix3 r 1 j) * w (ix2 1 j) + inp a r j * w (ix2 2 j))

variable (m : (ℓ : Loc nD τ sig) → Buf (Elt Ideal) ℓ) (c : Dev nD)

abbrev A0 : FVec Ideal S8320x22528 .f32 := m ((c : Thread nD τ).loc main_arg0)
abbrev A1 : FVec Ideal S3x2048 .f32 := m ((c : Thread nD τ).loc main_arg1)
abbrev A2 : FVec Ideal S128x2x2048 .f32 := m ((c : Thread nD τ).loc main_arg2)

/-- the blocks a grid point reads and writes -/
theorem e0 : ∀ t : Fin cfg0.N, win0_0.index t = ![64, 32 + t.val] := (by decide +kernel : ∀ t : Fin grid0.N, win0_0.index t = ![64, 32 + t.val])
theorem e1 : ∀ t : Fin cfg0.N, win0_1.index t = ![64, 40 + t.val] := (by decide +kernel : ∀ t : Fin grid0.N, win0_1.index t = ![64, 40 + t.val])
theorem e2 : ∀ t : Fin cfg0.N, win0_2.index t = ![64, 48 + t.val] := (by decide +kernel : ∀ t : Fin grid0.N, win0_2.index t = ![64, 48 + t.val])
theorem e3 : ∀ t : Fin cfg0.N, win0_3.index t = ![0, t.val] := (by decide +kernel : ∀ t : Fin grid0.N, win0_3.index t = ![0, t.val])
theorem e4 : ∀ t : Fin cfg0.N, win0_4.index t = ![0, t.val] := (by decide +kernel : ∀ t : Fin grid0.N, win0_4.index t = ![0, t.val])
theorem e5 : ∀ t : Fin cfg0.N, win0_5.index t = ![0, t.val] := (by decide +kernel : ∀ t : Fin grid0.N, win0_5.index t = ![0, t.val])
theorem e6 : ∀ t : Fin cfg0.N, win0_6.index t = ![0, t.val] := (by decide +kernel : ∀ t : Fin grid0.N, win0_6.index t = ![0, t.val])
theorem e7 : ∀ t : Fin cfg0.N, win0_7.index t = ![0, t.val] := (by decide +kernel : ∀ t : Fin grid0.N, win0_7.index t = ![0, t.val])

theorem V_v1 : V m c main_v1 = shapeCast S128x2048 (extractStridedSlice S128x1x2048 ![0, 0, 0] (A2 m c) slices_S128x2x2048_S128x1x2048_0_0_0) shapeCasts_S128x1x2048_S128x2048 := by
  show StableHlo.after hostOps0 _ _ = _
  simp only [hostOps0]
  after_results
  rfl

theorem V_v3 : V m c main_v3 = shapeCast S128x2048 (extractStridedSlice S128x1x2048 ![0, 1, 0] (A2 m c) slices_S128x2x2048_S128x1x2048_0_1_0) shapeCasts_S128x1x2048_S128x2048 := by
  show StableHlo.after hostOps0 _ _ = _
  simp only [hostOps0]
  after_results
  rfl

variable (t : Fin cfg0.N) (ht : t.val < 8) (r : Fin 128) (j : Fin 256)

/-- the column a block's column is -/
abbrev cl : Fin 2048 := ⟨256 * t.val + j.val, by omega⟩

theorem b0_at : iblk m c 0 t (ix2 r j) = A0 m c (ix2 ⟨8192 + r.val, by omega⟩ ⟨8192 + (cl t ht j).val, by omega⟩) := by
  blk_simp [iblk]
  rw [V_main_arg0]
  refine congrArg (A0 m c) ?_
  blk_ext [e0]

theorem b1_at : iblk m c 1 t (ix2 r j) = A0 m c (ix2 ⟨8192 + r.val, by omega⟩ ⟨10240 + (cl t ht j).val, by omega⟩) := by
  blk_simp [iblk]
  rw [V_main_arg0]
  refine congrArg (A0 m c) ?_
  blk_ext [e1]

theorem b2_at : iblk m c 2 t (ix2 r j) = A0 m c (ix2 ⟨8192 + r.val, by omega⟩ ⟨12288 + (cl t ht j).val, by omega⟩) := by
  blk_simp [iblk]
  rw [V_main_arg0]
  refine congrArg (A0 m c) ?_
  blk_ext [e2]

theorem b3_at : iblk m c 3 t (ix2 r j) = A2 m c (ix3 r 0 (cl t ht j)) := by
  blk_simp [iblk]
  rw [V_v1]
  have e : (win0_3.blk t).view.emb (ix2 r j) = (ix2 r (cl t ht j) : S128x2048.Idx) := by blk_ext [e3]
  rw [e]
  pointwise

theorem b4_at : iblk m c 4 t (ix2 r j) = A2 m c (ix3 r 1 (cl t ht j)) := by
  blk_simp [iblk]
  rw [V_v3]
  have e : (win0_4.blk t).view.emb (ix2 r j) = (ix2 r (cl t ht j) : S128x2048.Idx) := by blk_ext [e4]
  rw [e]
  pointwise

theorem b5_at (k : Fin 3) : iblk m c 5 t (ix2 k j) = A1 m c (ix2 k (cl t ht j)) := by
  blk_simp [iblk]
  rw [V_main_arg1]
  refine congrArg (A1 m c) ?_
  blk_ext [e5]

theorem final6 : (dats m 0 c).arrAt 6 cfg0.N = fun i => gat (A0 m c) (A1 m c) (A2 m c) (i 0) (i 1) := by
  refine (dats m 0 c).arrAt_eq_of_covers 6 _ (by decide +kernel) fun t hf y => ?_
  have ht : t.val < 8 := t.isLt
  obtain ⟨r, j, rfl⟩ : ∃ (r : Fin 128) (j : Fin 256), y = ix2 r j := ⟨y 0, y 1, by funext a; fin_cases a <;> rfl⟩
  blk_simp
  rw [after0_6]
  frame_out
  have e : (win0_6.blk t).view.emb (ix2 r j) = (ix2 r (cl t ht j) : S128x2048.Idx) := by blk_ext [e6]
  rw [e]
  unfold k0_pay2 k0_pay1
  pointwise
  rw [b0_at m c t ht, b1_at m c t ht, b2_at m c t ht, b3_at m c t ht, b4_at m c t ht, b5_at m c t ht, b5_at m c t ht, b5_at m c t ht]
  rfl

theorem final7 : (dats m 0 c).arrAt 7 cfg0.N = fun i => inp (A0 m c) (i 0) (i 1) := by
  refine (dats m 0 c).arrAt_eq_of_covers 7 _ (by decide +kernel) fun t hf y => ?_
  have ht : t.val < 8 := t.isLt
  obtain ⟨r, j, rfl⟩ : ∃ (r : Fin 128) (j : Fin 256), y = ix2 r j := ⟨y 0, y 1, by funext a; fin_cases a <;> rfl⟩
  blk_simp
  rw [after0_7]
  frame_out
  have e : (win0_7.blk t).view.emb (ix2 r j) = (ix2 r (cl t ht j) : S128x2048.Idx) := by blk_ext [e7]
  rw [e]
  unfold k0_pay1
  pointwise
  rw [b0_at m c t ht, b2_at m c t ht]
  rfl

theorem algebraic : Cert.algebraic_Kernel5Ideal_Reference5Ideal (hKernel5Ideal := Cert.Kernel5Ideal.Gen.facts)
    (hReference5Ideal := Cert.Reference5Ideal.Gen.facts) := by
  intro m g m' g' _ ha
  refine ⟨fun c i => gat (A0 m c) (A1 m c) (A2 m c) (i 0) (i 1), fun c i => inp (A0 m c) (i 0) (i 1), ?_, ?_⟩
  · refine (θ_run _ _ _).mono (fun r h c => ?_) (Value.run_blocks m g)
    obtain ⟨h6, h7, hk⟩ := h c
    exact ⟨h6.trans (final6 m c), h7.trans (final7 m c), hk⟩
  · refine (θ_run _ _ _).mono (fun r h c => ?_) (Cert.Reference5Ideal.Value.run m' g')
    obtain ⟨h0, h1, hk⟩ := h c
    obtain ⟨a0, a1, a2⟩ := ha c
    refine ⟨h0.trans (funext fun i => ?_), h1.trans (funext fun i => ?_), hk⟩
    · rw [a0, a1, a2]
      obtain ⟨r, j, rfl⟩ : ∃ (r : Fin 128) (j : Fin 2048), i = ix2 r j := ⟨i 0, i 1, by funext a; fin_cases a <;> rfl⟩
      pointwise
      rfl
    · rw [a0, a2]
      obtain ⟨r, j, rfl⟩ : ∃ (r : Fin 128) (j : Fin 2048), i = ix2 r j := ⟨i 0, i 1, by funext a; fin_cases a <;> rfl⟩
      pointwise
      rfl

end Cert.Kernel5Ideal.ConvSample

end
-- ==== Proof.OutProj.lean ====
/- The output projection: the 640 × 1024 blocks' products are the whole product. -/
module

public import proofs.«01_k».proof.Proof.Gen.Kernel6Ideal.Value
public import proofs.«01_k».proof.Proof.Gen.Reference6Ideal.Run
public import Idealize.ShloMosaic.Lib.Pointwise
public import Idealize.ShloMosaic.Lib.Pipeline.ValueKit
public import proofs.«01_k».proof.Defs

@[expose] public section

set_option maxRecDepth 16384

noncomputable section

namespace Cert.Kernel6Ideal.OutProj

open Cert.Kernel6Ideal Cert.Kernel6Ideal.Gen Idealize.ShloMosaic Idealize.ShloMosaic.TcCoe Idealize.ShloMosaic.Tactic
open Idealize.SL.Sem ValueIdx

/-- the reference's result: the product, over reals, of the two arrays -/
def G (a : FVec Ideal S8320x4096 .bf16) (w : FVec Ideal S4096x4096 .bf16) : FVec Ideal S8320x4096 .bf16 :=
  truncf .bf16 (Host.dotGeneral Cert.Reference6Ideal.dot_S8320x4096_S4096x4096_S8320x4096_1_0_0_1_n_n none
    (extf .f32 a Cert.Reference6Ideal.Gen.bitsLt_bf16_f32) (extf .f32 w Cert.Reference6Ideal.Gen.bitsLt_bf16_f32))
    Cert.Reference6Ideal.Gen.bitsLt_bf16_f32

variable (m : (ℓ : Loc nD τ sig) → Buf (Elt Ideal) ℓ)

/-- the blocks a grid point reads and writes -/
theorem e0 : ∀ t : Fin cfg0.N, win0_0.index t = ![(grid0.coords t 0).val, 0] :=
  (by decide +kernel : ∀ t : Fin grid0.N, win0_0.index t = ![(grid0.coords t 0).val, 0])
theorem e1 : ∀ t : Fin cfg0.N, win0_1.index t = ![0, (grid0.coords t 1).val] :=
  (by decide +kernel : ∀ t : Fin grid0.N, win0_1.index t = ![0, (grid0.coords t 1).val])
theorem e2 : ∀ t : Fin cfg0.N, win0_2.index t = ![(grid0.coords t 0).val, (grid0.coords t 1).val] :=
  (by decide +kernel : ∀ t : Fin grid0.N, win0_2.index t = ![(grid0.coords t 0).val, (grid0.coords t 1).val])

/-- one block's product at an index is the whole product there -/
theorem point (c : Dev nD) (t : Fin cfg0.N) (y : S640x1024.Idx) :
    k0_pay1 (iblk m c 0 t) (iblk m c 1 t) y = G (m ((c : Thread nD τ).loc main_arg0)) (m ((c : Thread nD τ).loc main_arg1))
      ((win0_2.blk t).view.emb y) := by
  unfold G k0_pay1
  pointwise
  blk_simp [iblk]
  rw [V_main_arg0, V_main_arg1]
  refine Finset.sum_congr rfl fun k _ => congrArg₂ (· * ·) (congrArg _ ?_) (congrArg _ ?_)
  · blk_ext [e0, e2]
  · blk_ext [e1, e2]

/-- the result array -/
theorem final (c : Dev nD) : (dats m 0 c).arrAt 2 cfg0.N
    = G (m ((c : Thread nD τ).loc main_arg0)) (m ((c : Thread nD τ).loc main_arg1)) := by
  refine (dats m 0 c).arrAt_eq_of_covers 2 _ (by decide +kernel) fun t hf y => ?_
  blk_simp
  rw [after0_2]
  frame_out
  exact point m c t y

/-- the output projection computes what the reference does -/
theorem algebraic : Cert.algebraic_Kernel6Ideal_Reference6Ideal
    (hKernel6Ideal := Cert.Kernel6Ideal.Gen.facts) (hReference6Ideal := Cert.Reference6Ideal.Gen.facts) := by
  intro m g m' g' _ ha
  refine ⟨fun c => G (m ((c : Thread nD τ).loc main_arg0)) (m ((c : Thread nD τ).loc main_arg1)), ?_, ?_⟩
  · refine (θ_run _ _ _).mono (fun r h c => ?_) (Value.run_blocks m g)
    obtain ⟨h0, hk⟩ := h c
    exact ⟨h0.trans (final m c), hk⟩
  · refine (θ_run _ _ _).mono (fun r h c => ?_) (Cert.Reference6Ideal.Value.run m' g')
    obtain ⟨h0, hk⟩ := h c
    obtain ⟨a0, a1⟩ := ha c
    refine ⟨h0.trans ?_, hk⟩
    rw [a0, a1]; rfl

end Cert.Kernel6Ideal.OutProj

end

end
-- ==== Proof.Modulation.lean ====
/- The modulation: each block of 512 columns is the whole product's, and the kernel's logistic is the quotient
   that the reference's silu multiplies by. -/
module

public import proofs.«01_k».proof.Proof.Gen.Kernel7Ideal.Value
public import proofs.«01_k».proof.Proof.Gen.Reference7Ideal.Run
public import Idealize.ShloMosaic.Lib.Pointwise
public import Idealize.ShloMosaic.Lib.Pipeline.ValueKit
public import proofs.«01_k».proof.Defs

@[expose] public section

set_option maxRecDepth 16384

noncomputable section

namespace Cert.Kernel7Ideal.Modulation

open Cert.Kernel7Ideal Cert.Kernel7Ideal.Gen Idealize.ShloMosaic Idealize.ShloMosaic.TcCoe Idealize.ShloMosaic.Tactic
open Idealize.SL.Sem ValueIdx

/-- an entry times its logistic -/
def act {s : Shape} (c : FVec Ideal s .f32) (i : s.Idx) : EReal := c i * Ideal.logistic (c i)

/-- one row's modulation in one column: the row's silu times the column of the weights, plus the bias -/
def at_ (n : ℕ) (c : Fin n → Fin 4096 → EReal) (w : FVec Ideal S4096x24576 .f32) (b : FVec Ideal S24576 .f32)
    (r : Fin n) (j : Fin 24576) : EReal :=
  (0 + ∑ k : Fin 4096, c r k * Ideal.logistic (c r k) * w (Idealize.ShloMosaic.ix2 k j)) + b (Idealize.ShloMosaic.ix1 j)

/-- the prompt batches' modulation -/
def G4 (c : FVec Ideal S16x4096 .f32) (w : FVec Ideal S4096x24576 .f32) (b : FVec Ideal S24576 .f32) :
    FVec Ideal S16x24576 .f32 := fun y => at_ 16 (fun r k => c (Idealize.ShloMosaic.ix2 r k)) w b (y 0) (y 1)

/-- the samples' modulation -/
def G5 (c : FVec Ideal S128x4096 .f32) (w : FVec Ideal S4096x24576 .f32) (b : FVec Ideal S24576 .f32) :
    FVec Ideal S128x24576 .f32 := fun y => at_ 128 (fun r k => c (Idealize.ShloMosaic.ix2 r k)) w b (y 0) (y 1)

variable (m : (ℓ : Loc nD τ sig) → Buf (Elt Ideal) ℓ)

/-- the blocks that a grid point reads and writes -/
theorem e0 : ∀ t : Fin cfg0.N, win0_0.index t = ![0, 0] :=
  (by decide +kernel : ∀ t : Fin grid0.N, win0_0.index t = ![0, 0])
theorem e1 : ∀ t : Fin cfg0.N, win0_1.index t = ![0, 0] :=
  (by decide +kernel : ∀ t : Fin grid0.N, win0_1.index t = ![0, 0])
theorem e2 : ∀ t : Fin cfg0.N, win0_2.index t = ![0, t.val] :=
  (by decide +kernel : ∀ t : Fin grid0.N, win0_2.index t = ![0, t.val])
theorem e3 : ∀ t : Fin cfg0.N, win0_3.index t = ![0, t.val] :=
  (by decide +kernel : ∀ t : Fin grid0.N, win0_3.index t = ![0, t.val])
theorem e4 : ∀ t : Fin cfg0.N, win0_4.index t = ![0, t.val] :=
  (by decide +kernel : ∀ t : Fin grid0.N, win0_4.index t = ![0, t.val])
theorem e5 : ∀ t : Fin cfg0.N, win0_5.index t = ![0, t.val] :=
  (by decide +kernel : ∀ t : Fin grid0.N, win0_5.index t = ![0, t.val])

/-- the host lays the bias out as one row -/
theorem V_b (c : Dev nD) : V m c main_v0
    = shapeCast S1x24576 (m ((c : Thread nD τ).loc main_arg3)) shapeCasts_S24576_S1x24576 := by
  show StableHlo.after hostOps0 (fun b => m (c, b)) main_v0 = _
  simp only [hostOps0]
  after_results
  rfl

/-- the bias laid out as a row, at an index -/
theorem row_at (b : FVec Ideal S24576 .f32) (j : Fin 24576) :
    shapeCast S1x24576 b shapeCasts_S24576_S1x24576 (Idealize.ShloMosaic.ix2 0 j) = b (Idealize.ShloMosaic.ix1 j) := by
  pointwise

/-- one prompt block of the modulation at an index -/
theorem point4 (c : Dev nD) (t : Fin cfg0.N) (y : S16x512.Idx) :
    k0_pay3 (iblk m c 2 t) (iblk m c 3 t) (iblk m c 0 t) y = G4 (m ((c : Thread nD τ).loc main_arg0))
      (m ((c : Thread nD τ).loc main_arg2)) (m ((c : Thread nD τ).loc main_arg3)) ((win0_4.blk t).view.emb y) := by
  unfold G4 at_ k0_pay3 k0_pay1 k0_pay2
  pointwise
  blk_simp [iblk]
  rw [V_main_arg0, V_main_arg2, V_b]
  have hw : ∀ x, (win0_2.blk t).view.emb (Idealize.ShloMosaic.ix2 x (y 1))
      = Idealize.ShloMosaic.ix2 x ((win0_4.blk t).view.emb y 1) := fun x => by blk_ext [e2, e4]
  have hc : ∀ x, (win0_0.blk t).view.emb (Idealize.ShloMosaic.ix2 (y 0) x)
      = Idealize.ShloMosaic.ix2 ((win0_4.blk t).view.emb y 0) x := fun x => by blk_ext [e0, e4]
  have hb : (win0_3.blk t).view.emb (Idealize.ShloMosaic.ix2 0 (y 1))
      = Idealize.ShloMosaic.ix2 0 ((win0_4.blk t).view.emb y 1) := by blk_ext [e3, e4]
  refine congrArg₂ (· + ·) (Finset.sum_congr rfl fun x _ => ?_) ?_
  · exact congrArg₂ (· * ·) (congrArg (act (s := S16x4096) (m (c.tc.loc main_arg0))) (hc x))
      (congrArg (m (c.tc.loc main_arg2)) (hw x))
  · refine (congrArg (shapeCast S1x24576 (m (c.tc.loc main_arg3)) shapeCasts_S24576_S1x24576) hb).trans ?_
    exact row_at _ _

/-- the prompt batches' array -/
theorem final4 (c : Dev nD) : (dats m 0 c).arrAt 4 cfg0.N
    = G4 (m ((c : Thread nD τ).loc main_arg0)) (m ((c : Thread nD τ).loc main_arg2))
      (m ((c : Thread nD τ).loc main_arg3)) := by
  refine (dats m 0 c).arrAt_eq_of_covers 4 _ (by decide +kernel) fun t hf y => ?_
  blk_simp
  rw [after0_4]
  frame_out
  exact point4 m c t y

/-- one sample block of the modulation at an index -/
theorem point5 (c : Dev nD) (t : Fin cfg0.N) (y : S128x512.Idx) :
    k0_pay4 (iblk m c 2 t) (iblk m c 3 t) (iblk m c 1 t) y = G5 (m ((c : Thread nD τ).loc main_arg1))
      (m ((c : Thread nD τ).loc main_arg2)) (m ((c : Thread nD τ).loc main_arg3)) ((win0_5.blk t).view.emb y) := by
  unfold G5 at_ k0_pay4 k0_pay1 k0_pay2
  pointwise
  blk_simp [iblk]
  rw [V_main_arg1, V_main_arg2, V_b]
  have hw : ∀ x, (win0_2.blk t).view.emb (Idealize.ShloMosaic.ix2 x (y 1))
      = Idealize.ShloMosaic.ix2 x ((win0_5.blk t).view.emb y 1) := fun x => by blk_ext [e2, e5]
  have hc : ∀ x, (win0_1.blk t).view.emb (Idealize.ShloMosaic.ix2 (y 0) x)
      = Idealize.ShloMosaic.ix2 ((win0_5.blk t).view.emb y 0) x := fun x => by blk_ext [e1, e5]
  have hb : (win0_3.blk t).view.emb (Idealize.ShloMosaic.ix2 0 (y 1))
      = Idealize.ShloMosaic.ix2 0 ((win0_5.blk t).view.emb y 1) := by blk_ext [e3, e5]
  refine congrArg₂ (· + ·) (Finset.sum_congr rfl fun x _ => ?_) ?_
  · exact congrArg₂ (· * ·) (congrArg (act (s := S128x4096) (m (c.tc.loc main_arg1))) (hc x))
      (congrArg (m (c.tc.loc main_arg2)) (hw x))
  · refine (congrArg (shapeCast S1x24576 (m (c.tc.loc main_arg3)) shapeCasts_S24576_S1x24576) hb).trans ?_
    exact row_at _ _

/-- the samples' array -/
theorem final5 (c : Dev nD) : (dats m 0 c).arrAt 5 cfg0.N
    = G5 (m ((c : Thread nD τ).loc main_arg1)) (m ((c : Thread nD τ).loc main_arg2))
      (m ((c : Thread nD τ).loc main_arg3)) := by
  refine (dats m 0 c).arrAt_eq_of_covers 5 _ (by decide +kernel) fun t hf y => ?_
  blk_simp
  rw [after0_5]
  frame_out
  exact point5 m c t y

/-- the reference's prompt modulation -/
theorem ref4 (c : FVec Ideal S16x4096 .f32) (w : FVec Ideal S4096x24576 .f32) (b : FVec Ideal S24576 .f32) :
    (addf (Host.dotGeneral Cert.Reference7Ideal.dot_S16x4096_S4096x24576_S16x24576_1_0_0_1_n_n none (mulf c (Host.divf (broadcastInDim S16x4096 ![] Cert.Reference7Ideal.Gen.bcast_S_S16x4096 (constant Cert.Reference7Ideal.S_ .f32 0x3F800000#32)) (addf (broadcastInDim S16x4096 ![] Cert.Reference7Ideal.Gen.bcast_S_S16x4096 (constant Cert.Reference7Ideal.S_ .f32 0x3F800000#32)) (Host.exp (Host.negf c))))) w) (broadcastInDim S16x24576 ![0, 1] Cert.Reference7Ideal.Gen.bcast_S1x24576_S16x24576_0_1 (broadcastInDim S1x24576 ![1] Cert.Reference7Ideal.Gen.bcast_S24576_S1x24576_1 b)) : FVec Ideal S16x24576 .f32) = G4 c w b := by
  funext y
  obtain ⟨r, j, rfl⟩ : ∃ (r : Fin 16) (j : Fin 24576), y = Idealize.ShloMosaic.ix2 r j := ⟨y 0, y 1, by funext d; fin_cases d <;> rfl⟩
  unfold G4 at_
  pointwise
  rfl

/-- the reference's sample modulation -/
theorem ref5 (c : FVec Ideal S128x4096 .f32) (w : FVec Ideal S4096x24576 .f32) (b : FVec Ideal S24576 .f32) :
    (addf (Host.dotGeneral Cert.Reference7Ideal.dot_S128x4096_S4096x24576_S128x24576_1_0_0_1_n_n none (mulf c (Host.divf (broadcastInDim S128x4096 ![] Cert.Reference7Ideal.Gen.bcast_S_S128x4096 (constant Cert.Reference7Ideal.S_ .f32 0x3F800000#32)) (addf (broadcastInDim S128x4096 ![] Cert.Reference7Ideal.Gen.bcast_S_S128x4096 (constant Cert.Reference7Ideal.S_ .f32 0x3F800000#32)) (Host.exp (Host.negf c))))) w) (broadcastInDim S128x24576 ![0, 1] Cert.Reference7Ideal.Gen.bcast_S1x24576_S128x24576_0_1 (broadcastInDim S1x24576 ![1] Cert.Reference7Ideal.Gen.bcast_S24576_S1x24576_1 b)) : FVec Ideal S128x24576 .f32) = G5 c w b := by
  funext y
  obtain ⟨r, j, rfl⟩ : ∃ (r : Fin 128) (j : Fin 24576), y = Idealize.ShloMosaic.ix2 r j := ⟨y 0, y 1, by funext d; fin_cases d <;> rfl⟩
  unfold G5 at_
  pointwise
  rfl

/-- the modulation's two results are the reference's -/
theorem algebraic : Cert.algebraic_Kernel7Ideal_Reference7Ideal
    (hKernel7Ideal := Cert.Kernel7Ideal.Gen.facts) (hReference7Ideal := Cert.Reference7Ideal.Gen.facts) := by
  intro m g m' g' _ ha
  refine ⟨fun c => G4 (m ((c : Thread nD τ).loc main_arg0)) (m ((c : Thread nD τ).loc main_arg2)) (m ((c : Thread nD τ).loc main_arg3)),
    fun c => G5 (m ((c : Thread nD τ).loc main_arg1)) (m ((c : Thread nD τ).loc main_arg2)) (m ((c : Thread nD τ).loc main_arg3)), ?_, ?_⟩
  · refine (θ_run _ _ _).mono (fun r h c => ?_) (Value.run_blocks m g)
    obtain ⟨h0, h1, hk⟩ := h c
    exact ⟨h0.trans (final4 m c), h1.trans (final5 m c), hk⟩
  · refine (θ_run _ _ _).mono (fun r h c => ?_) (Cert.Reference7Ideal.Value.run m' g')
    obtain ⟨h0, h1, hk⟩ := h c
    obtain ⟨a0, a1, a2, a3⟩ := ha c
    refine ⟨h0.trans ?_, h1.trans ?_, hk⟩
    · rw [a0, a2, a3]; exact ref4 _ _ _
    · rw [a1, a2, a3]; exact ref5 _ _ _

end Cert.Kernel7Ideal.Modulation

end

end
-- ==== Proof.ScoresRef.lean ====
module

public import proofs.«01_k».proof.Proof.Gen.Reference8Ideal.Run
public import Idealize.ShloMosaic.Lib.Pointwise

/-! The reference of the scores, row by row: a row's residual, its second norm, and its scores against the keys
of each head, for the prompt's rows and for the samples' alike. -/

@[expose] public section

set_option maxRecDepth 16384

noncomputable section

namespace Cert.Reference8Ideal.Scores

open Cert.Reference8Ideal Cert.Reference8Ideal.Gen Idealize.ShloMosaic Idealize.ShloMosaic.TcCoe Idealize.ShloMosaic.Tactic
open Idealize.SL.Sem
open Idealize.ShloMosaic (ix1 ix2 ix3 ix4)

/-! ### One row -/

/-- a row over its root mean square -/
def nrm (x : Fin 4096 → EReal) (j : Fin 4096) : EReal :=
  x j * Ideal.rsqrt (Ideal.div (∑ k, x k * x k) (Ideal.ofBits .f32 1166016512#32) + Ideal.ofBits .f32 897988541#32)

/-- a row after its residual: the mixer's row, normed and scaled, times the gate, added on -/
def rowX (x gt mo g : Fin 4096 → EReal) (j : Fin 4096) : EReal := x j + gt j * (nrm mo j * g j)

/-- a row's second norm, with its scale and shift -/
def rowU (x g sc sh : Fin 4096 → EReal) (j : Fin 4096) : EReal := nrm x j * g j * (1 + sc j) + sh j

/-- a row's score against key `n` of head `h`, half `p` -/
def rowS (u : Fin 4096 → EReal) (w : (⟨2, ![4096, 2048]⟩ : Shape).Idx → EReal)
    (s : (⟨4, ![8, 2, 128, 128]⟩ : Shape).Idx → EReal) (h : Fin 8) (p : Fin 2) (n : Fin 128) : EReal :=
  ∑ d : Fin 128, s (ix4 h p n d) * ∑ k : Fin 4096, u k * w (ix2 k ⟨h.val * 256 + p.val * 128 + d.val, by omega⟩)

/-! ### The rows of both groups -/

section

variable (a0 : FVec Ideal S8320x4096 .bf16) (a1 : FVec Ideal S8192x4096 .f32) (a2 : FVec Ideal S128x4096 .f32)
  (a3 a4 : FVec Ideal S4096 .f32) (a5 : FVec Ideal S16x24576 .f32) (a6 : FVec Ideal S128x24576 .f32)
  (a7 : FVec Ideal S4096x2048 .bf16) (a8 : FVec Ideal S8x2x128x128 .f32)

/-- row `n` of the layer's input: the prompt's rows, then the samples' -/
def inp (n : Fin 8320) (k : Fin 4096) : EReal :=
  if h : n.val < 8192 then a1 (ix2 ⟨n.val, h⟩ k) else a2 (ix2 ⟨n.val - 8192, by omega⟩ k)

/-- row `n`'s part `q` of the modulation: a prompt's is shared by its 2048 rows -/
def md (q : Fin 6) (n : Fin 8320) (k : Fin 4096) : EReal :=
  if h : n.val < 8192 then a5 (ix2 ⟨n.val / 2048, by omega⟩ ⟨4096 * q.val + k.val, by omega⟩)
  else a6 (ix2 ⟨n.val - 8192, by omega⟩ ⟨4096 * q.val + k.val, by omega⟩)

/-- the residual at row `n` -/
def x1 (n : Fin 8320) : Fin 4096 → EReal :=
  rowX (inp a1 a2 n) (md a5 a6 2 n) (fun k => a0 (ix2 n k)) (fun k => a3 (ix1 k))

/-- the second norm at row `n` -/
def u2 (n : Fin 8320) : Fin 4096 → EReal :=
  rowU (x1 a0 a1 a2 a3 a5 a6 n) (fun k => a4 (ix1 k)) (md a5 a6 4 n) (md a5 a6 3 n)

/-- the four results -/
def X1 : FVec Ideal S8320x4096 .f32 := fun y => x1 a0 a1 a2 a3 a5 a6 (y 0) (y 1)
def U2 : FVec Ideal S8320x4096 .bf16 := fun y => u2 a0 a1 a2 a3 a4 a5 a6 (y 0) (y 1)
def Sc (p : Fin 2) : FVec Ideal S8x128x8320 .f32 :=
  fun y => rowS (u2 a0 a1 a2 a3 a4 a5 a6 (y 2)) a7 a8 (y 0) p (y 1)

theorem X1_at (n : Fin 8320) (j : Fin 4096) : X1 a0 a1 a2 a3 a5 a6 (ix2 n j) = x1 a0 a1 a2 a3 a5 a6 n j := rfl
theorem U2_at (n : Fin 8320) (j : Fin 4096) : U2 a0 a1 a2 a3 a4 a5 a6 (ix2 n j) = u2 a0 a1 a2 a3 a4 a5 a6 n j := rfl
theorem Sc_at (p : Fin 2) (h : Fin 8) (k : Fin 128) (n : Fin 8320) : Sc a0 a1 a2 a3 a4 a5 a6 a7 a8 p (ix3 h k n)
    = rowS (u2 a0 a1 a2 a3 a4 a5 a6 n) a7 a8 h p k := rfl

end

/-! ### The reference's own stages -/

section

variable (a0 : FVec Ideal S8320x4096 .bf16) (a1 : FVec Ideal S8192x4096 .f32) (a2 : FVec Ideal S128x4096 .f32)
  (a3 a4 : FVec Ideal S4096 .f32) (a5 : FVec Ideal S16x24576 .f32) (a6 : FVec Ideal S128x24576 .f32)
  (a7 : FVec Ideal S4096x2048 .bf16) (a8 : FVec Ideal S8x2x128x128 .f32)

/-- the prompt's residual, and the samples' -/
def pX : FVec Ideal S4x2048x4096 .f32 :=
  (addf (shapeCast _ a1 shapeCasts_S8192x4096_S4x2048x4096) (mulf (broadcastInDim S4x2048x4096 ![0, 1, 2] bcast_S4x1x4096_S4x2048x4096_0_1_2 (extractStridedSlice S4x1x4096 ![0, 0, 8192] (broadcastInDim S4x1x24576 ![0, 2] bcast_S4x24576_S4x1x24576_0_2 (extractStridedSlice S4x24576 ![0, 0] a5 slices_S16x24576_S4x24576_0_0)) slices_S4x1x24576_S4x1x4096_0_0_8192)) (mulf (mulf (shapeCast _ (extractStridedSlice S8192x4096 ![0, 0] (extf .f32 a0 bitsLt_bf16_f32) slices_S8320x4096_S8192x4096_0_0) shapeCasts_S8192x4096_S4x2048x4096) (broadcastInDim S4x2048x4096 ![0, 1, 2] bcast_S4x2048x1_S4x2048x4096_0_1_2 (Host.rsqrt (addf (Host.divf (broadcastInDim S4x2048x1 ![0, 1] bcast_S4x2048_S4x2048x1_0_1 (Host.reduceAdd (mulf (shapeCast _ (extractStridedSlice S8192x4096 ![0, 0] (extf .f32 a0 bitsLt_bf16_f32) slices_S8320x4096_S8192x4096_0_0) shapeCasts_S8192x4096_S4x2048x4096) (shapeCast _ (extractStridedSlice S8192x4096 ![0, 0] (extf .f32 a0 bitsLt_bf16_f32) slices_S8320x4096_S8192x4096_0_0) shapeCasts_S8192x4096_S4x2048x4096)) (constant S_ .f32 0x00000000#32) reducesTo_S4x2048x4096_S4x2048_d2 h_S_)) (broadcastInDim S4x2048x1 ![] bcast_S_S4x2048x1 (constant S_ .f32 0x45800000#32))) (broadcastInDim S4x2048x1 ![] bcast_S_S4x2048x1 (constant S_ .f32 0x358637BD#32)))))) (broadcastInDim S4x2048x4096 ![0, 1, 2] bcast_S1x1x4096_S4x2048x4096_0_1_2 (broadcastInDim S1x1x4096 ![2] bcast_S4096_S1x1x4096_2 a3)))))
def sX : FVec Ideal S128x1x4096 .f32 :=
  (addf (shapeCast _ a2 shapeCasts_S128x4096_S128x1x4096) (mulf (extractStridedSlice S128x1x4096 ![0, 0, 8192] (broadcastInDim S128x1x24576 ![0, 2] bcast_S128x24576_S128x1x24576_0_2 a6) slices_S128x1x24576_S128x1x4096_0_0_8192) (mulf (mulf (shapeCast _ (extractStridedSlice S128x4096 ![8192, 0] (extf .f32 a0 bitsLt_bf16_f32) slices_S8320x4096_S128x4096_8192_0) shapeCasts_S128x4096_S128x1x4096) (broadcastInDim S128x1x4096 ![0, 1, 2] bcast_S128x1x1_S128x1x4096_0_1_2 (Host.rsqrt (addf (Host.divf (broadcastInDim S128x1x1 ![0, 1] bcast_S128x1_S128x1x1_0_1 (Host.reduceAdd (mulf (shapeCast _ (extractStridedSlice S128x4096 ![8192, 0] (extf .f32 a0 bitsLt_bf16_f32) slices_S8320x4096_S128x4096_8192_0) shapeCasts_S128x4096_S128x1x4096) (shapeCast _ (extractStridedSlice S128x4096 ![8192, 0] (extf .f32 a0 bitsLt_bf16_f32) slices_S8320x4096_S128x4096_8192_0) shapeCasts_S128x4096_S128x1x4096)) (constant S_ .f32 0x00000000#32) reducesTo_S128x1x4096_S128x1_d2 h_S_)) (broadcastInDim S128x1x1 ![] bcast_S_S128x1x1 (constant S_ .f32 0x45800000#32))) (broadcastInDim S128x1x1 ![] bcast_S_S128x1x1 (constant S_ .f32 0x358637BD#32)))))) (broadcastInDim S128x1x4096 ![0, 1, 2] bcast_S1x1x4096_S128x1x4096_0_1_2 (broadcastInDim S1x1x4096 ![2] bcast_S4096_S1x1x4096_2 a3)))))
/-- the prompt's second norm, and the samples', from the residual -/
def pU (X : FVec Ideal S4x2048x4096 .f32) : FVec Ideal S4x2048x4096 .f32 :=
  (addf (mulf (mulf (mulf X (broadcastInDim S4x2048x4096 ![0, 1, 2] bcast_S4x2048x1_S4x2048x4096_0_1_2 (Host.rsqrt (addf (Host.divf (broadcastInDim S4x2048x1 ![0, 1] bcast_S4x2048_S4x2048x1_0_1 (Host.reduceAdd (mulf X X) (constant S_ .f32 0x00000000#32) reducesTo_S4x2048x4096_S4x2048_d2 h_S_)) (broadcastInDim S4x2048x1 ![] bcast_S_S4x2048x1 (constant S_ .f32 0x45800000#32))) (broadcastInDim S4x2048x1 ![] bcast_S_S4x2048x1 (constant S_ .f32 0x358637BD#32)))))) (broadcastInDim S4x2048x4096 ![0, 1, 2] bcast_S1x1x4096_S4x2048x4096_0_1_2 (broadcastInDim S1x1x4096 ![2] bcast_S4096_S1x1x4096_2 a4))) (broadcastInDim S4x2048x4096 ![0, 1, 2] bcast_S4x1x4096_S4x2048x4096_0_1_2 (addf (broadcastInDim S4x1x4096 ![] bcast_S_S4x1x4096 (constant S_ .f32 0x3F800000#32)) (extractStridedSlice S4x1x4096 ![0, 0, 16384] (broadcastInDim S4x1x24576 ![0, 2] bcast_S4x24576_S4x1x24576_0_2 (extractStridedSlice S4x24576 ![0, 0] a5 slices_S16x24576_S4x24576_0_0)) slices_S4x1x24576_S4x1x4096_0_0_16384)))) (broadcastInDim S4x2048x4096 ![0, 1, 2] bcast_S4x1x4096_S4x2048x4096_0_1_2 (extractStridedSlice S4x1x4096 ![0, 0, 12288] (broadcastInDim S4x1x24576 ![0, 2] bcast_S4x24576_S4x1x24576_0_2 (extractStridedSlice S4x24576 ![0, 0] a5 slices_S16x24576_S4x24576_0_0)) slices_S4x1x24576_S4x1x4096_0_0_12288)))
def sU (X : FVec Ideal S128x1x4096 .f32) : FVec Ideal S128x1x4096 .f32 :=
  (addf (mulf (mulf (mulf X (broadcastInDim S128x1x4096 ![0, 1, 2] bcast_S128x1x1_S128x1x4096_0_1_2 (Host.rsqrt (addf (Host.divf (broadcastInDim S128x1x1 ![0, 1] bcast_S128x1_S128x1x1_0_1 (Host.reduceAdd (mulf X X) (constant S_ .f32 0x00000000#32) reducesTo_S128x1x4096_S128x1_d2 h_S_)) (broadcastInDim S128x1x1 ![] bcast_S_S128x1x1 (constant S_ .f32 0x45800000#32))) (broadcastInDim S128x1x1 ![] bcast_S_S128x1x1 (constant S_ .f32 0x358637BD#32)))))) (broadcastInDim S128x1x4096 ![0, 1, 2] bcast_S1x1x4096_S128x1x4096_0_1_2 (broadcastInDim S1x1x4096 ![2] bcast_S4096_S1x1x4096_2 a4))) (addf (broadcastInDim S128x1x4096 ![] bcast_S_S128x1x4096 (constant S_ .f32 0x3F800000#32)) (extractStridedSlice S128x1x4096 ![0, 0, 16384] (broadcastInDim S128x1x24576 ![0, 2] bcast_S128x24576_S128x1x24576_0_2 a6) slices_S128x1x24576_S128x1x4096_0_0_16384))) (extractStridedSlice S128x1x4096 ![0, 0, 12288] (broadcastInDim S128x1x24576 ![0, 2] bcast_S128x24576_S128x1x24576_0_2 a6) slices_S128x1x24576_S128x1x4096_0_0_12288))
/-- the prompt's scores, and the samples', from the second norm -/
def pS (U : FVec Ideal S4x2048x4096 .f32) : FVec Ideal S8192x8x2x128 .f32 :=
  (transpose S8192x8x2x128 [3, 0, 1, 2] (Host.dotGeneral dot_S8x2x128x128_S8192x8x2x128_S8x2x128x8192_3_3_2_0_01_12 none a8 (shapeCast _ (Host.dotGeneral dot_S8192x4096_S4096x2048_S8192x2048_1_0_0_1_n_n none (shapeCast _ U shapeCasts_S4x2048x4096_S8192x4096) (extf .f32 a7 bitsLt_bf16_f32)) shapeCasts_S8192x2048_S8192x8x2x128)) transposes_S8x2x128x8192_S8192x8x2x128_3_0_1_2)
def sS (U : FVec Ideal S128x1x4096 .f32) : FVec Ideal S128x8x2x128 .f32 :=
  (transpose S128x8x2x128 [3, 0, 1, 2] (Host.dotGeneral dot_S8x2x128x128_S128x8x2x128_S8x2x128x128_3_3_2_0_01_12 none a8 (shapeCast _ (Host.dotGeneral dot_S128x4096_S4096x2048_S128x2048_1_0_0_1_n_n none (shapeCast _ U shapeCasts_S128x1x4096_S128x4096) (extf .f32 a7 bitsLt_bf16_f32)) shapeCasts_S128x2048_S128x8x2x128)) transposes_S8x2x128x128_S128x8x2x128_3_0_1_2)

/-- token `l` of prompt `b`, and sample `s`, among the rows -/
abbrev pr (b : Fin 4) (l : Fin 2048) : Fin 8320 := ⟨b.val * 2048 + l.val, by omega⟩
abbrev sr (s : Fin 128) : Fin 8320 := ⟨8192 + s.val, by omega⟩

theorem inp_pr (b : Fin 4) (l : Fin 2048) (k : Fin 4096) : inp a1 a2 (pr b l) k = a1 (ix2 ⟨b.val * 2048 + l.val, by omega⟩ k) :=
  dif_pos (by dsimp only; omega)

theorem inp_sr (s : Fin 128) (k : Fin 4096) : inp a1 a2 (sr s) k = a2 (ix2 s k) :=
  (dif_neg (by dsimp only; omega)).trans (congrArg (fun n : Fin 128 => a2 (ix2 n k)) (Fin.ext (by dsimp only; omega)))

theorem md_pr (q : Fin 6) (b : Fin 4) (l : Fin 2048) (k : Fin 4096) :
    md a5 a6 q (pr b l) k = a5 (ix2 ⟨b.val, by omega⟩ ⟨4096 * q.val + k.val, by omega⟩) :=
  (dif_pos (by dsimp only; omega)).trans
    (congrArg (fun n : Fin 16 => a5 (ix2 n ⟨4096 * q.val + k.val, by omega⟩)) (Fin.ext (by dsimp only; omega)))

theorem md_sr (q : Fin 6) (s : Fin 128) (k : Fin 4096) :
    md a5 a6 q (sr s) k = a6 (ix2 s ⟨4096 * q.val + k.val, by omega⟩) :=
  (dif_neg (by dsimp only; omega)).trans
    (congrArg (fun n : Fin 128 => a6 (ix2 n ⟨4096 * q.val + k.val, by omega⟩)) (Fin.ext (by dsimp only; omega)))

theorem pX_at (b : Fin 4) (l : Fin 2048) (j : Fin 4096) :
    pX a0 a1 a3 a5 (ix3 b l j) = x1 a0 a1 a2 a3 a5 a6 (pr b l) j := by
  unfold x1 rowX nrm
  rw [inp_pr, md_pr]
  unfold pX
  pointwise

theorem sX_at (s : Fin 128) (j : Fin 4096) :
    sX a0 a2 a3 a6 (ix3 s 0 j) = x1 a0 a1 a2 a3 a5 a6 (sr s) j := by
  unfold x1 rowX nrm
  rw [inp_sr, md_sr]
  unfold sX
  pointwise

theorem pU_at (X : FVec Ideal S4x2048x4096 .f32) (b : Fin 4) (l : Fin 2048) (j : Fin 4096) :
    pU a4 a5 X (ix3 b l j) = rowU (fun k => X (ix3 b l k)) (fun k => a4 (ix1 k)) (md a5 a6 4 (pr b l)) (md a5 a6 3 (pr b l)) j := by
  unfold rowU nrm
  rw [md_pr, md_pr]
  unfold pU
  pointwise

theorem sU_at (X : FVec Ideal S128x1x4096 .f32) (s : Fin 128) (j : Fin 4096) :
    sU a4 a6 X (ix3 s 0 j) = rowU (fun k => X (ix3 s 0 k)) (fun k => a4 (ix1 k)) (md a5 a6 4 (sr s)) (md a5 a6 3 (sr s)) j := by
  unfold rowU nrm
  rw [md_sr, md_sr]
  unfold sU
  pointwise

theorem pS_at (U : FVec Ideal S4x2048x4096 .f32) (b : Fin 4) (l : Fin 2048) (h : Fin 8) (p : Fin 2) (n : Fin 128) :
    pS a7 a8 U (ix4 ⟨b.val * 2048 + l.val, by omega⟩ h p n) = rowS (fun k => U (ix3 b l k)) a7 a8 h p n := by
  unfold rowS pS
  pointwise

theorem sS_at (U : FVec Ideal S128x1x4096 .f32) (s : Fin 128) (h : Fin 8) (p : Fin 2) (n : Fin 128) :
    sS a7 a8 U (ix4 s h p n) = rowS (fun k => U (ix3 s 0 k)) a7 a8 h p n := by
  unfold rowS sS
  pointwise

/-- a row is a prompt's token or a sample -/
theorem row_cases (n : Fin 8320) : (∃ (b : Fin 4) (l : Fin 2048), n = pr b l) ∨ ∃ s : Fin 128, n = sr s := by
  by_cases h : n.val < 8192
  · exact .inl ⟨⟨n.val / 2048, by omega⟩, ⟨n.val % 2048, by omega⟩, Fin.ext (by dsimp only; omega)⟩
  · exact .inr ⟨⟨n.val - 8192, by omega⟩, Fin.ext (by dsimp only; omega)⟩

/-- the second norm at a token and at a sample -/
theorem pUX_at (b : Fin 4) (l : Fin 2048) (j : Fin 4096) :
    pU a4 a5 (pX a0 a1 a3 a5) (ix3 b l j) = u2 a0 a1 a2 a3 a4 a5 a6 (pr b l) j := by
  rw [pU_at a4 a5 a6]
  unfold u2
  exact congrArg (fun x => rowU x (fun k => a4 (ix1 k)) (md a5 a6 4 (pr b l)) (md a5 a6 3 (pr b l)) j)
    (funext fun k => pX_at a0 a1 a2 a3 a5 a6 b l k)

theorem sUX_at (s : Fin 128) (j : Fin 4096) :
    sU a4 a6 (sX a0 a2 a3 a6) (ix3 s 0 j) = u2 a0 a1 a2 a3 a4 a5 a6 (sr s) j := by
  rw [sU_at a4 a5 a6]
  unfold u2
  exact congrArg (fun x => rowU x (fun k => a4 (ix1 k)) (md a5 a6 4 (sr s)) (md a5 a6 3 (sr s)) j)
    (funext fun k => sX_at a0 a1 a2 a3 a5 a6 s k)

/-- the scores at a token and at a sample -/
theorem pSX_at (b : Fin 4) (l : Fin 2048) (h : Fin 8) (p : Fin 2) (n : Fin 128) :
    pS a7 a8 (pU a4 a5 (pX a0 a1 a3 a5)) (ix4 ⟨b.val * 2048 + l.val, by omega⟩ h p n)
      = rowS (u2 a0 a1 a2 a3 a4 a5 a6 (pr b l)) a7 a8 h p n := by
  rw [pS_at]
  exact congrArg (fun x => rowS x a7 a8 h p n) (funext fun k => pUX_at a0 a1 a2 a3 a4 a5 a6 b l k)

theorem sSX_at (s : Fin 128) (h : Fin 8) (p : Fin 2) (n : Fin 128) :
    sS a7 a8 (sU a4 a6 (sX a0 a2 a3 a6)) (ix4 s h p n) = rowS (u2 a0 a1 a2 a3 a4 a5 a6 (sr s)) a7 a8 h p n := by
  rw [sS_at]
  exact congrArg (fun x => rowS x a7 a8 h p n) (funext fun k => sUX_at a0 a1 a2 a3 a4 a5 a6 s k)

/-- the reference's first result -/
theorem ref0 : (concatenate S8320x4096 0 [⟨S8192x4096, (shapeCast _ (pX a0 a1 a3 a5) shapeCasts_S4x2048x4096_S8192x4096)⟩, ⟨S128x4096, (shapeCast _ (sX a0 a2 a3 a6) shapeCasts_S128x1x4096_S128x4096)⟩] concatenates_S8192x4096_S128x4096_S8320x4096_d0 : FVec Ideal S8320x4096 .f32) = X1 a0 a1 a2 a3 a5 a6 := by
  generalize hp : pX a0 a1 a3 a5 = P
  generalize hs : sX a0 a2 a3 a6 = S
  funext y
  obtain ⟨n, j, rfl⟩ : ∃ (n : Fin 8320) (j : Fin 4096), y = ix2 n j := ⟨y 0, y 1, by funext d; fin_cases d <;> rfl⟩
  rw [X1_at]
  rcases row_cases n with ⟨b, l, rfl⟩ | ⟨s, rfl⟩
  · rw [← pX_at, hp]; clear hp hs
    pointwise
    exact dif_pos (by omega)
  · rw [← sX_at a0 a1, hs]; clear hp hs
    pointwise

/-- its second -/
theorem ref1 : (truncf .bf16 (concatenate S8320x4096 0 [⟨S8192x4096, (shapeCast _ (pU a4 a5 (pX a0 a1 a3 a5)) shapeCasts_S4x2048x4096_S8192x4096)⟩, ⟨S128x4096, (shapeCast _ (sU a4 a6 (sX a0 a2 a3 a6)) shapeCasts_S128x1x4096_S128x4096)⟩] concatenates_S8192x4096_S128x4096_S8320x4096_d0) bitsLt_bf16_f32 : FVec Ideal S8320x4096 .bf16) = U2 a0 a1 a2 a3 a4 a5 a6 := by
  generalize hp : pU a4 a5 (pX a0 a1 a3 a5) = P
  generalize hs : sU a4 a6 (sX a0 a2 a3 a6) = S
  funext y
  obtain ⟨n, j, rfl⟩ : ∃ (n : Fin 8320) (j : Fin 4096), y = ix2 n j := ⟨y 0, y 1, by funext d; fin_cases d <;> rfl⟩
  rw [U2_at]
  rcases row_cases n with ⟨b, l, rfl⟩ | ⟨s, rfl⟩
  · rw [← pUX_at, hp]; clear hp hs
    pointwise
    exact dif_pos (by omega)
  · rw [← sUX_at a0 a1, hs]; clear hp hs
    pointwise

/-- half 0 of the scores, laid out by head, key and row, at a row of the prompt's -/
theorem cat0 (P : FVec Ideal S8192x8x2x128 .f32) (S : FVec Ideal S128x8x2x128 .f32) (N : Fin 8192) (h : Fin 8) (k : Fin 128) :
    (transpose S8x128x8320 [1, 2, 0] (concatenate S8320x8x128 0 [⟨S8192x8x128, (shapeCast _ (extractStridedSlice S8192x8x1x128 ![0, 0, 0, 0] P slices_S8192x8x2x128_S8192x8x1x128_0_0_0_0) shapeCasts_S8192x8x1x128_S8192x8x128)⟩, ⟨S128x8x128, (shapeCast _ (extractStridedSlice S128x8x1x128 ![0, 0, 0, 0] S slices_S128x8x2x128_S128x8x1x128_0_0_0_0) shapeCasts_S128x8x1x128_S128x8x128)⟩] concatenates_S8192x8x128_S128x8x128_S8320x8x128_d0) transposes_S8320x8x128_S8x128x8320_1_2_0 : FVec Ideal S8x128x8320 .f32)
      (ix3 h k ⟨N.val, by omega⟩) = P (ix4 N h 0 k) := by
  pointwise

/-- half 1 of the scores, laid out by head, key and row, at a row of the prompt's -/
theorem cat1 (P : FVec Ideal S8192x8x2x128 .f32) (S : FVec Ideal S128x8x2x128 .f32) (N : Fin 8192) (h : Fin 8) (k : Fin 128) :
    (transpose S8x128x8320 [1, 2, 0] (concatenate S8320x8x128 0 [⟨S8192x8x128, (shapeCast _ (extractStridedSlice S8192x8x1x128 ![0, 0, 1, 0] P slices_S8192x8x2x128_S8192x8x1x128_0_0_1_0) shapeCasts_S8192x8x1x128_S8192x8x128)⟩, ⟨S128x8x128, (shapeCast _ (extractStridedSlice S128x8x1x128 ![0, 0, 1, 0] S slices_S128x8x2x128_S128x8x1x128_0_0_1_0) shapeCasts_S128x8x1x128_S128x8x128)⟩] concatenates_S8192x8x128_S128x8x128_S8320x8x128_d0) transposes_S8320x8x128_S8x128x8320_1_2_0 : FVec Ideal S8x128x8320 .f32)
      (ix3 h k ⟨N.val, by omega⟩) = P (ix4 N h 1 k) := by
  pointwise

/-- the scores of half 0 -/
theorem ref2 : (transpose S8x128x8320 [1, 2, 0] (concatenate S8320x8x128 0 [⟨S8192x8x128, (shapeCast _ (extractStridedSlice S8192x8x1x128 ![0, 0, 0, 0] (pS a7 a8 (pU a4 a5 (pX a0 a1 a3 a5))) slices_S8192x8x2x128_S8192x8x1x128_0_0_0_0) shapeCasts_S8192x8x1x128_S8192x8x128)⟩, ⟨S128x8x128, (shapeCast _ (extractStridedSlice S128x8x1x128 ![0, 0, 0, 0] (sS a7 a8 (sU a4 a6 (sX a0 a2 a3 a6))) slices_S128x8x2x128_S128x8x1x128_0_0_0_0) shapeCasts_S128x8x1x128_S128x8x128)⟩] concatenates_S8192x8x128_S128x8x128_S8320x8x128_d0) transposes_S8320x8x128_S8x128x8320_1_2_0 : FVec Ideal S8x128x8320 .f32) = Sc a0 a1 a2 a3 a4 a5 a6 a7 a8 0 := by
  generalize hp : pS a7 a8 (pU a4 a5 (pX a0 a1 a3 a5)) = P
  generalize hs : sS a7 a8 (sU a4 a6 (sX a0 a2 a3 a6)) = S
  funext y
  obtain ⟨h, k, n, rfl⟩ : ∃ (h : Fin 8) (k : Fin 128) (n : Fin 8320), y = ix3 h k n := ⟨y 0, y 1, y 2, by funext d; fin_cases d <;> rfl⟩
  rw [Sc_at]
  rcases row_cases n with ⟨b, l, rfl⟩ | ⟨s, rfl⟩
  · rw [← pSX_at, hp]; clear hp hs
    exact cat0 P S ⟨b.val * 2048 + l.val, by omega⟩ h k
  · rw [← sSX_at a0 a1, hs]; clear hp hs
    pointwise

/-- the scores of half 1 -/
theorem ref3 : (transpose S8x128x8320 [1, 2, 0] (concatenate S8320x8x128 0 [⟨S8192x8x128, (shapeCast _ (extractStridedSlice S8192x8x1x128 ![0, 0, 1, 0] (pS a7 a8 (pU a4 a5 (pX a0 a1 a3 a5))) slices_S8192x8x2x128_S8192x8x1x128_0_0_1_0) shapeCasts_S8192x8x1x128_S8192x8x128)⟩, ⟨S128x8x128, (shapeCast _ (extractStridedSlice S128x8x1x128 ![0, 0, 1, 0] (sS a7 a8 (sU a4 a6 (sX a0 a2 a3 a6))) slices_S128x8x2x128_S128x8x1x128_0_0_1_0) shapeCasts_S128x8x1x128_S128x8x128)⟩] concatenates_S8192x8x128_S128x8x128_S8320x8x128_d0) transposes_S8320x8x128_S8x128x8320_1_2_0 : FVec Ideal S8x128x8320 .f32) = Sc a0 a1 a2 a3 a4 a5 a6 a7 a8 1 := by
  generalize hp : pS a7 a8 (pU a4 a5 (pX a0 a1 a3 a5)) = P
  generalize hs : sS a7 a8 (sU a4 a6 (sX a0 a2 a3 a6)) = S
  funext y
  obtain ⟨h, k, n, rfl⟩ : ∃ (h : Fin 8) (k : Fin 128) (n : Fin 8320), y = ix3 h k n := ⟨y 0, y 1, y 2, by funext d; fin_cases d <;> rfl⟩
  rw [Sc_at]
  rcases row_cases n with ⟨b, l, rfl⟩ | ⟨s, rfl⟩
  · rw [← pSX_at, hp]; clear hp hs
    exact cat1 P S ⟨b.val * 2048 + l.val, by omega⟩ h k
  · rw [← sSX_at a0 a1, hs]; clear hp hs
    pointwise

end

end Cert.Reference8Ideal.Scores

end
-- ==== Proof.Scores.lean ====
module

public import proofs.«01_k».proof.Proof.Gen.Kernel8Ideal.Value
public import proofs.«01_k».proof.Proof.ScoresRef
public import Idealize.ShloMosaic.Lib.Pointwise
public import Idealize.ShloMosaic.Lib.Pipeline.ValueKit
public import Idealize.ShloMosaic.Lib.Pipeline.ReadBack
public import proofs.«01_k».proof.Defs

/-! The kernel of the scores: a grid point handles 128 rows, the prompt's at the first 64 points and the samples' at
the last; each of its four blocks is the rows' own residual, second norm and scores. -/

@[expose] public section

set_option maxRecDepth 16384

noncomputable section

namespace Cert.Kernel8Ideal.Scores

open Cert.Kernel8Ideal Cert.Kernel8Ideal.Gen Idealize.ShloMosaic Idealize.ShloMosaic.TcCoe Idealize.ShloMosaic.Tactic
open Idealize.SL.Sem
open Idealize.ShloMosaic (ix1 ix2 ix3 ix4)
open Cert.Reference8Ideal.Scores (rowX rowU rowS nrm inp md x1 u2 X1 U2 Sc X1_at U2_at Sc_at)

/-! ### One grid point's arithmetic, on any blocks -/

section

variable (v0 : FVec Ideal S128x4096 .bf16) (v1 : FVec Ideal S128x4096 .f32) (v3 v4 : FVec Ideal S1x4096 .f32)
  (p5 p6 p7 : FVec Ideal S1x1x4096 .f32) (s8 s9 s10 : FVec Ideal S128x4096 .f32)

/-- a prompt block's residual -/
theorem xA_at (r : Fin 128) (j : Fin 4096) : k0_pay6 (F := Ideal) v1 p5 v0 v3 (ix2 r j)
    = rowX (fun k => v1 (ix2 r k)) (fun k => p5 (ix3 0 0 k)) (fun k => v0 (ix2 r k)) (fun k => v3 (ix2 0 k)) j := by
  unfold k0_pay6 rowX nrm
  pointwise

/-- a sample block's residual -/
theorem xB_at (r : Fin 128) (j : Fin 4096) : k0_pay9 (F := Ideal) v1 s8 v0 v3 (ix2 r j)
    = rowX (fun k => v1 (ix2 r k)) (fun k => s8 (ix2 r k)) (fun k => v0 (ix2 r k)) (fun k => v3 (ix2 0 k)) j := by
  unfold k0_pay9 rowX nrm
  pointwise

/-- a prompt block's second norm -/
def uA : FVec Ideal S128x4096 .bf16 :=
  k0_pay11 (k0_pay4 p6) (k0_pay5 p7) (k0_pay6 v1 p5 v0 v3) (k0_pay7 v4) (k0_pay8 v1 p5 v0 v3)
    (FloatOps.ofBits FTy.f32 897988541#32)

theorem uA_at (r : Fin 128) (j : Fin 4096) : uA v0 v1 v3 v4 p5 p6 p7 (ix2 r j)
    = rowU (fun k => k0_pay6 (F := Ideal) v1 p5 v0 v3 (ix2 r k)) (fun k => v4 (ix2 0 k)) (fun k => p6 (ix3 0 0 k))
      (fun k => p7 (ix3 0 0 k)) j := by
  unfold uA k0_pay8 rowU nrm
  generalize k0_pay6 (F := Ideal) v1 p5 v0 v3 = X
  unfold k0_pay11 k0_pay4 k0_pay5 k0_pay7
  pointwise

/-- a sample block's second norm -/
def uB : FVec Ideal S128x4096 .bf16 := k0_pay12 s9 s10 (k0_pay10 v1 s8 v0 v3 v4)

theorem uB_at (r : Fin 128) (j : Fin 4096) : uB v0 v1 v3 v4 s8 s9 s10 (ix2 r j)
    = rowU (fun k => k0_pay9 (F := Ideal) v1 s8 v0 v3 (ix2 r k)) (fun k => v4 (ix2 0 k)) (fun k => s9 (ix2 r k))
      (fun k => s10 (ix2 r k)) j := by
  unfold uB k0_pay10 rowU nrm
  generalize k0_pay9 (F := Ideal) v1 s8 v0 v3 = X
  unfold k0_pay12
  pointwise

end

/-- a head's scores against one half of its keys: the queries' 128 lanes from `o` on -/
def hS (o : ℕ) (hs : S128x2048.Slices ![0, o] S128x128) (q : FVec Ideal S128x2048 .bf16)
    (v : FVec Ideal S1x1x128x128 .bf16) : FVec Ideal S1x128x128 .f32 :=
  shapeCast S1x128x128 (matmul dot_S128x128_S128x128_S128x128_1_1_0_0_n_n none
    (shapeCast S128x128 v shapeCasts_S1x1x128x128_S128x128) (extractStridedSlice S128x128 ![0, o] q hs)
    (constant S128x128 .f32 0x00000000#32)) shapeCasts_S128x128_S1x128x128

/-- the key block of head `h`, half `p` -/
def keys (K : Vec Ideal S8x2x128x128 .bf16) (h : Fin 8) (p : Fin 2) : Vec Ideal S1x1x128x128 .bf16 :=
  fun i => K (ix4 h p (i 2) (i 3))

theorem ld_keys (n p : ℕ) (hn : n < 8) (hp : p < 2) (K : Vec Ideal S8x2x128x128 .bf16)
    (h : ∀ i, (![n, p, 0, 0] : Fin 4 → ℕ) i + S1x1x128x128.size i ≤ S8x2x128x128.size i) :
    View.ld K (Rect.unit (s := S8x2x128x128) ![n, p, 0, 0] S1x1x128x128.size h) = keys K ⟨n, hn⟩ ⟨p, hp⟩ := by
  funext x
  have h0 : (x 0).val = 0 := Nat.lt_one_iff.mp (x 0).isLt
  have h1 : (x 1).val = 0 := Nat.lt_one_iff.mp (x 1).isLt
  rw [View.ld_apply]
  refine congrArg K (funext fun a => Fin.ext ?_)
  fin_cases a
  · show n + 1 * (x 0).val = n
    omega
  · show p + 1 * (x 1).val = p
    omega
  · show 0 + 1 * (x 2).val = (x 2).val
    omega
  · show 0 + 1 * (x 3).val = (x 3).val
    omega

theorem hS_at (o : ℕ) (ho : o + 128 ≤ 2048) (hs : S128x2048.Slices ![0, o] S128x128) (q : FVec Ideal S128x2048 .bf16)
    (v : FVec Ideal S1x1x128x128 .bf16) (n r : Fin 128) : hS o hs q v (ix3 0 n r)
      = ∑ d : Fin 128, v (ix4 0 0 n d) * q (ix2 r ⟨o + d.val, by omega⟩) := by
  unfold hS
  pointwise

/-- the queries of a block -/
theorem q_at (u : FVec Ideal S128x4096 .bf16) (w : FVec Ideal S4096x2048 .bf16) (r : Fin 128) (l : Fin 2048) :
    k0_pay13 u w (ix2 r l) = ∑ k : Fin 4096, u (ix2 r k) * w (ix2 k l) := by
  unfold k0_pay13
  pointwise

/-- a block of scores -/
def blkS (p : Fin 2) (u : FVec Ideal S128x4096 .bf16) (w : FVec Ideal S4096x2048 .bf16) (K : FVec Ideal S8x2x128x128 .bf16) :
    FVec Ideal S8x128x128 .f32 := fun y => rowS (fun k => u (ix2 (y 2) k)) w K (y 0) p (y 1)

/-- a stored head's slab is the block of scores there -/
theorem piece (p n : ℕ) (hp : p < 2) (hn : n < 8) (u : FVec Ideal S128x4096 .bf16) (w : FVec Ideal S4096x2048 .bf16)
    (K : FVec Ideal S8x2x128x128 .bf16) (x : S1x128x128.Idx) (y : S8x128x128.Idx)
    (h0 : (y 0).val = n + (x 0).val) (h1 : (y 1).val = (x 1).val) (h2 : (y 2).val = (x 2).val)
    (P : FVec Ideal S1x128x128 .f32) (hs : S128x2048.Slices ![0, n * 256 + p * 128] S128x128)
    (hP : P = hS (n * 256 + p * 128) hs (k0_pay13 u w) (keys K ⟨n, hn⟩ ⟨p, hp⟩)) : P x = blkS ⟨p, hp⟩ u w K y := by
  have hx : (x 0).val = 0 := Nat.lt_one_iff.mp (x 0).isLt
  have hy : y 0 = (⟨n, hn⟩ : Fin 8) := Fin.ext (by rw [h0, hx]; rfl)
  have hxx : x = ix3 0 (y 1) (y 2) := by
    funext a; apply Fin.ext; fin_cases a
    · exact hx
    · exact h1.symm
    · exact h2.symm
  unfold blkS rowS
  rw [hP, hxx, hy]
  refine (hS_at _ (by omega) hs _ _ (y 1) (y 2)).trans (Finset.sum_congr rfl fun d _ => congrArg₂ (· * ·) rfl ?_)
  exact q_at u w (y 2) _

/-! ### The blocks a grid point reads and writes -/

theorem e0 : ∀ t : Fin cfg0.N, win0_0.index t = ![t.val, 0] := (by decide +kernel : ∀ t : Fin grid0.N, win0_0.index t = ![t.val, 0])
theorem e1 : ∀ t : Fin cfg0.N, win0_1.index t = ![min t.val 63, 0] := (by decide +kernel : ∀ t : Fin grid0.N, win0_1.index t = ![min t.val 63, 0])
theorem e2 : ∀ t : Fin cfg0.N, win0_2.index t = ![0, 0] := (by decide +kernel : ∀ t : Fin grid0.N, win0_2.index t = ![0, 0])
theorem e3 : ∀ t : Fin cfg0.N, win0_3.index t = ![0, 0] := (by decide +kernel : ∀ t : Fin grid0.N, win0_3.index t = ![0, 0])
theorem e4 : ∀ t : Fin cfg0.N, win0_4.index t = ![0, 0] := (by decide +kernel : ∀ t : Fin grid0.N, win0_4.index t = ![0, 0])
theorem e5 : ∀ t : Fin cfg0.N, win0_5.index t = ![min t.val 63 / 16, 0, 2] := (by decide +kernel : ∀ t : Fin grid0.N, win0_5.index t = ![min t.val 63 / 16, 0, 2])
theorem e6 : ∀ t : Fin cfg0.N, win0_6.index t = ![min t.val 63 / 16, 0, 4] := (by decide +kernel : ∀ t : Fin grid0.N, win0_6.index t = ![min t.val 63 / 16, 0, 4])
theorem e7 : ∀ t : Fin cfg0.N, win0_7.index t = ![min t.val 63 / 16, 0, 3] := (by decide +kernel : ∀ t : Fin grid0.N, win0_7.index t = ![min t.val 63 / 16, 0, 3])
theorem e8 : ∀ t : Fin cfg0.N, win0_8.index t = ![0, 2] := (by decide +kernel : ∀ t : Fin grid0.N, win0_8.index t = ![0, 2])
theorem e9 : ∀ t : Fin cfg0.N, win0_9.index t = ![0, 4] := (by decide +kernel : ∀ t : Fin grid0.N, win0_9.index t = ![0, 4])
theorem e10 : ∀ t : Fin cfg0.N, win0_10.index t = ![0, 3] := (by decide +kernel : ∀ t : Fin grid0.N, win0_10.index t = ![0, 3])
theorem e11 : ∀ t : Fin cfg0.N, win0_11.index t = ![0, 0] := (by decide +kernel : ∀ t : Fin grid0.N, win0_11.index t = ![0, 0])
theorem e12 : ∀ t : Fin cfg0.N, win0_12.index t = ![0, 0, 0, 0] := (by decide +kernel : ∀ t : Fin grid0.N, win0_12.index t = ![0, 0, 0, 0])
theorem e13 : ∀ t : Fin cfg0.N, win0_13.index t = ![t.val, 0] := (by decide +kernel : ∀ t : Fin grid0.N, win0_13.index t = ![t.val, 0])
theorem e14 : ∀ t : Fin cfg0.N, win0_14.index t = ![t.val, 0] := (by decide +kernel : ∀ t : Fin grid0.N, win0_14.index t = ![t.val, 0])
theorem e15 : ∀ t : Fin cfg0.N, win0_15.index t = ![0, 0, t.val] := (by decide +kernel : ∀ t : Fin grid0.N, win0_15.index t = ![0, 0, t.val])
theorem e16 : ∀ t : Fin cfg0.N, win0_16.index t = ![0, 0, t.val] := (by decide +kernel : ∀ t : Fin grid0.N, win0_16.index t = ![0, 0, t.val])

variable (m : (ℓ : Loc nD τ sig) → Buf (Elt Ideal) ℓ) (c : Dev nD)

abbrev A0 : FVec Ideal S8320x4096 .bf16 := m ((c : Thread nD τ).loc main_arg0)
abbrev A1 : FVec Ideal S8192x4096 .f32 := m ((c : Thread nD τ).loc main_arg1)
abbrev A2 : FVec Ideal S128x4096 .f32 := m ((c : Thread nD τ).loc main_arg2)
abbrev A3 : FVec Ideal S4096 .f32 := m ((c : Thread nD τ).loc main_arg3)
abbrev A4 : FVec Ideal S4096 .f32 := m ((c : Thread nD τ).loc main_arg4)
abbrev A5 : FVec Ideal S16x24576 .f32 := m ((c : Thread nD τ).loc main_arg5)
abbrev A6 : FVec Ideal S128x24576 .f32 := m ((c : Thread nD τ).loc main_arg6)
abbrev A7 : FVec Ideal S4096x2048 .bf16 := m ((c : Thread nD τ).loc main_arg7)
abbrev A8 : FVec Ideal S8x2x128x128 .f32 := m ((c : Thread nD τ).loc main_arg8)

/-- the host lays the two scales out as rows and the prompts' modulation as one row each, and casts the keys -/
theorem V_v0 : V m c main_v0 = shapeCast S1x4096 (A3 m c) shapeCasts_S4096_S1x4096 := by
  show StableHlo.after hostOps0 (fun b => m (c, b)) main_v0 = _
  simp only [hostOps0]
  after_results
  rfl
theorem V_v1 : V m c main_v1 = shapeCast S1x4096 (A4 m c) shapeCasts_S4096_S1x4096 := by
  show StableHlo.after hostOps0 (fun b => m (c, b)) main_v1 = _
  simp only [hostOps0]
  after_results
  rfl
theorem V_v2 : V m c main_v2 = shapeCast S16x1x24576 (A5 m c) shapeCasts_S16x24576_S16x1x24576 := by
  show StableHlo.after hostOps0 (fun b => m (c, b)) main_v2 = _
  simp only [hostOps0]
  after_results
  rfl
theorem V_v3 : V m c main_v3 = A8 m c := by
  show StableHlo.after hostOps0 (fun b => m (c, b)) main_v3 = _
  simp only [hostOps0]
  after_results
  rfl

theorem row_at (g : FVec Ideal S4096 .f32) (j : Fin 4096) :
    shapeCast S1x4096 g shapeCasts_S4096_S1x4096 (ix2 0 j) = g (ix1 j) := by
  pointwise
theorem mod_at (g : FVec Ideal S16x24576 .f32) (b : Fin 16) (j : Fin 24576) :
    shapeCast S16x1x24576 g shapeCasts_S16x24576_S16x1x24576 (ix3 b 0 j) = g (ix2 b j) := by
  pointwise

section

def B0 (t : Fin cfg0.N) : FVec Ideal S128x4096 .bf16 := iblk m c 0 t
def B1 (t : Fin cfg0.N) : FVec Ideal S128x4096 .f32 := iblk m c 1 t
def B2 (t : Fin cfg0.N) : FVec Ideal S128x4096 .f32 := iblk m c 2 t
def B3 (t : Fin cfg0.N) : FVec Ideal S1x4096 .f32 := iblk m c 3 t
def B4 (t : Fin cfg0.N) : FVec Ideal S1x4096 .f32 := iblk m c 4 t
def B5 (t : Fin cfg0.N) : FVec Ideal S1x1x4096 .f32 := iblk m c 5 t
def B6 (t : Fin cfg0.N) : FVec Ideal S1x1x4096 .f32 := iblk m c 6 t
def B7 (t : Fin cfg0.N) : FVec Ideal S1x1x4096 .f32 := iblk m c 7 t
def B8 (t : Fin cfg0.N) : FVec Ideal S128x4096 .f32 := iblk m c 8 t
def B9 (t : Fin cfg0.N) : FVec Ideal S128x4096 .f32 := iblk m c 9 t
def B10 (t : Fin cfg0.N) : FVec Ideal S128x4096 .f32 := iblk m c 10 t
def B11 (t : Fin cfg0.N) : FVec Ideal S4096x2048 .bf16 := iblk m c 11 t
def B12 (t : Fin cfg0.N) : FVec Ideal S8x2x128x128 .bf16 := iblk m c 12 t

/-- a row of a grid point, among all rows -/
abbrev rw_ (t : Fin cfg0.N) (r : Fin 128) : Fin 8320 := ⟨128 * t.val + r.val, by have ht : t.val < 65 := t.isLt; omega⟩

variable (t : Fin cfg0.N) (r : Fin 128) (k : Fin 4096)

theorem b0_at : B0 m c t (ix2 r k) = A0 m c (ix2 (rw_ t r) k) := by
  unfold B0
  blk_simp [iblk]
  rw [V_main_arg0]
  refine congrArg (A0 m c) ?_
  blk_ext [e0]

theorem b1_at (ht : t.val < 64) : B1 m c t (ix2 r k) = inp (A1 m c) (A2 m c) (rw_ t r) k := by
  refine Eq.trans ?_ (dif_pos (by dsimp only; omega)).symm
  unfold B1
  blk_simp [iblk]
  rw [V_main_arg1]
  refine congrArg (A1 m c) ?_
  blk_ext [e1]
  all_goals omega

theorem b2_at (ht : t.val = 64) : B2 m c t (ix2 r k) = inp (A1 m c) (A2 m c) (rw_ t r) k := by
  refine Eq.trans ?_ (dif_neg (by dsimp only; omega)).symm
  unfold B2
  blk_simp [iblk]
  rw [V_main_arg2]
  refine congrArg (A2 m c) ?_
  blk_ext [e2]
  all_goals omega

theorem b3_at : B3 m c t (ix2 0 k) = A3 m c (ix1 k) := by
  unfold B3
  blk_simp [iblk]
  rw [V_v0]
  refine Eq.trans (congrArg _ (?_ : _ = ix2 0 k)) (row_at _ k)
  blk_ext [e3]

theorem b4_at : B4 m c t (ix2 0 k) = A4 m c (ix1 k) := by
  unfold B4
  blk_simp [iblk]
  rw [V_v1]
  refine Eq.trans (congrArg _ (?_ : _ = ix2 0 k)) (row_at _ k)
  blk_ext [e4]

theorem b5_at (ht : t.val < 64) : B5 m c t (ix3 0 0 k) = md (A5 m c) (A6 m c) 2 (rw_ t r) k := by
  refine Eq.trans ?_ (dif_pos (by dsimp only; omega)).symm
  unfold B5
  blk_simp [iblk]
  rw [V_v2]
  refine Eq.trans (congrArg _ (?_ : _ = ix3 ⟨(128 * t.val + r.val) / 2048, by omega⟩ 0 ⟨4096 * 2 + k.val, by omega⟩)) (mod_at _ _ _)
  blk_ext [e5]
  all_goals omega

theorem b6_at (ht : t.val < 64) : B6 m c t (ix3 0 0 k) = md (A5 m c) (A6 m c) 4 (rw_ t r) k := by
  refine Eq.trans ?_ (dif_pos (by dsimp only; omega)).symm
  unfold B6
  blk_simp [iblk]
  rw [V_v2]
  refine Eq.trans (congrArg _ (?_ : _ = ix3 ⟨(128 * t.val + r.val) / 2048, by omega⟩ 0 ⟨4096 * 4 + k.val, by omega⟩)) (mod_at _ _ _)
  blk_ext [e6]
  all_goals omega

theorem b7_at (ht : t.val < 64) : B7 m c t (ix3 0 0 k) = md (A5 m c) (A6 m c) 3 (rw_ t r) k := by
  refine Eq.trans ?_ (dif_pos (by dsimp only; omega)).symm
  unfold B7
  blk_simp [iblk]
  rw [V_v2]
  refine Eq.trans (congrArg _ (?_ : _ = ix3 ⟨(128 * t.val + r.val) / 2048, by omega⟩ 0 ⟨4096 * 3 + k.val, by omega⟩)) (mod_at _ _ _)
  blk_ext [e7]
  all_goals omega

theorem b8_at (ht : t.val = 64) : B8 m c t (ix2 r k) = md (A5 m c) (A6 m c) 2 (rw_ t r) k := by
  refine Eq.trans ?_ (dif_neg (by dsimp only; omega)).symm
  unfold B8
  blk_simp [iblk]
  rw [V_main_arg6]
  refine congrArg (A6 m c) ?_
  blk_ext [e8]
  all_goals first | omega | (dsimp only; omega)

theorem b9_at (ht : t.val = 64) : B9 m c t (ix2 r k) = md (A5 m c) (A6 m c) 4 (rw_ t r) k := by
  refine Eq.trans ?_ (dif_neg (by dsimp only; omega)).symm
  unfold B9
  blk_simp [iblk]
  rw [V_main_arg6]
  refine congrArg (A6 m c) ?_
  blk_ext [e9]
  all_goals first | omega | (dsimp only; omega)

theorem b10_at (ht : t.val = 64) : B10 m c t (ix2 r k) = md (A5 m c) (A6 m c) 3 (rw_ t r) k := by
  refine Eq.trans ?_ (dif_neg (by dsimp only; omega)).symm
  unfold B10
  blk_simp [iblk]
  rw [V_main_arg6]
  refine congrArg (A6 m c) ?_
  blk_ext [e10]
  all_goals first | omega | (dsimp only; omega)

theorem b11_eq : B11 m c t = A7 m c := by
  funext y
  unfold B11
  blk_simp [iblk]
  rw [V_main_arg7]
  refine congrArg (A7 m c) ?_
  blk_ext [e11]

theorem b12_eq : B12 m c t = A8 m c := by
  funext y
  unfold B12
  blk_simp [iblk]
  rw [V_v3]
  refine congrArg (A8 m c) ?_
  blk_ext [e12]

/-- the residual of a block's row, at a prompt's point and at the samples' -/
theorem xA (ht : t.val < 64) : k0_pay6 (F := Ideal) (B1 m c t) (B5 m c t) (B0 m c t) (B3 m c t) (ix2 r k)
    = x1 (A0 m c) (A1 m c) (A2 m c) (A3 m c) (A5 m c) (A6 m c) (rw_ t r) k := by
  rw [xA_at]
  unfold x1
  rw [funext fun k => b1_at m c t r k ht, funext fun k => b5_at m c t r k ht, funext fun k => b0_at m c t r k,
    funext fun k => b3_at m c t k]

theorem xB (ht : t.val = 64) : k0_pay9 (F := Ideal) (B2 m c t) (B8 m c t) (B0 m c t) (B3 m c t) (ix2 r k)
    = x1 (A0 m c) (A1 m c) (A2 m c) (A3 m c) (A5 m c) (A6 m c) (rw_ t r) k := by
  rw [xB_at]
  unfold x1
  rw [funext fun k => b2_at m c t r k ht, funext fun k => b8_at m c t r k ht, funext fun k => b0_at m c t r k,
    funext fun k => b3_at m c t k]

/-- its second norm -/
theorem uuA (ht : t.val < 64) : uA (B0 m c t) (B1 m c t) (B3 m c t) (B4 m c t) (B5 m c t) (B6 m c t) (B7 m c t) (ix2 r k)
    = u2 (A0 m c) (A1 m c) (A2 m c) (A3 m c) (A4 m c) (A5 m c) (A6 m c) (rw_ t r) k := by
  rw [uA_at]
  unfold u2
  rw [funext fun k => xA m c t r k ht, funext fun k => b4_at m c t k, funext fun k => b6_at m c t r k ht,
    funext fun k => b7_at m c t r k ht]

theorem uuB (ht : t.val = 64) : uB (B0 m c t) (B2 m c t) (B3 m c t) (B4 m c t) (B8 m c t) (B9 m c t) (B10 m c t) (ix2 r k)
    = u2 (A0 m c) (A1 m c) (A2 m c) (A3 m c) (A4 m c) (A5 m c) (A6 m c) (rw_ t r) k := by
  rw [uB_at]
  unfold u2
  rw [funext fun k => xB m c t r k ht, funext fun k => b4_at m c t k, funext fun k => b9_at m c t r k ht,
    funext fun k => b10_at m c t r k ht]

/-- its scores -/
theorem ssA (ht : t.val < 64) (p : Fin 2) (h : Fin 8) (n : Fin 128) :
    blkS p (uA (B0 m c t) (B1 m c t) (B3 m c t) (B4 m c t) (B5 m c t) (B6 m c t) (B7 m c t)) (B11 m c t) (B12 m c t) (ix3 h n r)
      = Sc (A0 m c) (A1 m c) (A2 m c) (A3 m c) (A4 m c) (A5 m c) (A6 m c) (A7 m c) (A8 m c) p (ix3 h n (rw_ t r)) := by
  rw [Sc_at, b11_eq, b12_eq]
  exact congrArg (fun u => rowS u (A7 m c) (A8 m c) h p n) (funext fun k => uuA m c t r k ht)

theorem ssB (ht : t.val = 64) (p : Fin 2) (h : Fin 8) (n : Fin 128) :
    blkS p (uB (B0 m c t) (B2 m c t) (B3 m c t) (B4 m c t) (B8 m c t) (B9 m c t) (B10 m c t)) (B11 m c t) (B12 m c t) (ix3 h n r)
      = Sc (A0 m c) (A1 m c) (A2 m c) (A3 m c) (A4 m c) (A5 m c) (A6 m c) (A7 m c) (A8 m c) p (ix3 h n (rw_ t r)) := by
  rw [Sc_at, b11_eq, b12_eq]
  exact congrArg (fun u => rowS u (A7 m c) (A8 m c) h p n) (funext fun k => uuB m c t r k ht)

end

/-! ### The four arrays -/

theorem final13 : (dats m 0 c).arrAt 13 cfg0.N = X1 (A0 m c) (A1 m c) (A2 m c) (A3 m c) (A5 m c) (A6 m c) := by
  refine (dats m 0 c).arrAt_eq_of_covers 13 _ (by decide +kernel) fun t hf y => ?_
  obtain ⟨r, j, rfl⟩ : ∃ (r : Fin 128) (j : Fin 4096), y = ix2 r j := ⟨y 0, y 1, by funext a; fin_cases a <;> rfl⟩
  have ht : t.val < 65 := t.isLt
  blk_simp
  rw [after0_13]
  have e : (win0_13.blk t).view.emb (ix2 r j) = (ix2 (rw_ t r) j : S8320x4096.Idx) := by blk_ext [e13]
  rw [e, X1_at]
  by_cases h : t.val < 64
  · rw [outsAt0_A m c t h (by omega)]
    dsimp only
    frame_out
    exact xA m c t r j h
  · rw [outsAt0_B m c t h (by omega)]
    dsimp only
    frame_out
    exact xB m c t r j (by omega)

theorem final14 : (dats m 0 c).arrAt 14 cfg0.N
    = U2 (A0 m c) (A1 m c) (A2 m c) (A3 m c) (A4 m c) (A5 m c) (A6 m c) := by
  refine (dats m 0 c).arrAt_eq_of_covers 14 _ (by decide +kernel) fun t hf y => ?_
  obtain ⟨r, j, rfl⟩ : ∃ (r : Fin 128) (j : Fin 4096), y = ix2 r j := ⟨y 0, y 1, by funext a; fin_cases a <;> rfl⟩
  have ht : t.val < 65 := t.isLt
  blk_simp
  rw [after0_14]
  have e : (win0_14.blk t).view.emb (ix2 r j) = (ix2 (rw_ t r) j : S8320x4096.Idx) := by blk_ext [e14]
  rw [e, U2_at]
  by_cases h : t.val < 64
  · rw [outsAt0_A m c t h (by omega)]
    dsimp only
    frame_out
    exact uuA m c t r j h
  · rw [outsAt0_B m c t h (by omega)]
    dsimp only
    frame_out
    exact uuB m c t r j (by omega)

theorem blk15_A (t : Fin cfg0.N) (h : t.val < 64) (y : S8x128x128.Idx) : (outsAt0 m c t.val t.isLt).2.2.1 y
    = blkS 0 (uA (B0 m c t) (B1 m c t) (B3 m c t) (B4 m c t) (B5 m c t) (B6 m c t) (B7 m c t)) (B11 m c t) (B12 m c t) y := by
  have ht : t.val < 65 := t.isLt
  rw [outsAt0_A m c t h (by omega)]
  dsimp only
  frame_out
  canon_tiles x h
  all_goals
    first
      | refine piece 0 _ (by decide) (by decide) _ _ _ x y h0 h1 h2 _ (by decide) ?_
      | refine piece 0 0 (by decide) (by decide) _ _ _ x y (h0.trans (Nat.zero_add _).symm) h1 h2 _ (by decide) ?_
    rw [ld_keys _ 0 (by decide) (by decide)]
    rfl

theorem blk15_B (t : Fin cfg0.N) (h : ¬t.val < 64) (y : S8x128x128.Idx) : (outsAt0 m c t.val t.isLt).2.2.1 y
    = blkS 0 (uB (B0 m c t) (B2 m c t) (B3 m c t) (B4 m c t) (B8 m c t) (B9 m c t) (B10 m c t)) (B11 m c t) (B12 m c t) y := by
  have ht : t.val < 65 := t.isLt
  rw [outsAt0_B m c t h (by omega)]
  dsimp only
  frame_out
  canon_tiles x h
  all_goals
    first
      | refine piece 0 _ (by decide) (by decide) _ _ _ x y h0 h1 h2 _ (by decide) ?_
      | refine piece 0 0 (by decide) (by decide) _ _ _ x y (h0.trans (Nat.zero_add _).symm) h1 h2 _ (by decide) ?_
    rw [ld_keys _ 0 (by decide) (by decide)]
    rfl

theorem final15 : (dats m 0 c).arrAt 15 cfg0.N
    = Sc (A0 m c) (A1 m c) (A2 m c) (A3 m c) (A4 m c) (A5 m c) (A6 m c) (A7 m c) (A8 m c) 0 := by
  refine (dats m 0 c).arrAt_eq_of_covers 15 _ (by decide +kernel) fun t hf y => ?_
  obtain ⟨h, n, r, rfl⟩ : ∃ (h : Fin 8) (n r : Fin 128), y = ix3 h n r := ⟨y 0, y 1, y 2, by funext a; fin_cases a <;> rfl⟩
  have ht : t.val < 65 := t.isLt
  blk_simp
  rw [after0_15]
  have e : (win0_15.blk t).view.emb (ix3 h n r) = (ix3 h n (rw_ t r) : S8x128x8320.Idx) := by blk_ext [e15]
  rw [e]
  by_cases hc : t.val < 64
  · exact (blk15_A m c t hc _).trans (ssA m c t r hc 0 h n)
  · exact (blk15_B m c t hc _).trans (ssB m c t r (by omega) 0 h n)

theorem blk16_A (t : Fin cfg0.N) (h : t.val < 64) (y : S8x128x128.Idx) : (outsAt0 m c t.val t.isLt).2.2.2 y
    = blkS 1 (uA (B0 m c t) (B1 m c t) (B3 m c t) (B4 m c t) (B5 m c t) (B6 m c t) (B7 m c t)) (B11 m c t) (B12 m c t) y := by
  have ht : t.val < 65 := t.isLt
  rw [outsAt0_A m c t h (by omega)]
  dsimp only
  frame_out
  canon_tiles x h
  all_goals
    first
      | refine piece 1 _ (by decide) (by decide) _ _ _ x y h0 h1 h2 _ (by decide) ?_
      | refine piece 1 0 (by decide) (by decide) _ _ _ x y (h0.trans (Nat.zero_add _).symm) h1 h2 _ (by decide) ?_
    rw [ld_keys _ 1 (by decide) (by decide)]
    rfl

theorem blk16_B (t : Fin cfg0.N) (h : ¬t.val < 64) (y : S8x128x128.Idx) : (outsAt0 m c t.val t.isLt).2.2.2 y
    = blkS 1 (uB (B0 m c t) (B2 m c t) (B3 m c t) (B4 m c t) (B8 m c t) (B9 m c t) (B10 m c t)) (B11 m c t) (B12 m c t) y := by
  have ht : t.val < 65 := t.isLt
  rw [outsAt0_B m c t h (by omega)]
  dsimp only
  frame_out
  canon_tiles x h
  all_goals
    first
      | refine piece 1 _ (by decide) (by decide) _ _ _ x y h0 h1 h2 _ (by decide) ?_
      | refine piece 1 0 (by decide) (by decide) _ _ _ x y (h0.trans (Nat.zero_add _).symm) h1 h2 _ (by decide) ?_
    rw [ld_keys _ 1 (by decide) (by decide)]
    rfl

theorem final16 : (dats m 0 c).arrAt 16 cfg0.N
    = Sc (A0 m c) (A1 m c) (A2 m c) (A3 m c) (A4 m c) (A5 m c) (A6 m c) (A7 m c) (A8 m c) 1 := by
  refine (dats m 0 c).arrAt_eq_of_covers 16 _ (by decide +kernel) fun t hf y => ?_
  obtain ⟨h, n, r, rfl⟩ : ∃ (h : Fin 8) (n r : Fin 128), y = ix3 h n r := ⟨y 0, y 1, y 2, by funext a; fin_cases a <;> rfl⟩
  have ht : t.val < 65 := t.isLt
  blk_simp
  rw [after0_16]
  have e : (win0_16.blk t).view.emb (ix3 h n r) = (ix3 h n (rw_ t r) : S8x128x8320.Idx) := by blk_ext [e16]
  rw [e]
  by_cases hc : t.val < 64
  · exact (blk16_A m c t hc _).trans (ssA m c t r hc 1 h n)
  · exact (blk16_B m c t hc _).trans (ssB m c t r (by omega) 1 h n)

/-- the residual, the second norm and the two halves of the scores are the reference's -/
theorem algebraic : Cert.algebraic_Kernel8Ideal_Reference8Ideal
    (hKernel8Ideal := Cert.Kernel8Ideal.Gen.facts) (hReference8Ideal := Cert.Reference8Ideal.Gen.facts) := by
  intro m g m' g' _ ha
  refine ⟨fun c => X1 (A0 m c) (A1 m c) (A2 m c) (A3 m c) (A5 m c) (A6 m c),
    fun c => U2 (A0 m c) (A1 m c) (A2 m c) (A3 m c) (A4 m c) (A5 m c) (A6 m c),
    fun c => Sc (A0 m c) (A1 m c) (A2 m c) (A3 m c) (A4 m c) (A5 m c) (A6 m c) (A7 m c) (A8 m c) 0,
    fun c => Sc (A0 m c) (A1 m c) (A2 m c) (A3 m c) (A4 m c) (A5 m c) (A6 m c) (A7 m c) (A8 m c) 1, ?_, ?_⟩
  · refine (θ_run _ _ _).mono (fun r h c => ?_) (Value.run_blocks m g)
    obtain ⟨h0, h1, h2, h3, hk⟩ := h c
    exact ⟨h0.trans (final13 m c), h1.trans (final14 m c), h2.trans (final15 m c), h3.trans (final16 m c), hk⟩
  · refine (θ_run _ _ _).mono (fun r h c => ?_) (Cert.Reference8Ideal.Value.run m' g')
    obtain ⟨h0, h1, h2, h3, hk⟩ := h c
    obtain ⟨a0, a1, a2, a3, a4, a5, a6, a7, a8⟩ := ha c
    refine ⟨h0.trans ?_, h1.trans ?_, h2.trans ?_, h3.trans ?_, hk⟩
    · rw [a0, a1, a2, a3, a5, a6]
      exact Cert.Reference8Ideal.Scores.ref0 _ _ _ _ _ _
    · unfold Cert.Reference8Ideal.Value.res_main_v113
      rw [a0, a1, a2, a3, a4, a5, a6]
      exact Cert.Reference8Ideal.Scores.ref1 _ _ _ _ _ _ _
    · unfold Cert.Reference8Ideal.Value.res_main_v115
      rw [a0, a1, a2, a3, a4, a5, a6, a7, a8]
      exact Cert.Reference8Ideal.Scores.ref2 _ _ _ _ _ _ _ _ _
    · unfold Cert.Reference8Ideal.Value.res_main_v117
      rw [a0, a1, a2, a3, a4, a5, a6, a7, a8]
      exact Cert.Reference8Ideal.Scores.ref3 _ _ _ _ _ _ _ _ _

end Cert.Kernel8Ideal.Scores

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Value
public import proofs.«01_k».proof.Proof.Gen.Reference8Ideal
public import proofs.«01_k».proof.Proof.Gen.Reference8Ideal.Run
public import proofs.«01_k».proof.Proof.HgrnPrompt
public import proofs.«01_k».proof.Proof.InProj
public import proofs.«01_k».proof.Proof.HgrnSample
public import proofs.«01_k».proof.Proof.ConvPrompt
public import proofs.«01_k».proof.Proof.ConvSample
public import proofs.«01_k».proof.Proof.OutProj
public import proofs.«01_k».proof.Proof.Modulation
public import proofs.«01_k».proof.Proof.Scores
public import proofs.«01_k».proof.Proof.Finite
public import proofs.«01_k».proof.Proof.Bounds
public import Idealize.ShloMosaic.Adequacy
public import Idealize.ShloMosaic.Init

@[expose] public section

noncomputable section

namespace Cert.Proof

open Idealize.ShloMosaic Idealize.SL.Sem

/-- reference 1 ends with its arguments as launched; it declares no semaphore -/
theorem frame_ref1 : Cert.quiescent_ReferenceIdeal (hReferenceIdeal := Cert.ReferenceIdeal.Gen.facts) := fun m ρ _ =>
  (θ_run Cert.ReferenceIdeal.defs _ _).mono (fun r h => ⟨fun c => (h c).2.2,
      sem_eq_zero_of_no_sems (by decide) r.2⟩) (Cert.ReferenceIdeal.Value.run m ρ)

/-- reference 2 ends with its arguments as launched; it declares no semaphore -/
theorem frame_ref2 : Cert.quiescent_Reference2Ideal (hReference2Ideal := Cert.Reference2Ideal.Gen.facts) := fun m ρ _ =>
  (θ_run Cert.Reference2Ideal.defs _ _).mono (fun r h => ⟨fun c => (h c).2.2.2.2.2.2.2,
      sem_eq_zero_of_no_sems (by decide) r.2⟩) (Cert.Reference2Ideal.Value.run m ρ)

/-- reference 3 ends with its arguments as launched; it declares no semaphore -/
theorem frame_ref3 : Cert.quiescent_Reference3Ideal (hReference3Ideal := Cert.Reference3Ideal.Gen.facts) := fun m ρ _ =>
  (θ_run Cert.Reference3Ideal.defs _ _).mono (fun r h => ⟨fun c => (h c).2.2,
      sem_eq_zero_of_no_sems (by decide) r.2⟩) (Cert.Reference3Ideal.Value.run m ρ)

/-- reference 4 ends with its arguments as launched; it declares no semaphore -/
theorem frame_ref4 : Cert.quiescent_Reference4Ideal (hReference4Ideal := Cert.Reference4Ideal.Gen.facts) := fun m ρ _ =>
  (θ_run Cert.Reference4Ideal.defs _ _).mono (fun r h => ⟨fun c => (h c).2.2,
      sem_eq_zero_of_no_sems (by decide) r.2⟩) (Cert.Reference4Ideal.Value.run m ρ)

/-- reference 5 ends with its arguments as launched; it declares no semaphore -/
theorem frame_ref5 : Cert.quiescent_Reference5Ideal (hReference5Ideal := Cert.Reference5Ideal.Gen.facts) := fun m ρ _ =>
  (θ_run Cert.Reference5Ideal.defs _ _).mono (fun r h => ⟨fun c => (h c).2.2,
      sem_eq_zero_of_no_sems (by decide) r.2⟩) (Cert.Reference5Ideal.Value.run m ρ)

/-- reference 6 ends with its arguments as launched; it declares no semaphore -/
theorem frame_ref6 : Cert.quiescent_Reference6Ideal (hReference6Ideal := Cert.Reference6Ideal.Gen.facts) := fun m ρ _ =>
  (θ_run Cert.Reference6Ideal.defs _ _).mono (fun r h => ⟨fun c => (h c).2,
      sem_eq_zero_of_no_sems (by decide) r.2⟩) (Cert.Reference6Ideal.Value.run m ρ)

/-- reference 7 ends with its arguments as launched; it declares no semaphore -/
theorem frame_ref7 : Cert.quiescent_Reference7Ideal (hReference7Ideal := Cert.Reference7Ideal.Gen.facts) := fun m ρ _ =>
  (θ_run Cert.Reference7Ideal.defs _ _).mono (fun r h => ⟨fun c => (h c).2.2,
      sem_eq_zero_of_no_sems (by decide) r.2⟩) (Cert.Reference7Ideal.Value.run m ρ)

/-- reference 8 ends with its arguments as launched; it declares no semaphore -/
theorem frame_ref8 : Cert.quiescent_Reference8Ideal (hReference8Ideal := Cert.Reference8Ideal.Gen.facts) := fun m ρ _ =>
  (θ_run Cert.Reference8Ideal.defs _ _).mono (fun r h => ⟨fun c => (h c).2.2.2.2,
      sem_eq_zero_of_no_sems (by decide) r.2⟩) (Cert.Reference8Ideal.Value.run m ρ)

/-- every claim of Defs.lean -/
theorem claim : Cert.Claim := by
  refine ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Pre_inputs_finite.facts, Cert.Pre_bounds_finite.facts, ?_⟩
  exact ⟨fun m ρ _ => Cert.Kernel.Gen.frame m ρ,
    fun m ρ _ => Cert.KernelIdeal.Gen.frame m ρ,
    fun m ρ _ => Cert.KernelIdeal.Gen.frame m ρ,
    frame_ref1,
    fun m ρ _ => frame_ref1 m ρ trivial,
    fun m ρ _ => Cert.Kernel2.Gen.frame m ρ,
    fun m ρ _ => Cert.Kernel2Ideal.Gen.frame m ρ,
    frame_ref2,
    fun m ρ _ => Cert.Kernel3.Gen.frame m ρ,
    fun m ρ _ => Cert.Kernel3Ideal.Gen.frame m ρ,
    fun m ρ _ => Cert.Kernel3Ideal.Gen.frame m ρ,
    frame_ref3,
    fun m ρ _ => frame_ref3 m ρ trivial,
    fun m ρ _ => Cert.Kernel4.Gen.frame m ρ,
    fun m ρ _ => Cert.Kernel4Ideal.Gen.frame m ρ,
    frame_ref4,
    fun m ρ _ => Cert.Kernel5.Gen.frame m ρ,
    fun m ρ _ => Cert.Kernel5Ideal.Gen.frame m ρ,
    frame_ref5,
    fun m ρ _ => Cert.Kernel6.Gen.frame m ρ,
    fun m ρ _ => Cert.Kernel6Ideal.Gen.frame m ρ,
    frame_ref6,
    fun m ρ _ => Cert.Kernel7.Gen.frame m ρ,
    fun m ρ _ => Cert.Kernel7Ideal.Gen.frame m ρ,
    frame_ref7,
    fun m ρ _ => Cert.Kernel8.Gen.frame m ρ,
    fun m ρ _ => Cert.Kernel8Ideal.Gen.frame m ρ,
    frame_ref8,
    trivial,
    Cert.KernelIdeal.HgrnPrompt.algebraic,
    trivial,
    Cert.Kernel2Ideal.InProj.algebraic,
    trivial,
    Cert.Kernel3Ideal.HgrnSample.algebraic,
    trivial,
    Cert.Kernel4Ideal.ConvPrompt.algebraic,
    trivial,
    Cert.Kernel5Ideal.ConvSample.algebraic,
    trivial,
    Cert.Kernel6Ideal.OutProj.algebraic,
    trivial,
    Cert.Kernel7Ideal.Modulation.algebraic,
    trivial,
    Cert.Kernel8Ideal.Scores.algebraic⟩

end Cert.Proof

end
